-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S4096x2048 : Shape := ⟨2, ![4096, 2048]⟩
abbrev S9x256x2048 : Shape := ⟨3, ![9, 256, 2048]⟩
abbrev S8x256x2048 : Shape := ⟨3, ![8, 256, 2048]⟩
abbrev S16x256x2048 : Shape := ⟨3, ![16, 256, 2048]⟩
abbrev S16x8x128 : Shape := ⟨3, ![16, 8, 128]⟩
abbrev S8x2 : Shape := ⟨2, ![8, 2]⟩
abbrev S7x2 : Shape := ⟨2, ![7, 2]⟩
abbrev S15 : Shape := ⟨1, ![15]⟩
abbrev S_ : Shape := ⟨0, ![]⟩
abbrev S256x256 : Shape := ⟨2, ![256, 256]⟩
abbrev S1x256x2048 : Shape := ⟨3, ![1, 256, 2048]⟩
abbrev S1x1 : Shape := ⟨2, ![1, 1]⟩
abbrev S1x128x2048 : Shape := ⟨3, ![1, 128, 2048]⟩
abbrev S128x2048 : Shape := ⟨2, ![128, 2048]⟩
abbrev S1 : Shape := ⟨1, ![1]⟩
abbrev S1x1x1 : Shape := ⟨3, ![1, 1, 1]⟩
abbrev S2 : Shape := ⟨1, ![2]⟩
abbrev S1x2 : Shape := ⟨2, ![1, 2]⟩
abbrev S8x128 : Shape := ⟨2, ![8, 128]⟩
abbrev S1x8x128 : Shape := ⟨3, ![1, 8, 128]⟩
abbrev S1x16x8x128 : Shape := ⟨4, ![1, 16, 8, 128]⟩
abbrev S1x1x1x1 : Shape := ⟨4, ![1, 1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x2048, .bf16⟩
  | .local _ .vmem, ⟨0, _⟩ => ⟨S4096x256, .bf16⟩
  | .local _ .vmem, ⟨1, _⟩ => ⟨S256x2048, .bf16⟩
  | .local _ .vmem, ⟨2, _⟩ => ⟨S4096x2048, .bf16⟩
  | .local _ .vmem, ⟨3, _⟩ => ⟨S9x256x2048, .bf16⟩
  | .local _ .vmem, ⟨4, _⟩ => ⟨S8x256x2048, .bf16⟩
  | .local _ .vmem, ⟨5, _⟩ => ⟨S16x256x2048, .i8⟩
  | .local _ .vmem, ⟨6, _⟩ => ⟨S16x8x128, .f32⟩
  | _, _ => ⟨S4096x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 153 → Bool
  | ⟨i, _⟩ => dmaSemScopedAt i

abbrev sig : RefSig :=
  (ofTc nBuf bufTy 1 153 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8 : BitVec 32 := 1#32
  let v11 : BitVec 32 := Scalar.muli v4 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.addi v2 c8_i32
  let c16_i32_10 : BitVec 32 := 16#32
  let v14 : BitVec 32 := Scalar.remsi v13 c16_i32_10
  let c256_i32 : BitVec 32 := 256#32
  let v15 : BitVec 32 := Scalar.muli v14 c256_i32
  let v16 : Index := Scalar.indexCast v15
  let c0 : Index := 0#32
  ![v16.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_16 : BitVec 32 := 8#32
  let v26 : BitVec 32 := Scalar.addi v2 c8_i32_16
  let c1_i32_17 : BitVec 32 := 1#32
  let v27 : BitVec 32 := Scalar.subi v26 c1_i32_17
  let c16_i32_18 : BitVec 32 := 16#32
  let v28 : BitVec 32 := Scalar.remsi v27 c16_i32_18
  let c256_i32_19 : BitVec 32 := 256#32
  let v29 : BitVec 32 := Scalar.muli v28 c256_i32_19
  let v30 : Index := Scalar.indexCast v29
  let c0_20 : Index := 0#32
  ![v30.toNat, 0]
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_33 : BitVec 32 := 1#32
  let v40 : BitVec 32 := Scalar.muli v7 c1_i32_33
  let v41 : BitVec 32 := Scalar.addi c0_i32_34 v40
  v41.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_45 : BitVec 32 := 1#32
  let v50 : BitVec 32 := Scalar.muli v7 c1_i32_45
  let v51 : BitVec 32 := Scalar.addi c0_i32_46 v50
  v51.toNat
def k0_dev5 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_56 : BitVec 32 := 1#32
  let v60 : BitVec 32 := Scalar.muli v4 c1_i32_56
  let v61 : BitVec 32 := Scalar.addi c0_i32_57 v60
  v61.toNat
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_68 : BitVec 32 := 1#32
  let v70 : BitVec 32 := Scalar.muli v4 c1_i32_68
  let v71 : BitVec 32 := Scalar.addi c0_i32_69 v70
  v71.toNat
def k0_off3 (d0 : Dev nD) (c0_i32_76 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_74 : BitVec 32 := 8#32
  let v80 : BitVec 32 := Scalar.addi v2 c8_i32_74
  let c1_i32_75 : BitVec 32 := 1#32
  let v81 : BitVec 32 := Scalar.addi v80 c1_i32_75
  let v82 : BitVec 32 := Scalar.addi v81 c0_i32_76
  let c16_i32_77 : BitVec 32 := 16#32
  let v83 : BitVec 32 := Scalar.remsi v82 c16_i32_77
  let c256_i32_78 : BitVec 32 := 256#32
  let v84 : BitVec 32 := Scalar.muli v83 c256_i32_78
  let v85 : Index := Scalar.indexCast v84
  let c0_79 : Index := 0#32
  ![v85.toNat, 0]
def k0_off4 (d0 : Dev nD) (c0_i32_85 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_83 : BitVec 32 := 8#32
  let v91 : BitVec 32 := Scalar.addi v2 c8_i32_83
  let c2_i32_84 : BitVec 32 := 2#32
  let v92 : BitVec 32 := Scalar.subi v91 c2_i32_84
  let v93 : BitVec 32 := Scalar.subi v92 c0_i32_85
  let c16_i32_86 : BitVec 32 := 16#32
  let v94 : BitVec 32 := Scalar.remsi v93 c16_i32_86
  let c256_i32_87 : BitVec 32 := 256#32
  let v95 : BitVec 32 := Scalar.muli v94 c256_i32_87
  let v96 : Index := Scalar.indexCast v95
  let c0_88 : Index := 0#32
  ![v96.toNat, 0]
def k0_dev7 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_126 : BitVec 32 := 1#32
  let v125 : BitVec 32 := Scalar.muli v7 c1_i32_126
  let v126 : BitVec 32 := Scalar.addi c0_i32_127 v125
  v126.toNat
def k0_dev8 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_166 : BitVec 32 := 1#32
  let v158 : BitVec 32 := Scalar.muli v7 c1_i32_166
  let v159 : BitVec 32 := Scalar.addi c0_i32_167 v158
  v159.toNat
def k0_dev9 (d0 : Dev nD) : Nat :=
  let c0_i32_208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_207 : BitVec 32 := 1#32
  let v191 : BitVec 32 := Scalar.muli v4 c1_i32_207
  let v192 : BitVec 32 := Scalar.addi c0_i32_208 v191
  v192.toNat
def k0_dev10 (d0 : Dev nD) : Nat :=
  let c0_i32_249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_248 : BitVec 32 := 1#32
  let v224 : BitVec 32 := Scalar.muli v4 c1_i32_248
  let v225 : BitVec 32 := Scalar.addi c0_i32_249 v224
  v225.toNat
def k0_dev11 (d0 : Dev nD) : Nat :=
  let c0_i32_306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_305 : BitVec 32 := 1#32
  let v279 : BitVec 32 := Scalar.muli v7 c1_i32_305
  let v280 : BitVec 32 := Scalar.addi c0_i32_306 v279
  v280.toNat
def k0_dev12 (d0 : Dev nD) : Nat :=
  let c0_i32_347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_346 : BitVec 32 := 1#32
  let v312 : BitVec 32 := Scalar.muli v7 c1_i32_346
  let v313 : BitVec 32 := Scalar.addi c0_i32_347 v312
  v313.toNat
def k0_dev13 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_387 : BitVec 32 := 1#32
  let v345 : BitVec 32 := Scalar.muli v4 c1_i32_387
  let v346 : BitVec 32 := Scalar.addi c0_i32_388 v345
  v346.toNat
def k0_dev14 (d0 : Dev nD) : Nat :=
  let c0_i32_429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_428 : BitVec 32 := 1#32
  let v378 : BitVec 32 := Scalar.muli v4 c1_i32_428
  let v379 : BitVec 32 := Scalar.addi c0_i32_429 v378
  v379.toNat
def k0_dev15 (d0 : Dev nD) : Nat :=
  let c0_i32_486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_485 : BitVec 32 := 1#32
  let v433 : BitVec 32 := Scalar.muli v7 c1_i32_485
  let v434 : BitVec 32 := Scalar.addi c0_i32_486 v433
  v434.toNat
def k0_dev16 (d0 : Dev nD) : Nat :=
  let c0_i32_527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_526 : BitVec 32 := 1#32
  let v466 : BitVec 32 := Scalar.muli v7 c1_i32_526
  let v467 : BitVec 32 := Scalar.addi c0_i32_527 v466
  v467.toNat
def k0_dev17 (d0 : Dev nD) : Nat :=
  let c0_i32_568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_567 : BitVec 32 := 1#32
  let v499 : BitVec 32 := Scalar.muli v4 c1_i32_567
  let v500 : BitVec 32 := Scalar.addi c0_i32_568 v499
  v500.toNat
def k0_dev18 (d0 : Dev nD) : Nat :=
  let c0_i32_609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_608 : BitVec 32 := 1#32
  let v532 : BitVec 32 := Scalar.muli v4 c1_i32_608
  let v533 : BitVec 32 := Scalar.addi c0_i32_609 v532
  v533.toNat
def k0_dev19 (d0 : Dev nD) : Nat :=
  let c0_i32_666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_665 : BitVec 32 := 1#32
  let v587 : BitVec 32 := Scalar.muli v7 c1_i32_665
  let v588 : BitVec 32 := Scalar.addi c0_i32_666 v587
  v588.toNat
def k0_dev20 (d0 : Dev nD) : Nat :=
  let c0_i32_707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_706 : BitVec 32 := 1#32
  let v620 : BitVec 32 := Scalar.muli v7 c1_i32_706
  let v621 : BitVec 32 := Scalar.addi c0_i32_707 v620
  v621.toNat
def k0_dev21 (d0 : Dev nD) : Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_747 : BitVec 32 := 1#32
  let v653 : BitVec 32 := Scalar.muli v4 c1_i32_747
  let v654 : BitVec 32 := Scalar.addi c0_i32_748 v653
  v654.toNat
def k0_dev22 (d0 : Dev nD) : Nat :=
  let c0_i32_789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_788 : BitVec 32 := 1#32
  let v686 : BitVec 32 := Scalar.muli v4 c1_i32_788
  let v687 : BitVec 32 := Scalar.addi c0_i32_789 v686
  v687.toNat
def k0_dev23 (d0 : Dev nD) : Nat :=
  let c0_i32_846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_845 : BitVec 32 := 1#32
  let v741 : BitVec 32 := Scalar.muli v7 c1_i32_845
  let v742 : BitVec 32 := Scalar.addi c0_i32_846 v741
  v742.toNat
def k0_dev24 (d0 : Dev nD) : Nat :=
  let c0_i32_887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_886 : BitVec 32 := 1#32
  let v774 : BitVec 32 := Scalar.muli v7 c1_i32_886
  let v775 : BitVec 32 := Scalar.addi c0_i32_887 v774
  v775.toNat
def k0_dev25 (d0 : Dev nD) : Nat :=
  let c0_i32_928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_927 : BitVec 32 := 1#32
  let v807 : BitVec 32 := Scalar.muli v4 c1_i32_927
  let v808 : BitVec 32 := Scalar.addi c0_i32_928 v807
  v808.toNat
def k0_dev26 (d0 : Dev nD) : Nat :=
  let c0_i32_969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_968 : BitVec 32 := 1#32
  let v840 : BitVec 32 := Scalar.muli v4 c1_i32_968
  let v841 : BitVec 32 := Scalar.addi c0_i32_969 v840
  v841.toNat
def k0_dev27 (d0 : Dev nD) : Nat :=
  let c0_i32_1026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1025 : BitVec 32 := 1#32
  let v895 : BitVec 32 := Scalar.muli v7 c1_i32_1025
  let v896 : BitVec 32 := Scalar.addi c0_i32_1026 v895
  v896.toNat
def k0_dev28 (d0 : Dev nD) : Nat :=
  let c0_i32_1067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1066 : BitVec 32 := 1#32
  let v928 : BitVec 32 := Scalar.muli v7 c1_i32_1066
  let v929 : BitVec 32 := Scalar.addi c0_i32_1067 v928
  v929.toNat
def k0_dev29 (d0 : Dev nD) : Nat :=
  let c0_i32_1108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1107 : BitVec 32 := 1#32
  let v961 : BitVec 32 := Scalar.muli v4 c1_i32_1107
  let v962 : BitVec 32 := Scalar.addi c0_i32_1108 v961
  v962.toNat
def k0_dev30 (d0 : Dev nD) : Nat :=
  let c0_i32_1149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1148 : BitVec 32 := 1#32
  let v994 : BitVec 32 := Scalar.muli v4 c1_i32_1148
  let v995 : BitVec 32 := Scalar.addi c0_i32_1149 v994
  v995.toNat
def k0_dev31 (d0 : Dev nD) : Nat :=
  let c0_i32_1198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1197 : BitVec 32 := 1#32
  let v1038 : BitVec 32 := Scalar.muli v7 c1_i32_1197
  let v1039 : BitVec 32 := Scalar.addi c0_i32_1198 v1038
  v1039.toNat
def k0_dev32 (d0 : Dev nD) : Nat :=
  let c0_i32_1239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1238 : BitVec 32 := 1#32
  let v1071 : BitVec 32 := Scalar.muli v7 c1_i32_1238
  let v1072 : BitVec 32 := Scalar.addi c0_i32_1239 v1071
  v1072.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1336 : BitVec 32 := 256#32
  let v1137 : BitVec 32 := Scalar.muli v2 c256_i32_1336
  let v1138 : Index := Scalar.indexCast v1137
  let c0_1337 : Index := 0#32
  ![v1138.toNat, 0]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1182 : Index := Scalar.indexCast v2
  let c0_1357 : Index := 0#32
  let c0_1358 : Index := 0#32
  ![v1182.toNat, 0, 0]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1365 : BitVec 32 := 0#32
  let c0_i32_1366 : BitVec 32 := 0#32
  ![v2.toNat, 0, 0]
def k0_dev33 (d0 : Dev nD) : Nat :=
  let c0_i32_1364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1359 : BitVec 32 := 1#32
  let v1186 : BitVec 32 := Scalar.addi v2 c1_i32_1359
  let c16_i32_1360 : BitVec 32 := 16#32
  let v1187 : BitVec 32 := Scalar.remsi v1186 c16_i32_1360
  let c1_i32_1363 : BitVec 32 := 1#32
  let v1188 : BitVec 32 := Scalar.muli v1187 c1_i32_1363
  let v1189 : BitVec 32 := Scalar.addi c0_i32_1364 v1188
  v1189.toNat
def k0_dev34 (d0 : Dev nD) : Nat :=
  let c0_i32_1374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1369 : BitVec 32 := 2#32
  let v1198 : BitVec 32 := Scalar.addi v2 c2_i32_1369
  let c16_i32_1370 : BitVec 32 := 16#32
  let v1199 : BitVec 32 := Scalar.remsi v1198 c16_i32_1370
  let c1_i32_1373 : BitVec 32 := 1#32
  let v1200 : BitVec 32 := Scalar.muli v1199 c1_i32_1373
  let v1201 : BitVec 32 := Scalar.addi c0_i32_1374 v1200
  v1201.toNat
def k0_dev35 (d0 : Dev nD) : Nat :=
  let c0_i32_1384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1379 : BitVec 32 := 3#32
  let v1210 : BitVec 32 := Scalar.addi v2 c3_i32_1379
  let c16_i32_1380 : BitVec 32 := 16#32
  let v1211 : BitVec 32 := Scalar.remsi v1210 c16_i32_1380
  let c1_i32_1383 : BitVec 32 := 1#32
  let v1212 : BitVec 32 := Scalar.muli v1211 c1_i32_1383
  let v1213 : BitVec 32 := Scalar.addi c0_i32_1384 v1212
  v1213.toNat
def k0_dev36 (d0 : Dev nD) : Nat :=
  let c0_i32_1394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1389 : BitVec 32 := 4#32
  let v1222 : BitVec 32 := Scalar.addi v2 c4_i32_1389
  let c16_i32_1390 : BitVec 32 := 16#32
  let v1223 : BitVec 32 := Scalar.remsi v1222 c16_i32_1390
  let c1_i32_1393 : BitVec 32 := 1#32
  let v1224 : BitVec 32 := Scalar.muli v1223 c1_i32_1393
  let v1225 : BitVec 32 := Scalar.addi c0_i32_1394 v1224
  v1225.toNat
def k0_dev37 (d0 : Dev nD) : Nat :=
  let c0_i32_1404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1399 : BitVec 32 := 5#32
  let v1234 : BitVec 32 := Scalar.addi v2 c5_i32_1399
  let c16_i32_1400 : BitVec 32 := 16#32
  let v1235 : BitVec 32 := Scalar.remsi v1234 c16_i32_1400
  let c1_i32_1403 : BitVec 32 := 1#32
  let v1236 : BitVec 32 := Scalar.muli v1235 c1_i32_1403
  let v1237 : BitVec 32 := Scalar.addi c0_i32_1404 v1236
  v1237.toNat
def k0_dev38 (d0 : Dev nD) : Nat :=
  let c0_i32_1414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1409 : BitVec 32 := 6#32
  let v1246 : BitVec 32 := Scalar.addi v2 c6_i32_1409
  let c16_i32_1410 : BitVec 32 := 16#32
  let v1247 : BitVec 32 := Scalar.remsi v1246 c16_i32_1410
  let c1_i32_1413 : BitVec 32 := 1#32
  let v1248 : BitVec 32 := Scalar.muli v1247 c1_i32_1413
  let v1249 : BitVec 32 := Scalar.addi c0_i32_1414 v1248
  v1249.toNat
def k0_dev39 (d0 : Dev nD) : Nat :=
  let c0_i32_1424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1419 : BitVec 32 := 7#32
  let v1258 : BitVec 32 := Scalar.addi v2 c7_i32_1419
  let c16_i32_1420 : BitVec 32 := 16#32
  let v1259 : BitVec 32 := Scalar.remsi v1258 c16_i32_1420
  let c1_i32_1423 : BitVec 32 := 1#32
  let v1260 : BitVec 32 := Scalar.muli v1259 c1_i32_1423
  let v1261 : BitVec 32 := Scalar.addi c0_i32_1424 v1260
  v1261.toNat
def k0_dev40 (d0 : Dev nD) : Nat :=
  let c0_i32_1434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1429 : BitVec 32 := 8#32
  let v1270 : BitVec 32 := Scalar.addi v2 c8_i32_1429
  let c16_i32_1430 : BitVec 32 := 16#32
  let v1271 : BitVec 32 := Scalar.remsi v1270 c16_i32_1430
  let c1_i32_1433 : BitVec 32 := 1#32
  let v1272 : BitVec 32 := Scalar.muli v1271 c1_i32_1433
  let v1273 : BitVec 32 := Scalar.addi c0_i32_1434 v1272
  v1273.toNat
def k0_dev41 (d0 : Dev nD) : Nat :=
  let c0_i32_1443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v1282 : BitVec 32 := Scalar.addi v2 c9_i32
  let c16_i32_1439 : BitVec 32 := 16#32
  let v1283 : BitVec 32 := Scalar.remsi v1282 c16_i32_1439
  let c1_i32_1442 : BitVec 32 := 1#32
  let v1284 : BitVec 32 := Scalar.muli v1283 c1_i32_1442
  let v1285 : BitVec 32 := Scalar.addi c0_i32_1443 v1284
  v1285.toNat
def k0_dev42 (d0 : Dev nD) : Nat :=
  let c0_i32_1452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v1294 : BitVec 32 := Scalar.addi v2 c10_i32
  let c16_i32_1448 : BitVec 32 := 16#32
  let v1295 : BitVec 32 := Scalar.remsi v1294 c16_i32_1448
  let c1_i32_1451 : BitVec 32 := 1#32
  let v1296 : BitVec 32 := Scalar.muli v1295 c1_i32_1451
  let v1297 : BitVec 32 := Scalar.addi c0_i32_1452 v1296
  v1297.toNat
def k0_dev43 (d0 : Dev nD) : Nat :=
  let c0_i32_1461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v1306 : BitVec 32 := Scalar.addi v2 c11_i32
  let c16_i32_1457 : BitVec 32 := 16#32
  let v1307 : BitVec 32 := Scalar.remsi v1306 c16_i32_1457
  let c1_i32_1460 : BitVec 32 := 1#32
  let v1308 : BitVec 32 := Scalar.muli v1307 c1_i32_1460
  let v1309 : BitVec 32 := Scalar.addi c0_i32_1461 v1308
  v1309.toNat
def k0_dev44 (d0 : Dev nD) : Nat :=
  let c0_i32_1470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v1318 : BitVec 32 := Scalar.addi v2 c12_i32
  let c16_i32_1466 : BitVec 32 := 16#32
  let v1319 : BitVec 32 := Scalar.remsi v1318 c16_i32_1466
  let c1_i32_1469 : BitVec 32 := 1#32
  let v1320 : BitVec 32 := Scalar.muli v1319 c1_i32_1469
  let v1321 : BitVec 32 := Scalar.addi c0_i32_1470 v1320
  v1321.toNat
def k0_dev45 (d0 : Dev nD) : Nat :=
  let c0_i32_1479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v1330 : BitVec 32 := Scalar.addi v2 c13_i32
  let c16_i32_1475 : BitVec 32 := 16#32
  let v1331 : BitVec 32 := Scalar.remsi v1330 c16_i32_1475
  let c1_i32_1478 : BitVec 32 := 1#32
  let v1332 : BitVec 32 := Scalar.muli v1331 c1_i32_1478
  let v1333 : BitVec 32 := Scalar.addi c0_i32_1479 v1332
  v1333.toNat
def k0_dev46 (d0 : Dev nD) : Nat :=
  let c0_i32_1488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v1342 : BitVec 32 := Scalar.addi v2 c14_i32
  let c16_i32_1484 : BitVec 32 := 16#32
  let v1343 : BitVec 32 := Scalar.remsi v1342 c16_i32_1484
  let c1_i32_1487 : BitVec 32 := 1#32
  let v1344 : BitVec 32 := Scalar.muli v1343 c1_i32_1487
  let v1345 : BitVec 32 := Scalar.addi c0_i32_1488 v1344
  v1345.toNat
def k0_dev47 (d0 : Dev nD) : Nat :=
  let c0_i32_1497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v1354 : BitVec 32 := Scalar.addi v2 c15_i32
  let c16_i32_1493 : BitVec 32 := 16#32
  let v1355 : BitVec 32 := Scalar.remsi v1354 c16_i32_1493
  let c1_i32_1496 : BitVec 32 := 1#32
  let v1356 : BitVec 32 := Scalar.muli v1355 c1_i32_1496
  let v1357 : BitVec 32 := Scalar.addi c0_i32_1497 v1356
  v1357.toNat
def k0_off8 (d0 : Dev nD) (c1_i32_1503 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1502 : BitVec 32 := 16#32
  let v1366 : BitVec 32 := Scalar.addi v2 c16_i32_1502
  let v1367 : BitVec 32 := Scalar.subi v1366 c1_i32_1503
  let c16_i32_1504 : BitVec 32 := 16#32
  let v1368 : BitVec 32 := Scalar.remsi v1367 c16_i32_1504
  let c0_i32_1509 : BitVec 32 := 0#32
  let c0_i32_1510 : BitVec 32 := 0#32
  ![v1368.toNat, 0, 0]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1636 : Index := Scalar.indexCast v2
  let c0_1780 : Index := 0#32
  let c0_1781 : Index := 0#32
  ![v1636.toNat, 0, 0]
def k0_off10 (d0 : Dev nD) (c0_i32_1783 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1782 : BitVec 32 := 256#32
  let v1644 : BitVec 32 := Scalar.muli v2 c256_i32_1782
  let v1645 : BitVec 32 := Scalar.addi v1644 c0_i32_1783
  let v1646 : Index := Scalar.indexCast v1645
  let c0_1784 : Index := 0#32
  ![v1646.toNat, 0]
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1656 : Index := Scalar.indexCast v2
  let c128_1787 : Index := 128#32
  let c0_1788 : Index := 0#32
  ![v1656.toNat, 128, 0]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1798 : BitVec 32 := 0#32
  let c0_i32_1799 : BitVec 32 := 0#32
  ![v2.toNat, 0, 0]
def k0_dev48 (d0 : Dev nD) : Nat :=
  let c0_i32_1797 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1796 : BitVec 32 := 1#32
  let v1668 : BitVec 32 := Scalar.muli v7 c1_i32_1796
  let v1669 : BitVec 32 := Scalar.addi c0_i32_1797 v1668
  v1669.toNat
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_1808 : BitVec 32 := 128#32
  let c0_i32_1809 : BitVec 32 := 0#32
  ![v2.toNat, 128, 0]
def k0_dev49 (d0 : Dev nD) : Nat :=
  let c0_i32_1807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1806 : BitVec 32 := 1#32
  let v1678 : BitVec 32 := Scalar.muli v7 c1_i32_1806
  let v1679 : BitVec 32 := Scalar.addi c0_i32_1807 v1678
  v1679.toNat
def k0_dev50 (d0 : Dev nD) : Nat :=
  let c0_i32_1817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1816 : BitVec 32 := 1#32
  let v1688 : BitVec 32 := Scalar.muli v4 c1_i32_1816
  let v1689 : BitVec 32 := Scalar.addi c0_i32_1817 v1688
  v1689.toNat
def k0_dev51 (d0 : Dev nD) : Nat :=
  let c0_i32_1827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1826 : BitVec 32 := 1#32
  let v1698 : BitVec 32 := Scalar.muli v4 c1_i32_1826
  let v1699 : BitVec 32 := Scalar.addi c0_i32_1827 v1698
  v1699.toNat
def k0_off14 (d0 : Dev nD) (c0_i32_1833 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1832 : BitVec 32 := 1#32
  let v1708 : BitVec 32 := Scalar.addi v2 c1_i32_1832
  let v1709 : BitVec 32 := Scalar.addi v1708 c0_i32_1833
  let c16_i32_1834 : BitVec 32 := 16#32
  let v1710 : BitVec 32 := Scalar.remsi v1709 c16_i32_1834
  let c0_i32_1860 : BitVec 32 := 0#32
  let c0_i32_1861 : BitVec 32 := 0#32
  ![v1710.toNat, 0, 0]
def k0_dev52 (d0 : Dev nD) : Nat :=
  let c0_i32_1859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1858 : BitVec 32 := 1#32
  let v1725 : BitVec 32 := Scalar.muli v7 c1_i32_1858
  let v1726 : BitVec 32 := Scalar.addi c0_i32_1859 v1725
  v1726.toNat
def k0_off15 (d0 : Dev nD) (c0_i32_1833 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1832 : BitVec 32 := 1#32
  let v1708 : BitVec 32 := Scalar.addi v2 c1_i32_1832
  let v1709 : BitVec 32 := Scalar.addi v1708 c0_i32_1833
  let c16_i32_1834 : BitVec 32 := 16#32
  let v1710 : BitVec 32 := Scalar.remsi v1709 c16_i32_1834
  let c128_i32_1889 : BitVec 32 := 128#32
  let c0_i32_1890 : BitVec 32 := 0#32
  ![v1710.toNat, 128, 0]
def k0_dev53 (d0 : Dev nD) : Nat :=
  let c0_i32_1888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1887 : BitVec 32 := 1#32
  let v1749 : BitVec 32 := Scalar.muli v7 c1_i32_1887
  let v1750 : BitVec 32 := Scalar.addi c0_i32_1888 v1749
  v1750.toNat
def k0_off16 (d0 : Dev nD) (c0_i32_1833 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1832 : BitVec 32 := 1#32
  let v1708 : BitVec 32 := Scalar.addi v2 c1_i32_1832
  let v1709 : BitVec 32 := Scalar.addi v1708 c0_i32_1833
  let c16_i32_1834 : BitVec 32 := 16#32
  let v1710 : BitVec 32 := Scalar.remsi v1709 c16_i32_1834
  let v1759 : Index := Scalar.indexCast v1710
  let c0_1893 : Index := 0#32
  let c0_1894 : Index := 0#32
  ![v1759.toNat, 0, 0]
def k0_off17 (d0 : Dev nD) (c0_i32_1833 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1832 : BitVec 32 := 1#32
  let v1708 : BitVec 32 := Scalar.addi v2 c1_i32_1832
  let v1709 : BitVec 32 := Scalar.addi v1708 c0_i32_1833
  let c16_i32_1834 : BitVec 32 := 16#32
  let v1710 : BitVec 32 := Scalar.remsi v1709 c16_i32_1834
  let c256_i32_1895 : BitVec 32 := 256#32
  let v1766 : BitVec 32 := Scalar.muli v1710 c256_i32_1895
  let v1767 : Index := Scalar.indexCast v1766
  let c0_1896 : Index := 0#32
  ![v1767.toNat, 0]
def k0_off18 (d0 : Dev nD) (c0_i32_1899 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1897 : BitVec 32 := 16#32
  let v1769 : BitVec 32 := Scalar.addi v2 c16_i32_1897
  let c1_i32_1898 : BitVec 32 := 1#32
  let v1770 : BitVec 32 := Scalar.subi v1769 c1_i32_1898
  let v1771 : BitVec 32 := Scalar.subi v1770 c0_i32_1899
  let c16_i32_1900 : BitVec 32 := 16#32
  let v1772 : BitVec 32 := Scalar.remsi v1771 c16_i32_1900
  let c0_i32_1926 : BitVec 32 := 0#32
  let c0_i32_1927 : BitVec 32 := 0#32
  ![v1772.toNat, 0, 0]
def k0_dev54 (d0 : Dev nD) : Nat :=
  let c0_i32_1925 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1924 : BitVec 32 := 1#32
  let v1787 : BitVec 32 := Scalar.muli v4 c1_i32_1924
  let v1788 : BitVec 32 := Scalar.addi c0_i32_1925 v1787
  v1788.toNat
def k0_off19 (d0 : Dev nD) (c0_i32_1899 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1897 : BitVec 32 := 16#32
  let v1769 : BitVec 32 := Scalar.addi v2 c16_i32_1897
  let c1_i32_1898 : BitVec 32 := 1#32
  let v1770 : BitVec 32 := Scalar.subi v1769 c1_i32_1898
  let v1771 : BitVec 32 := Scalar.subi v1770 c0_i32_1899
  let c16_i32_1900 : BitVec 32 := 16#32
  let v1772 : BitVec 32 := Scalar.remsi v1771 c16_i32_1900
  let c128_i32_1955 : BitVec 32 := 128#32
  let c0_i32_1956 : BitVec 32 := 0#32
  ![v1772.toNat, 128, 0]
def k0_dev55 (d0 : Dev nD) : Nat :=
  let c0_i32_1954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1953 : BitVec 32 := 1#32
  let v1811 : BitVec 32 := Scalar.muli v4 c1_i32_1953
  let v1812 : BitVec 32 := Scalar.addi c0_i32_1954 v1811
  v1812.toNat
def k0_off20 (d0 : Dev nD) (c0_i32_1899 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1897 : BitVec 32 := 16#32
  let v1769 : BitVec 32 := Scalar.addi v2 c16_i32_1897
  let c1_i32_1898 : BitVec 32 := 1#32
  let v1770 : BitVec 32 := Scalar.subi v1769 c1_i32_1898
  let v1771 : BitVec 32 := Scalar.subi v1770 c0_i32_1899
  let c16_i32_1900 : BitVec 32 := 16#32
  let v1772 : BitVec 32 := Scalar.remsi v1771 c16_i32_1900
  let v1821 : Index := Scalar.indexCast v1772
  let c0_1959 : Index := 0#32
  let c0_1960 : Index := 0#32
  ![v1821.toNat, 0, 0]
def k0_off21 (d0 : Dev nD) (c0_i32_1899 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1897 : BitVec 32 := 16#32
  let v1769 : BitVec 32 := Scalar.addi v2 c16_i32_1897
  let c1_i32_1898 : BitVec 32 := 1#32
  let v1770 : BitVec 32 := Scalar.subi v1769 c1_i32_1898
  let v1771 : BitVec 32 := Scalar.subi v1770 c0_i32_1899
  let c16_i32_1900 : BitVec 32 := 16#32
  let v1772 : BitVec 32 := Scalar.remsi v1771 c16_i32_1900
  let c256_i32_1961 : BitVec 32 := 256#32
  let v1828 : BitVec 32 := Scalar.muli v1772 c256_i32_1961
  let v1829 : Index := Scalar.indexCast v1828
  let c0_1962 : Index := 0#32
  ![v1829.toNat, 0]
def k0_dev56 (d0 : Dev nD) : Nat :=
  let c0_i32_1990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1989 : BitVec 32 := 1#32
  let v1848 : BitVec 32 := Scalar.muli v7 c1_i32_1989
  let v1849 : BitVec 32 := Scalar.addi c0_i32_1990 v1848
  v1849.toNat
def k0_dev57 (d0 : Dev nD) : Nat :=
  let c0_i32_2019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2018 : BitVec 32 := 1#32
  let v1872 : BitVec 32 := Scalar.muli v7 c1_i32_2018
  let v1873 : BitVec 32 := Scalar.addi c0_i32_2019 v1872
  v1873.toNat
def k0_dev58 (d0 : Dev nD) : Nat :=
  let c0_i32_2056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2055 : BitVec 32 := 1#32
  let v1910 : BitVec 32 := Scalar.muli v4 c1_i32_2055
  let v1911 : BitVec 32 := Scalar.addi c0_i32_2056 v1910
  v1911.toNat
def k0_dev59 (d0 : Dev nD) : Nat :=
  let c0_i32_2085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2084 : BitVec 32 := 1#32
  let v1934 : BitVec 32 := Scalar.muli v4 c1_i32_2084
  let v1935 : BitVec 32 := Scalar.addi c0_i32_2085 v1934
  v1935.toNat
def k0_dev60 (d0 : Dev nD) : Nat :=
  let c0_i32_2121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2120 : BitVec 32 := 1#32
  let v1971 : BitVec 32 := Scalar.muli v7 c1_i32_2120
  let v1972 : BitVec 32 := Scalar.addi c0_i32_2121 v1971
  v1972.toNat
def k0_dev61 (d0 : Dev nD) : Nat :=
  let c0_i32_2150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2149 : BitVec 32 := 1#32
  let v1995 : BitVec 32 := Scalar.muli v7 c1_i32_2149
  let v1996 : BitVec 32 := Scalar.addi c0_i32_2150 v1995
  v1996.toNat
def k0_dev62 (d0 : Dev nD) : Nat :=
  let c0_i32_2187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2186 : BitVec 32 := 1#32
  let v2033 : BitVec 32 := Scalar.muli v4 c1_i32_2186
  let v2034 : BitVec 32 := Scalar.addi c0_i32_2187 v2033
  v2034.toNat
def k0_dev63 (d0 : Dev nD) : Nat :=
  let c0_i32_2216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2215 : BitVec 32 := 1#32
  let v2057 : BitVec 32 := Scalar.muli v4 c1_i32_2215
  let v2058 : BitVec 32 := Scalar.addi c0_i32_2216 v2057
  v2058.toNat
def k0_dev64 (d0 : Dev nD) : Nat :=
  let c0_i32_2252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2251 : BitVec 32 := 1#32
  let v2094 : BitVec 32 := Scalar.muli v7 c1_i32_2251
  let v2095 : BitVec 32 := Scalar.addi c0_i32_2252 v2094
  v2095.toNat
def k0_dev65 (d0 : Dev nD) : Nat :=
  let c0_i32_2281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2280 : BitVec 32 := 1#32
  let v2118 : BitVec 32 := Scalar.muli v7 c1_i32_2280
  let v2119 : BitVec 32 := Scalar.addi c0_i32_2281 v2118
  v2119.toNat
def k0_dev66 (d0 : Dev nD) : Nat :=
  let c0_i32_2318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2317 : BitVec 32 := 1#32
  let v2156 : BitVec 32 := Scalar.muli v4 c1_i32_2317
  let v2157 : BitVec 32 := Scalar.addi c0_i32_2318 v2156
  v2157.toNat
def k0_dev67 (d0 : Dev nD) : Nat :=
  let c0_i32_2347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2346 : BitVec 32 := 1#32
  let v2180 : BitVec 32 := Scalar.muli v4 c1_i32_2346
  let v2181 : BitVec 32 := Scalar.addi c0_i32_2347 v2180
  v2181.toNat
def k0_dev68 (d0 : Dev nD) : Nat :=
  let c0_i32_2383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2382 : BitVec 32 := 1#32
  let v2217 : BitVec 32 := Scalar.muli v7 c1_i32_2382
  let v2218 : BitVec 32 := Scalar.addi c0_i32_2383 v2217
  v2218.toNat
def k0_dev69 (d0 : Dev nD) : Nat :=
  let c0_i32_2412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2411 : BitVec 32 := 1#32
  let v2241 : BitVec 32 := Scalar.muli v7 c1_i32_2411
  let v2242 : BitVec 32 := Scalar.addi c0_i32_2412 v2241
  v2242.toNat
def k0_dev70 (d0 : Dev nD) : Nat :=
  let c0_i32_2449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2448 : BitVec 32 := 1#32
  let v2279 : BitVec 32 := Scalar.muli v4 c1_i32_2448
  let v2280 : BitVec 32 := Scalar.addi c0_i32_2449 v2279
  v2280.toNat
def k0_dev71 (d0 : Dev nD) : Nat :=
  let c0_i32_2478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2477 : BitVec 32 := 1#32
  let v2303 : BitVec 32 := Scalar.muli v4 c1_i32_2477
  let v2304 : BitVec 32 := Scalar.addi c0_i32_2478 v2303
  v2304.toNat
def k0_dev72 (d0 : Dev nD) : Nat :=
  let c0_i32_2514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2513 : BitVec 32 := 1#32
  let v2340 : BitVec 32 := Scalar.muli v7 c1_i32_2513
  let v2341 : BitVec 32 := Scalar.addi c0_i32_2514 v2340
  v2341.toNat
def k0_dev73 (d0 : Dev nD) : Nat :=
  let c0_i32_2543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2542 : BitVec 32 := 1#32
  let v2364 : BitVec 32 := Scalar.muli v7 c1_i32_2542
  let v2365 : BitVec 32 := Scalar.addi c0_i32_2543 v2364
  v2365.toNat
def k0_dev74 (d0 : Dev nD) : Nat :=
  let c0_i32_2580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2579 : BitVec 32 := 1#32
  let v2402 : BitVec 32 := Scalar.muli v4 c1_i32_2579
  let v2403 : BitVec 32 := Scalar.addi c0_i32_2580 v2402
  v2403.toNat
def k0_dev75 (d0 : Dev nD) : Nat :=
  let c0_i32_2609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2608 : BitVec 32 := 1#32
  let v2426 : BitVec 32 := Scalar.muli v4 c1_i32_2608
  let v2427 : BitVec 32 := Scalar.addi c0_i32_2609 v2426
  v2427.toNat
def k0_dev76 (d0 : Dev nD) : Nat :=
  let c0_i32_2645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2644 : BitVec 32 := 1#32
  let v2463 : BitVec 32 := Scalar.muli v7 c1_i32_2644
  let v2464 : BitVec 32 := Scalar.addi c0_i32_2645 v2463
  v2464.toNat
def k0_dev77 (d0 : Dev nD) : Nat :=
  let c0_i32_2674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2673 : BitVec 32 := 1#32
  let v2487 : BitVec 32 := Scalar.muli v7 c1_i32_2673
  let v2488 : BitVec 32 := Scalar.addi c0_i32_2674 v2487
  v2488.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.Body.lean ====
/-
The kernel's body restated in a uniform form: one definition per repeated step, indexed by the direction of travel, the
hop and the half, each taking what follows as an argument. `body_eq` says that the printed body is the assembly of these
steps, by definitional unfolding.

Two rings run at once. Direction `false` sends to the left neighbour through `cc0_scratch0` (nine slots), direction
`true` to the right neighbour through `cc0_scratch1` (eight slots); the gather phase moves quantised chunks in both
directions through `cc0_scratch2`.
-/
module

public import proofs.«01_k».proof.Proof.Gen.KernelIdeal
public import proofs.«01_k».proof.Proof.Gen.KernelIdeal.Launch

@[expose] public section

noncomputable section

namespace Cert.Proof

open Cert.KernelIdeal Cert.KernelIdeal.Gen
open Idealize.ShloMosaic Idealize.ShloMosaic.TcCoe
open Idealize.SL Idealize.SL.Sem

variable {F : FTy → Type} [FloatOps F]

/-! ## Pieces of the buffers -/

/-- A stack of `n` chunks of 256 rows. -/
abbrev Sl (n : ℕ) : Shape := ⟨3, ![n, 256, 2048]⟩

/-- The place of half a chunk in a stack of `n`. -/
@[ext] structure Piece (n : ℕ) where
  off : Fin 3 → ℕ
  inb : ∀ a, off a + S1x128x2048.size a ≤ (Sl n).size a
  row : 128 ∣ off 1

namespace Piece
variable {n : ℕ}

/-- Its rectangle. -/
abbrev rect (P : Piece n) : Rect (Sl n) := Rect.unit (s := Sl n) P.off S1x128x2048.size P.inb

theorem packed (P : Piece n) {p : ℕ} (hp : p ∣ 128) : P.rect.PackedRows p :=
  .inr ⟨(by decide : 2 ≤ 3), rfl, .inl ⟨hp.trans P.row, by show p ∣ 128; exact hp⟩⟩

end Piece

/-- Half `s` of chunk `k`. -/
abbrev half (n : ℕ) (k s : ℕ) (h : k < n ∧ s < 2) : Piece n where
  off := ![k, 128 * s, 0]
  inb := by
    intro a
    obtain ⟨hk, hs⟩ := h
    fin_cases a
    · show k + 1 ≤ n; omega
    · show 128 * s + 128 ≤ 256; omega
    · show 0 + 2048 ≤ 2048; omega
  row := ⟨s, rfl⟩

/-- The memref a transfer of a half chunk names. -/
abbrev hM {n : ℕ} {e : EltTy} (M : Memref sig .tc .vmem (Sl n) e) (P : Piece n) : Memref sig .tc .vmem S128x2048 e :=
  (M.slice P.rect (fun _ => rfl)).squeeze S128x2048 squeezes_S1x128x2048_S128x2048

theorem hM_words {n : ℕ} {e : EltTy} {M : Memref sig .tc .vmem (Sl n) e} (hW : M.IsWhole) (he : e.packing ∣ 128) (P : Piece n) :
    (hM M P).view.WordExact :=
  (hW.wordExact_slice rfl _ (P.packed he).wholeWords).reshape _ _

/-- Slots of a direction's buffer. -/
abbrev slots (d : Bool) : ℕ := if d then 8 else 9

/-- A direction's buffer of partial sums. -/
def bufM : (d : Bool) → Memref sig .tc .vmem (Sl (slots d)) .bf16
  | false => Memref.whole cc0_scratch0
  | true => Memref.whole cc0_scratch1

theorem bufM_whole (d : Bool) : (bufM d).IsWhole := by cases d <;> exact Memref.isWhole_whole _

abbrev xM : Memref sig .tc .vmem S4096x256 .bf16 := Memref.whole cc0_stg0_0
abbrev wM : Memref sig .tc .vmem S256x2048 .bf16 := Memref.whole cc0_stg1_0
abbrev oM : Memref sig .tc .vmem S4096x2048 .bf16 := Memref.whole cc0_stg2_0
abbrev qM : Memref sig .tc .vmem (Sl 16) .i8 := Memref.whole cc0_scratch2
abbrev aM : Memref sig .tc .vmem S16x8x128 .f32 := Memref.whole cc0_scratch3

/-- The `i`-th DMA semaphore. -/
def sm (i : ℕ) : DmaSem sig := ⟨i % 153, Nat.mod_lt _ (by decide)⟩

/-- The semaphores of the reduce phase: hop `k`, half `s`, source end and landing end. -/
def rsS (d : Bool) (k s : ℕ) : DmaSem sig := sm ((if d then 35 else 3) + 2 * k + s)
def rsR (d : Bool) (k s : ℕ) : DmaSem sig := sm ((if d then 49 else 19) + 2 * k + s)
/-- The same of the gather phase. -/
def agS (d : Bool) (k s : ℕ) : DmaSem sig := sm ((if d then 95 else 63) + 2 * k + s)
def agR (d : Bool) (k s : ℕ) : DmaSem sig := sm ((if d then 109 else 79) + 2 * k + s)
/-- And of the exchange of maxima, by distance less one. -/
def axS (t : ℕ) : DmaSem sig := sm (123 + t)
def axR (t : ℕ) : DmaSem sig := sm (138 + t)

/-! ## The values -/

/-- A chunk's partial product. -/
def partV (x : Vec F S256x256 .bf16) (w : Vec F S256x2048 .bf16) : FVec F S256x2048 .f32 :=
  matmul dot_S256x256_S256x2048_S256x2048_1_0_0_1_n_n none (shapeCast S256x256 x shapeCasts_S256x256_S256x256)
    (shapeCast S256x2048 w shapeCasts_S256x2048_S256x2048) (constant S256x2048 .f32 0x00000000#32)

theorem slices_half (s : ℕ) (hs : s < 2) : S256x2048.Slices ![128 * s, 0] S128x2048 := by
  rcases (by omega : s = 0 ∨ s = 1) with rfl | rfl
  · exact slices_S256x2048_o0_0_S128x2048
  · exact slices_S256x2048_o128_0_S128x2048

/-- Half `s` of a chunk. -/
abbrev cut {α : Type} (s : ℕ) (hs : s < 2) (v : S256x2048.Idx → α) : S128x2048.Idx → α :=
  extractStridedSlice S128x2048 ![128 * s, 0] v (slices_half s hs)

abbrev flat {e : EltTy} (v : Vec F S1x128x2048 e) : Vec F S128x2048 e := shapeCast S128x2048 v shapeCasts_S1x128x2048_S128x2048
abbrev lift1 {e : EltTy} (v : Vec F S128x2048 e) : Vec F S1x128x2048 e := shapeCast S1x128x2048 v shapeCasts_S128x2048_S1x128x2048

/-- What a hop stores back: the arriving half plus this device's product. -/
def accV (s : ℕ) (hs : s < 2) (p : FVec F S256x2048 .f32) (v : FVec F S128x2048 .bf16) : FVec F S128x2048 .bf16 :=
  truncf .bf16 (addf (extf .f32 v bitsLt_bf16_f32) (cut s hs p)) bitsLt_bf16_f32

/-- The finished half chunk: both rings' sums and the own product, cut below at zero. -/
def finV (s : ℕ) (hs : s < 2) (p : FVec F S256x2048 .f32) (a b : FVec F S128x2048 .bf16) : FVec F S128x2048 .f32 :=
  maximumf (addf (addf (extf .f32 a bitsLt_bf16_f32) (extf .f32 b bitsLt_bf16_f32)) (cut s hs p))
    (broadcast S128x2048 (Scalar.ofBits .f32 0x00000000#32))

/-- The greatest element of a half chunk. -/
def amaxH (r : FVec F S128x2048 .f32) : F .f32 :=
  extractAt ![0, 0, 0] (shapeCast S1x1x1 (multiReduction .maximumf [1, 2] S1
    (shapeCast S1x128x2048 r shapeCasts_S128x2048_S1x128x2048 : FVec F S1x128x2048 .f32) 0xFF800000#32 reduces_S1x128x2048_S1 (.inl rfl) rfl)
    shapeCasts_S1_S1x1x1) inpos_S1x1x1_p0_0_0

/-- The greatest element of a chunk, filling a row of maxima. -/
def amaxV (r0 r1 : FVec F S128x2048 .f32) : FVec F S8x128 .f32 :=
  broadcast S8x128 (extractAt ![0, 0] (shapeCast S1x1 (multiReduction .maximumf [1] S1
    (shapeCast S1x2 (concatenate S2 0 [⟨S1, (broadcast S1 (amaxH r0) : FVec F S1 .f32)⟩, ⟨S1, (broadcast S1 (amaxH r1) : FVec F S1 .f32)⟩]
      concatenates_S1_S1_S2_d0 : FVec F S2 .f32) shapeCasts_S2_S1x2 : FVec F S1x2 .f32) 0xFF800000#32 reduces_S1x2_S1 (.inl rfl) rfl)
    shapeCasts_S1_S1x1) inpos_S1x1_p0_0)

/-- The greatest of all the maxima. -/
def topV (v : Vec F S16x8x128 .f32) : F .f32 :=
  extractAt ![0, 0, 0, 0] (shapeCast S1x1x1x1 (multiReduction .maximumf [1, 2, 3] S1
    (shapeCast S1x16x8x128 v shapeCasts_S16x8x128_S1x16x8x128 : FVec F S1x16x8x128 .f32) 0xFF800000#32 reduces_S1x16x8x128_S1 (.inl rfl) rfl)
    shapeCasts_S1_S1x1x1x1) inpos_S1x1x1x1_p0_0_0_0

/-- The step of the quantiser and its inverse. -/
def scaleV (a : F .f32) : F .f32 := Scalar.divf a (Scalar.ofBits .f32 0x42FE0000#32)
def invV (a : F .f32) : F .f32 := Scalar.divf (Scalar.ofBits .f32 0x42FE0000#32) a

/-- A quantised half chunk. -/
def quantV (a : F .f32) (r : FVec F S128x2048 .f32) : IVec S128x2048 8 :=
  fptosi 8 (minimumf (broadcast S128x2048 (Scalar.ofBits .f32 0x42FE0000#32))
    (maximumf (broadcast S128x2048 (Scalar.ofBits .f32 0x00000000#32)) (roundeven (mulf r (broadcast S128x2048 (invV a))))))

/-- A quantised half chunk read back. -/
def deqH (a : F .f32) (q : IVec S128x2048 8) : FVec F S128x2048 .bf16 :=
  truncf .bf16 (mulf (sitofp .f32 q) (broadcast S128x2048 (scaleV a))) bitsLt_bf16_f32

/-- A quantised chunk read back. -/
def deqV (a : F .f32) (q : IVec S256x2048 8) : FVec F S256x2048 .bf16 :=
  truncf .bf16 (mulf (sitofp .f32 q) (broadcast S256x2048 (scaleV a))) bitsLt_bf16_f32

/-! ## The steps -/

/-- The programs of the body. -/
abbrev PP (F : FTy → Type) [FloatOps F] : Type 1 := Prog (TpuEff nD τ sig (Elt F) Λ₀ .tc) PUnit

/-- Load a chunk of the activations and the weights, and go on with their product. -/
def partC (o : Fin 2 → ℕ) (ho : ∀ a, o a + S256x256.size a ≤ S4096x256.size a) (K : FVec F S256x2048 .f32 → PP F) : PP F :=
  .op (.load xM (Rect.unit (s := S4096x256) o S256x256.size ho).toLoadRect (View.loadsAt_vmem h_S256x256)) fun x =>
  .op (.load wM (Rect.unit (s := S256x2048) ![0, 0] S256x2048.size inb_S256x2048_S256x2048_0_0).toLoadRect (View.loadsAt_vmem h_S256x2048)) fun w =>
  K (partV x w)

theorem inb_slot0 (d : Bool) : ∀ a, (![0, 0, 0] : Fin 3 → ℕ) a + S1x256x2048.size a ≤ (Sl (slots d)).size a := by cases d <;> decide

/-- Store a chunk's product in slot 0. -/
def seedC (d : Bool) (p : FVec F S256x2048 .f32) (K : PP F) : PP F :=
  .op (.load (bufM d) (Rect.unit (s := Sl (slots d)) ![0, 0, 0] S1x256x2048.size (inb_slot0 d)).toLoadRect (View.loadsAt_vmem h_S1x256x2048)) fun _ =>
  .op (.store (bufM d) (Rect.unit (s := Sl (slots d)) ![0, 0, 0] S1x256x2048.size (inb_slot0 d))
    (shapeCast S1x256x2048 (truncf .bf16 p bitsLt_bf16_f32 : FVec F S256x2048 .bf16) shapeCasts_S256x2048_S1x256x2048) Finset.univ
    (View.stores_vmem h_S1x256x2048 ((bufM_whole d).storeExact_slice rfl _ (by cases d <;> decide)) (fun _ => rfl)) (.inl rfl)) fun _ => K

/-- Send a half chunk to device `t`. -/
def sendC {n : ℕ} {e : EltTy} (M : Memref sig .tc .vmem (Sl n) e) (hW : M.IsWhole) (he : e.packing ∣ 128) (t : Dev nD) (P P' : Piece n)
    (a b : DmaSem sig) (K : PP F) : PP F :=
  .op (.enqueueDma (hM M P) (.remote (Dev.tc t) (hM M P') (.dma a)) (.dma b) (hM_words hW he P) (hM_words hW he P') ⟨⟨rfl, Or.inl rfl⟩, trivial⟩) fun _ => K

/-- Wait for a half chunk on a semaphore. -/
def waitC {n : ℕ} {e : EltTy} (M : Memref sig .tc .vmem (Sl n) e) (hW : M.IsWhole) (he : e.packing ∣ 128) (P : Piece n)
    (a : DmaSem sig) (K : PP F) : PP F :=
  .op (.waitDma2 a (hM M P) (hM M P) (hM_words hW he P) (hM_words hW he P)) fun _ => K

theorem packs_bf16 : (EltTy.bf16 : EltTy).packing ∣ 128 := by decide
theorem packs_i8 : (EltTy.i8 : EltTy).packing ∣ 128 := by decide

/-- The reduce phase's transfer of hop `k`: from slot `k` into slot `k + 1`. -/
def rsSend (d : Bool) (t : Dev nD) (k s : ℕ) (h : k + 1 < slots d ∧ s < 2) (K : PP F) : PP F :=
  sendC (bufM d) (bufM_whole d) packs_bf16 t (half _ k s ⟨by omega, h.2⟩) (half _ (k + 1) s h) (rsS d k s) (rsR d k s) K

/-- Wait for it, at both ends. -/
def rsWait (d : Bool) (k s : ℕ) (h : k + 1 < slots d ∧ s < 2) (K : PP F) : PP F :=
  waitC (bufM d) (bufM_whole d) packs_bf16 (half _ k s ⟨by omega, h.2⟩) (rsS d k s) <|
  waitC (bufM d) (bufM_whole d) packs_bf16 (half _ (k + 1) s h) (rsR d k s) K

/-- Add this device's product to the half that arrived. -/
def accC (d : Bool) (k s : ℕ) (h : k < slots d ∧ s < 2) (p : FVec F S256x2048 .f32) (K : PP F) : PP F :=
  .op (.load (bufM d) (half _ k s h).rect.toLoadRect (View.loadsAt_vmem h_S1x128x2048)) fun v =>
  .op (.load (bufM d) (half _ k s h).rect.toLoadRect (View.loadsAt_vmem h_S1x128x2048)) fun _ =>
  .op (.store (bufM d) (half _ k s h).rect (lift1 (F := F) (e := .bf16) (accV s h.2 p (flat (F := F) (e := .bf16) v))) Finset.univ
    (View.stores_vmem h_S1x128x2048 ((bufM_whole d).storeExact_slice rfl _ ((half _ k s h).packed packs_bf16)) (fun _ => rfl)) (.inl rfl)) fun _ => K

/-- A whole hop of one half of one direction. -/
def rsHop (d : Bool) (t : Dev nD) (k s : ℕ) (h : k + 2 < slots d ∧ s < 2) (p : FVec F S256x2048 .f32) (K : PP F) : PP F :=
  rsWait d k s ⟨by omega, h.2⟩ (accC d (k + 1) s ⟨by omega, h.2⟩ p (rsSend d t (k + 1) s h K))

/-- Hop `k < 6`: both directions, both halves. -/
def hopC (l r : Dev nD) (c : Dev nD) (k : Fin 6) (K : PP F) : PP F :=
  partC (k0_off3 c (BitVec.ofNat 32 k.val)) (k0_off3_inb c (k.castSucc : Fin 7)) fun pm =>
  partC (k0_off4 c (BitVec.ofNat 32 k.val)) (k0_off4_inb c k) fun pp =>
  rsHop false l k 0 ⟨by have := k.isLt; show k.val + 2 < 9; omega, by decide⟩ pm <|
  rsHop false l k 1 ⟨by have := k.isLt; show k.val + 2 < 9; omega, by decide⟩ pm <|
  rsHop true r k 0 ⟨by have := k.isLt; show k.val + 2 < 8; omega, by decide⟩ pp <|
  rsHop true r k 1 ⟨by have := k.isLt; show k.val + 2 < 8; omega, by decide⟩ pp K

/-- The last two hops. -/
def lastHops (l : Dev nD) (c : Dev nD) (K : PP F) : PP F :=
  partC (k0_off3 c 6#32) (k0_off3_inb c 6) fun pm =>
  rsHop false l 6 0 (by decide) pm <| rsHop false l 6 1 (by decide) pm <|
  rsWait true 6 0 (by decide) <| rsWait true 6 1 (by decide) <|
  rsWait false 7 0 (by decide) <| rsWait false 7 1 (by decide) K

/-- A half slot read. -/
def loadH (d : Bool) (k s : ℕ) (h : k < slots d ∧ s < 2) (K : FVec F S128x2048 .bf16 → PP F) : PP F :=
  .op (.load (bufM d) (half _ k s h).rect.toLoadRect (View.loadsAt_vmem h_S1x128x2048)) fun v => K (flat (F := F) (e := .bf16) v)

/-- The row of maxima a device keeps its own in. -/
abbrev rowR (o : Fin 3 → ℕ) (ho : ∀ a, o a + S1x8x128.size a ≤ S16x8x128.size a) : Rect S16x8x128 := Rect.unit (s := S16x8x128) o S1x8x128.size ho
abbrev rowM (o : Fin 3 → ℕ) (ho : ∀ a, o a + S1x8x128.size a ≤ S16x8x128.size a) : Memref sig .tc .vmem S8x128 .f32 :=
  (aM.slice (rowR o ho) (fun _ => rfl)).squeeze S8x128 squeezes_S1x8x128_S8x128

/-- The finished chunk, and its maximum in the device's own row. -/
def finishC (c : Dev nD) (K : FVec F S128x2048 .f32 → FVec F S128x2048 .f32 → PP F) : PP F :=
  partC (k0_off5 c) (k0_off5_inb c) fun p =>
  loadH false 8 0 (by decide) fun a0 => loadH true 7 0 (by decide) fun b0 =>
  loadH false 8 1 (by decide) fun a1 => loadH true 7 1 (by decide) fun b1 =>
  .op (.load aM (rowR (k0_off6 c) (k0_off6_inb c)).toLoadRect (View.loadsAt_vmem h_S1x8x128)) fun _ =>
  .op (.store aM (rowR (k0_off6 c) (k0_off6_inb c))
    (shapeCast S1x8x128 (amaxV (finV 0 (by decide) p a0 b0) (finV 1 (by decide) p a1 b1)) shapeCasts_S8x128_S1x8x128) Finset.univ
    (View.stores_vmem_bits_univ h_S1x8x128 rfl) (.inl rfl)) fun _ =>
  K (finV 0 (by decide) p a0 b0) (finV 1 (by decide) p a1 b1)

/-- The devices the maxima go to, by distance less one. -/
def axDev (c : Dev nD) : Fin 15 → Dev nD :=
  ![⟨k0_dev33 c, k0_dev33_lt c⟩, ⟨k0_dev34 c, k0_dev34_lt c⟩, ⟨k0_dev35 c, k0_dev35_lt c⟩, ⟨k0_dev36 c, k0_dev36_lt c⟩,
    ⟨k0_dev37 c, k0_dev37_lt c⟩, ⟨k0_dev38 c, k0_dev38_lt c⟩, ⟨k0_dev39 c, k0_dev39_lt c⟩, ⟨k0_dev40 c, k0_dev40_lt c⟩,
    ⟨k0_dev41 c, k0_dev41_lt c⟩, ⟨k0_dev42 c, k0_dev42_lt c⟩, ⟨k0_dev43 c, k0_dev43_lt c⟩, ⟨k0_dev44 c, k0_dev44_lt c⟩,
    ⟨k0_dev45 c, k0_dev45_lt c⟩, ⟨k0_dev46 c, k0_dev46_lt c⟩, ⟨k0_dev47 c, k0_dev47_lt c⟩]

def axSend (c : Dev nD) (i : Fin 15) (K : PP F) : PP F :=
  .op (.enqueueDma (rowM (k0_off7 c) (k0_off7_inb c)) (.remote (Dev.tc (axDev c i)) (rowM (k0_off7 c) (k0_off7_inb c)) (.dma (axS i))) (.dma (axR i))
    ((View.wordExact_bits rfl).reshape _ _) ((View.wordExact_bits rfl).reshape _ _) ⟨⟨rfl, Or.inl rfl⟩, trivial⟩) fun _ => K

def axWait (c : Dev nD) (a : DmaSem sig) (K : PP F) : PP F :=
  .op (.waitDma2 a (rowM (k0_off7 c) (k0_off7_inb c)) (rowM (k0_off7 c) (k0_off7_inb c))
    ((View.wordExact_bits rfl).reshape _ _) ((View.wordExact_bits rfl).reshape _ _)) fun _ => K

/-- A step for each entry of a list, in order. -/
def each {α : Type} (f : α → PP F → PP F) : List α → PP F → PP F
  | [], K => K
  | i :: l, K => f i (each f l K)

abbrev all15 : List (Fin 15) := [0, 1, 2, 3, 4, 5, 6, 7, 8, 9, 10, 11, 12, 13, 14]

/-- The exchange of maxima. -/
def exchange (c : Dev nD) (K : F .f32 → PP F) : PP F :=
  each (axSend c) all15 <| each (fun i => axWait c (axR i)) all15 <| each (fun i => axWait c (axS i)) all15 <|
  .op (.load aM (Rect.unit (s := S16x8x128) ![0, 0, 0] S16x8x128.size inb_S16x8x128_S16x8x128_0_0_0).toLoadRect (View.loadsAt_vmem h_S16x8x128)) fun v =>
  K (topV v)

/-- Quantise half a chunk into place, and store it read back in the result. -/
def quantC (P : Piece 16) (o : Fin 2 → ℕ) (ho : ∀ a, o a + S128x2048.size a ≤ S4096x2048.size a)
    (po : (Rect.unit (s := S4096x2048) o S128x2048.size ho).PackedRows (EltTy.packing .bf16)) (a : F .f32) (r : FVec F S128x2048 .f32) (K : PP F) : PP F :=
  .op (.load qM P.rect.toLoadRect (View.loadsAt_vmem h_S1x128x2048)) fun _ =>
  .op (.store qM P.rect (lift1 (F := F) (e := .i8) (quantV a r)) Finset.univ
    (View.stores_vmem h_S1x128x2048 ((Memref.isWhole_whole _).storeExact_slice rfl _ (P.packed packs_i8)) (fun _ => rfl)) (.inl rfl)) fun _ =>
  .op (.load oM (Rect.unit (s := S4096x2048) o S128x2048.size ho).toLoadRect (View.loadsAt_vmem h_S128x2048)) fun _ =>
  .op (.store oM (Rect.unit (s := S4096x2048) o S128x2048.size ho) (deqH a (quantV a r)) Finset.univ
    (View.stores_vmem h_S128x2048 ((Memref.isWhole_whole _).storeExact_slice rfl _ po) (fun _ => rfl)) (.inl rfl)) fun _ => K

/-- The half chunk of the gather phase a hop moves on: the own chunk at hop 0, then the one that arrived before. -/
def ownP (c : Dev nD) : (s : Fin 2) → Piece 16
  | 0 => ⟨k0_off9 c, k0_off9_inb c, by rw [k0_off9_eq]; exact ⟨0, rfl⟩⟩
  | 1 => ⟨k0_off11 c, k0_off11_inb c, by rw [k0_off11_eq]; exact ⟨1, rfl⟩⟩
def sentP (c : Dev nD) : (s : Fin 2) → Piece 16
  | 0 => ⟨k0_off12 c, k0_off12_inb c, by rw [k0_off12_eq]; exact ⟨0, rfl⟩⟩
  | 1 => ⟨k0_off13 c, k0_off13_inb c, by rw [k0_off13_eq]; exact ⟨1, rfl⟩⟩
def mfwdP (c : Dev nD) (k : Fin 7) : (s : Fin 2) → Piece 16
  | 0 => ⟨k0_off14 c (BitVec.ofNat 32 k.val), k0_off14_inb c k, by rw [k0_off14_eq]; exact ⟨0, rfl⟩⟩
  | 1 => ⟨k0_off15 c (BitVec.ofNat 32 k.val), k0_off15_inb c k, by rw [k0_off15_eq]; exact ⟨1, rfl⟩⟩
def pfwdP (c : Dev nD) (k : Fin 6) : (s : Fin 2) → Piece 16
  | 0 => ⟨k0_off18 c (BitVec.ofNat 32 k.val), k0_off18_inb c k, by rw [k0_off18_eq]; exact ⟨0, rfl⟩⟩
  | 1 => ⟨k0_off19 c (BitVec.ofNat 32 k.val), k0_off19_inb c k, by rw [k0_off19_eq]; exact ⟨1, rfl⟩⟩

/-- The gather phase's transfer: a chunk goes to the same place next door. -/
def agSend (d : Bool) (t : Dev nD) (P : Piece 16) (k s : ℕ) (K : PP F) : PP F :=
  sendC qM (Memref.isWhole_whole _) packs_i8 t P P (agS d k s) (agR d k s) K

def agWait (c : Dev nD) (d : Bool) (k s : ℕ) (K : PP F) : PP F :=
  waitC qM (Memref.isWhole_whole _) packs_i8 (sentP c 0) (agS d k s) <|
  waitC qM (Memref.isWhole_whole _) packs_i8 (sentP c 0) (agR d k s) K

/-- A whole chunk read back into the result. -/
def deqC (o : Fin 3 → ℕ) (ho : ∀ a, o a + S1x256x2048.size a ≤ (Sl 16).size a) (o' : Fin 2 → ℕ) (ho' : ∀ a, o' a + S256x2048.size a ≤ S4096x2048.size a)
    (po : (Rect.unit (s := S4096x2048) o' S256x2048.size ho').PackedRows (EltTy.packing .bf16)) (a : F .f32) (K : PP F) : PP F :=
  .op (.load qM (Rect.unit (s := Sl 16) o S1x256x2048.size ho).toLoadRect (View.loadsAt_vmem h_S1x256x2048)) fun q =>
  .op (.load oM (Rect.unit (s := S4096x2048) o' S256x2048.size ho').toLoadRect (View.loadsAt_vmem h_S256x2048)) fun _ =>
  .op (.store oM (Rect.unit (s := S4096x2048) o' S256x2048.size ho') (deqV a (shapeCast S256x2048 q shapeCasts_S1x256x2048_S256x2048)) Finset.univ
    (View.stores_vmem h_S256x2048 ((Memref.isWhole_whole _).storeExact_slice rfl _ po) (fun _ => rfl)) (.inl rfl)) fun _ => K

def mdeq (c : Dev nD) (k : Fin 8) (a : F .f32) (K : PP F) : PP F :=
  deqC (k0_off16 c (BitVec.ofNat 32 k.val)) (k0_off16_inb c k) (k0_off17 c (BitVec.ofNat 32 k.val)) (k0_off17_inb c k) (k0_off17_packedbf16 c k) a K
def pdeq (c : Dev nD) (k : Fin 7) (a : F .f32) (K : PP F) : PP F :=
  deqC (k0_off20 c (BitVec.ofNat 32 k.val)) (k0_off20_inb c k) (k0_off21 c (BitVec.ofNat 32 k.val)) (k0_off21_inb c k) (k0_off21_packedbf16 c k) a K

/-- A hop of the gather phase that moves both directions on. -/
def gatherC (l r c : Dev nD) (a : F .f32) (k : Fin 6) (K : PP F) : PP F :=
  agWait c false k 0 <| agSend false l (mfwdP c k.castSucc 0) (k + 1) 0 <|
  agWait c false k 1 <| agSend false l (mfwdP c k.castSucc 1) (k + 1) 1 <|
  mdeq c k.castSucc.castSucc a <|
  agWait c true k 0 <| agSend true r (pfwdP c k 0) (k + 1) 0 <|
  agWait c true k 1 <| agSend true r (pfwdP c k 1) (k + 1) 1 <|
  pdeq c k.castSucc a K

/-- Its last two hops. -/
def gatherEnd (l c : Dev nD) (a : F .f32) (K : PP F) : PP F :=
  agWait c false 6 0 <| agSend false l (mfwdP c 6 0) 7 0 <|
  agWait c false 6 1 <| agSend false l (mfwdP c 6 1) 7 1 <|
  mdeq c 6 a <|
  agWait c true 6 0 <| agWait c true 6 1 <|
  pdeq c 6 a <|
  agWait c false 7 0 <| agWait c false 7 1 <|
  mdeq c 7 a K

/-- The barrier's semaphore. -/
abbrev barS : Sem sig := sig.barrier 0 rfl

/-- The neighbours, as the program computes them. -/
def lft (c : Dev nD) : Dev nD := ⟨k0_dev3 c, k0_dev3_lt c⟩
def rgt (c : Dev nD) : Dev nD := ⟨k0_dev5 c, k0_dev5_lt c⟩

/-- The whole body. -/
def ringBody : PP F :=
  .op .deviceId fun c =>
  .op (.semSignal (Dev.tc (lft c)) barS (1#32 : BitVec 32).toInt) fun _ =>
  .op (.semSignal (Dev.tc (rgt c)) barS (1#32 : BitVec 32).toInt) fun _ =>
  .op (.semWait barS (2#32 : BitVec 32).toInt) fun _ =>
  partC (k0_off1 c) (k0_off1_inb c) fun pm => seedC false pm <|
  partC (k0_off2 c) (k0_off2_inb c) fun pp => seedC true pp <|
  rsSend false (lft c) 0 0 (by decide) <| rsSend false (lft c) 0 1 (by decide) <|
  rsSend true (rgt c) 0 0 (by decide) <| rsSend true (rgt c) 0 1 (by decide) <|
  each (hopC (lft c) (rgt c) c) [0, 1, 2, 3, 4, 5] <|
  lastHops (lft c) c <|
  finishC c fun r0 r1 =>
  exchange c fun a =>
  quantC (ownP c 0) (k0_off10 c 0#32) (k0_off10_inb c 0) (k0_off10_packedbf16 c 0) a r0 <|
  quantC (ownP c 1) (k0_off10 c 128#32) (k0_off10_inb c 1) (k0_off10_packedbf16 c 1) a r1 <|
  agSend false (lft c) (sentP c 0) 0 0 <| agSend false (lft c) (sentP c 1) 0 1 <|
  agSend true (rgt c) (sentP c 0) 0 0 <| agSend true (rgt c) (sentP c 1) 0 1 <|
  each (gatherC (lft c) (rgt c) c a) [0, 1, 2, 3, 4, 5] <|
  gatherEnd (lft c) c a (.ret ⟨⟩)

end Cert.Proof
-- ==== Proof.Own.lean ====
/-
Ownership of part of a buffer, by the indices of a memref over it and the contents there.

`pts c M S q X` is the share `q` of the elements of `M`'s buffer on device `c` under `M`'s indices `S`, holding there what
`X` says. `X` is a function on all of `M`'s indices, so that splitting and joining along index sets leaves it alone.
-/
module

public import proofs.«01_k».proof.Proof.Body
public import Idealize.ShloMosaic.Lib.Pipeline.Launch
public import Idealize.ShloMosaic.Lib.Pipeline.Kit
public import Idealize.ShloMosaic.Lib.Tactic

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources: the pipeline's own and the cells of the body's semaphores, each duty named by a direction. -/
abbrev UB : Type := URounds (GSem nD τ sig) Bool
abbrev UU : Type := UR sig nD τ × UB

local notation "𝕄" => MT nD τ sig Unit (Elt F) ℕ UU ℕ

abbrev 𝒱₀ : Variants := Variants.none

variable {s : Shape} {e : EltTy} {sp : Space}

/-- The share `q` of the elements under `M`'s indices `S` on device `c`, holding `X` there. -/
def pts (c : Dev nD) (M : Memref sig .tc sp s e) (S : Finset s.Idx) (q : PosShare TreeShare) (X : s.Idx → Elt F e) : sProp 𝕄 :=
  iprop(∃ f : Buf (Elt F) (M.view.loc (c : Thread nD τ)), ⌜∀ i ∈ S, M.view.read (Elt F) f i = X i⌝
    ∗ M.view.loc (c : Thread nD τ) ↦[M.view.setOn S]{q} f)

section
variable (c : Dev nD) (M : Memref sig .tc sp s e) (S T : Finset s.Idx) (q : PosShare TreeShare) (X Y : s.Idx → Elt F e)

instance pts_storable : BI.Storable (upEmb : UEmb _ 𝕄) (pts c M S q X) := by unfold pts; infer_instance

/-- Only the contents under `S` matter. -/
theorem pts_congr (h : ∀ i ∈ S, X i = Y i) : (pts c M S q X : sProp 𝕄) = pts c M S q Y := by
  unfold pts
  congr 1
  funext f
  have : (∀ i ∈ S, M.view.read (Elt F) f i = X i) = (∀ i ∈ S, M.view.read (Elt F) f i = Y i) :=
    propext ⟨fun a i hi => (a i hi).trans (h i hi), fun a i hi => (a i hi).trans (h i hi).symm⟩
  rw [this]

/-- Elements known and owned are owned at what they are known to hold. -/
theorem pts_intro (f : Buf (Elt F) (M.view.loc (c : Thread nD τ))) (h : ∀ i ∈ S, M.view.read (Elt F) f i = X i) :
    (M.view.loc (c : Thread nD τ) ↦[M.view.setOn S]{q} f : sProp 𝕄) ⊢ pts c M S q X := by
  unfold pts
  iintro H
  iexists f
  isplitr
  · ipureintro; exact h
  · iexact H

theorem setOn_disjoint {S T : Finset s.Idx} (h : Disjoint S T) : Disjoint (M.view.setOn S) (M.view.setOn T) :=
  (Finset.disjoint_map M.view.emb).mpr h

theorem setOn_union : M.view.setOn (S ∪ T) = M.view.setOn S ∪ M.view.setOn T := Finset.map_union ..

/-- Along disjoint index sets. -/
theorem pts_split (h : Disjoint S T) : (pts c M (S ∪ T) q X : sProp 𝕄) ⊢ iprop(pts c M S q X ∗ pts c M T q X) := by
  unfold pts
  iintro ⟨%f, %hf, H⟩
  rw [setOn_union]
  ihave H := (pointsTo_union (setOn_disjoint M h)).1 $$ H
  icases H with ⟨H1, H2⟩
  isplitl [H1]
  · iexists f; isplitr
    · ipureintro; exact fun i hi => hf i (Finset.mem_union_left _ hi)
    · iexact H1
  · iexists f; isplitr
    · ipureintro; exact fun i hi => hf i (Finset.mem_union_right _ hi)
    · iexact H2

theorem read_at (f g : Buf (Elt F) (M.view.loc (c : Thread nD τ))) (i : s.Idx) (h : f (M.view.emb i) = g (M.view.emb i)) :
    M.view.read (Elt F) f i = M.view.read (Elt F) g i := View.read_congr_at i h

theorem pts_join (h : Disjoint S T) : (iprop(pts c M S q X ∗ pts c M T q X) : sProp 𝕄) ⊢ pts c M (S ∪ T) q X := by
  unfold pts
  iintro ⟨⟨%f, %hf, H1⟩, ⟨%g, %hg, H2⟩⟩
  iexists (M.view.setOn T).piecewise g f
  isplitr
  · ipureintro
    intro i hi
    by_cases hT : i ∈ T
    · rw [← hg i hT]
      exact read_at c M _ _ i (Finset.piecewise_eq_of_mem _ _ _ ((View.mem_setOn M.view).mpr hT))
    · rw [← hf i ((Finset.mem_union.mp hi).resolve_right hT)]
      exact read_at c M _ _ i (Finset.piecewise_eq_of_notMem _ _ _ fun h' => hT ((View.mem_setOn M.view).mp h'))
  · rw [setOn_union]
    iapply (pointsTo_join (setOn_disjoint M h))
    isplitl [H1]; · iexact H1
    iexact H2

/-- Along the share. -/
theorem pts_share :
    (pts c M S q X : sProp 𝕄) ⊢ iprop(pts c M S q.left X ∗ pts c M S q.right X) := by
  unfold pts
  iintro ⟨%f, %hf, H⟩
  ihave H := (pointsTo_share (PosShare.mem_left_op_right q)).1 $$ H
  icases H with ⟨H1, H2⟩
  isplitl [H1]
  · iexists f; isplitr
    · ipureintro; exact hf
    · iexact H1
  · iexists f; isplitr
    · ipureintro; exact hf
    · iexact H2

theorem read_inj (f g : Buf (Elt F) (M.view.loc (c : Thread nD τ))) (i : s.Idx)
    (h : M.view.read (Elt F) f i = M.view.read (Elt F) g i) : f (M.view.emb i) = g (M.view.emb i) := by
  rw [View.read_apply, View.read_apply] at h
  exact (cast_bijective _).injective h

theorem pts_unshare :
    (iprop(pts c M S q.left X ∗ pts c M S q.right X) : sProp 𝕄) ⊢ pts c M S q X := by
  unfold pts
  iintro ⟨⟨%f, %hf, H1⟩, ⟨%g, %hg, H2⟩⟩
  iexists f
  isplitr
  · ipureintro; exact hf
  · have hfg : ∀ i ∈ M.view.setOn S, g i = f i := by
      intro i hi
      obtain ⟨j, hj, rfl⟩ := Finset.mem_map.mp hi
      exact read_inj c M g f j ((hg j hj).trans (hf j hj).symm)
    ihave H2 := (Entails.of_eq (pointsTo_congr hfg)) $$ H2
    iapply (pointsTo_share (PosShare.mem_left_op_right q)).2
    isplitl [H1]; · iexact H1
    iexact H2

theorem rect_emb_mem (r : Rect s) (j : r.shape.Idx) : r.emb j ∈ r.set := by
  rw [← Rect.map_emb_univ]; exact Finset.mem_map_of_mem _ (Finset.mem_univ j)

theorem rect_mem {r : Rect s} {i : s.Idx} (h : i ∈ r.set) : ∃ j, r.emb j = i := by
  rw [← Rect.map_emb_univ] at h
  obtain ⟨j, -, e⟩ := Finset.mem_map.mp h
  exact ⟨j, e⟩

/-- Indices in a view's rectangle. -/
theorem setOn_rect_subset {r : Rect s} (h : r.set ⊆ S) : (M.access r).set ⊆ M.view.setOn S := by
  rw [View.set_slice]
  exact Finset.map_subset_map.mpr h

end

section
variable (c : Dev nD) (M : Memref sig .tc .vmem s e) (S : Finset s.Idx) (q : PosShare TreeShare) (X Y : s.Idx → Elt F e)

/-- The program `p` on device `c`, run to `Q`. -/
abbrev runs (c : Dev nD) (Q : PUnit → sProp 𝕄) (p : PP F) : sProp 𝕄 :=
  wp frame (wpE (defs₀ (F := F)) 𝒱₀ (c : Thread nD τ) none) Set.univ p Q

/-- A load reads the contents. -/
theorem pts_load {Q : PUnit → sProp 𝕄} {r : Rect s} {hl : M.view.LoadsAt r.toLoadRect} {K : (r.shape.Idx → Elt F e) → PP F} (h : r.set ⊆ S) :
    (pts c M S q X : sProp 𝕄) ⊢ iprop((pts c M S q X -∗ runs c Q (K fun j => X (r.emb j)))
      -∗ runs c Q (.op (.load M r.toLoadRect hl) K)) := by
  unfold pts
  iintro ⟨%f, %hf, H⟩ Hk
  iapply (wp_load_rect 𝒱₀ (c : Thread nD τ) none Set.univ (m := M) (r := r) (setOn_rect_subset M S h)) $$ H
  iintro H
  have hx : (M.access r).read (Elt F) f = fun j => X (r.emb j) := by
    funext j
    exact hf (r.emb j) (h (rect_emb_mem r j))
  rw [hx]
  iapply Hk
  iexists f
  isplitr
  · ipureintro; exact hf
  · iexact H

/-- A store through a rectangle changes the contents there and nowhere else. -/
theorem pts_store {Q : PUnit → sProp 𝕄} {r : Rect s} {w : r.shape.Idx → Elt F e} {hx : (M.access r).Stores Finset.univ}
    {hm : (Finset.univ : Finset r.shape.Idx) = Finset.univ ∨ ∀ a, r.stride a = 1} {K : PUnit → PP F} (h : r.set ⊆ S)
    (hw : ∀ j, Y (r.emb j) = w j) (ho : ∀ i ∈ S, i ∉ r.set → Y i = X i) :
    (pts c M S fullShare X : sProp 𝕄) ⊢ iprop((pts c M S fullShare Y -∗ runs c Q (K ⟨⟩))
      -∗ runs c Q (.op (.store M r w Finset.univ hx hm) K)) := by
  unfold pts
  iintro ⟨%f, %hf, H⟩ Hk
  iapply (wp_store 𝒱₀ (c : Thread nD τ) none Set.univ (m := M) (r := r) (Mk := Finset.univ) (setOn_rect_subset M S h)) $$ H
  iintro H
  iapply Hk
  iexists _
  isplitr
  swap
  · iexact H
  · ipureintro
    intro i hi
    by_cases hr : i ∈ r.set
    · obtain ⟨j, rfl⟩ := rect_mem hr
      rw [hw j]
      exact View.read_slice_write_emb (v := M.view) r f w (Finset.mem_univ j)
    · rw [ho i hi hr, ← hf i hi]
      exact View.read_slice_write_of_not_mem (v := M.view) r f w Finset.univ (by rw [Rect.map_emb_univ]; exact hr)

end

/-! ## Through the view a transfer names -/

section
variable (c : Dev nD) (M : Memref sig .tc sp s e) {off off' size : Fin s.rank → ℕ} (ho : ∀ a, off a + size a ≤ s.size a)
  (ho' : ∀ a, off' a + size a ≤ s.size a) (s' : Shape) (hq : (Rect.unit off size ho).shape.Squeezes s') (q : PosShare TreeShare) (X Y : s.Idx → Elt F e)

/-- The memref over a rectangle of `M`, unit axes dropped. -/
abbrev sqM {size : Fin s.rank → ℕ} (M : Memref sig .tc sp s e) (off : Fin s.rank → ℕ) (ho : ∀ a, off a + size a ≤ s.size a) (s' : Shape)
    (hq : (Rect.unit off size ho).shape.Squeezes s') : Memref sig .tc sp s' e :=
  (M.slice (Rect.unit off size ho) (fun _ => rfl)).squeeze s' hq

theorem sqM_set : (sqM M off ho s' hq).view.set = M.view.setOn (Rect.unit off size ho).set :=
  (View.set_reshape (M.view.slice (Rect.unit off size ho)) hq.numel_eq).trans (View.set_slice M.view _)

/-- Owned elements, seen through the transfer's view. -/
theorem pts_view : (pts c M (Rect.unit off size ho).set q X : sProp 𝕄) ⊢
    iprop(∃ f : Buf (Elt F) ((sqM M off ho s' hq).view.loc (c : Thread nD τ)),
      ⌜(sqM M off ho s' hq).view.read (Elt F) f = fun j => X ((Rect.unit off size ho).emb (Shape.reshapeEquiv hq.numel_eq j))⌝
      ∗ (sqM M off ho s' hq).view.loc (c : Thread nD τ) ↦[(sqM M off ho s' hq).view.set]{q} f) := by
  unfold pts
  rw [sqM_set]
  iintro ⟨%f, %hf, H⟩
  iexists f
  isplitr
  · ipureintro
    funext j
    exact hf _ (rect_emb_mem _ _)
  · iexact H

/-- And back. -/
theorem view_pts (f : Buf (Elt F) ((sqM M off ho s' hq).view.loc (c : Thread nD τ)))
    (hf : (sqM M off ho s' hq).view.read (Elt F) f = fun j => X ((Rect.unit off size ho).emb (Shape.reshapeEquiv hq.numel_eq j))) :
    ((sqM M off ho s' hq).view.loc (c : Thread nD τ) ↦[(sqM M off ho s' hq).view.set]{q} f : sProp 𝕄)
      ⊢ pts c M (Rect.unit off size ho).set q X := by
  unfold pts
  rw [sqM_set]
  iintro H
  iexists f
  isplitr
  · ipureintro
    intro i hi
    obtain ⟨j, rfl⟩ := rect_mem hi
    have := congrFun hf ((Shape.reshapeEquiv hq.numel_eq).symm j)
    simp only [Equiv.apply_symm_apply] at this
    rw [← this]
    show _ = M.view.read (Elt F) f ((Rect.unit off size ho).emb (Shape.reshapeEquiv hq.numel_eq ((Shape.reshapeEquiv hq.numel_eq).symm j)))
    rw [Equiv.apply_symm_apply]
  · iexact H

/-- What lands through the view. -/
theorem landed_pts (hq' : (Rect.unit off' size ho').shape.Squeezes s') (fd : Buf (Elt F) ((sqM M off' ho' s' hq').view.loc (c : Thread nD τ)))
    (w : s'.Idx → Elt F e) (hw : w = fun j => X ((Rect.unit off size ho).emb (Shape.reshapeEquiv hq.numel_eq j)))
    (hXY : ∀ j : (Rect.unit off size ho).shape.Idx, Y ((Rect.unit off' size ho').emb j) = X ((Rect.unit off size ho).emb j)) :
    ((sqM M off' ho' s' hq').view.loc (c : Thread nD τ) ↦[(sqM M off' ho' s' hq').view.set]{q}
        ((sqM M off' ho' s' hq').view.write (Elt F) fd w Finset.univ) : sProp 𝕄)
      ⊢ pts c M (Rect.unit off' size ho').set q Y := by
  refine view_pts c M ho' s' hq' q Y _ ?_
  rw [View.read_write_univ, hw]
  funext j
  exact (hXY _).symm

end

/-- A buffer held whole, as ownership under all the indices of its memref, and back. -/
theorem pts_of_whole (c : Dev nD) (b : Ref sig .tc) (q : PosShare TreeShare) (f : b.ty.Contents (Elt F)) :
    (((c : Thread nD τ).loc b) ↦{q} f : sProp 𝕄) ⊢ pts c (Memref.whole b) Finset.univ q f := by
  iintro H
  iapply (pts_intro c (Memref.whole b) Finset.univ q f f fun i _ => rfl)
  rw [View.setOn_univ, View.set_whole]
  iexact H

theorem whole_of_pts (c : Dev nD) (b : Ref sig .tc) (q : PosShare TreeShare) (f : b.ty.Contents (Elt F)) :
    (pts c (Memref.whole b) Finset.univ q f : sProp 𝕄) ⊢ (((c : Thread nD τ).loc b) ↦{q} f) := by
  unfold pts
  iintro ⟨%g, %hg, H⟩
  have : g = f := funext fun i => hg i (Finset.mem_univ i)
  subst this
  rw [View.setOn_univ, View.set_whole]
  iexact H

end Cert.Proof
-- ==== Proof.Vals.lean ====
/-
What the buffers hold, as functions of the devices' operands: the running sums of both rings, the finished chunks, their
maxima, the quantised chunks and the result. Generic in the float interpretation.
-/
module

public import proofs.«01_k».proof.Proof.Own
public import Idealize.ShloMosaic.Lib.PointwiseCore

@[expose] public section

noncomputable section

namespace Cert.Proof

open Cert.KernelIdeal Cert.KernelIdeal.Gen
open Idealize.ShloMosaic Idealize.ShloMosaic.TcCoe

variable {F : FTy → Type} [FloatOps F]

/-! ## The two rings -/

/-- The neighbour direction `d` sends to. -/
def nb (d : Bool) (c : Dev nD) : Dev nD := if d then c + 1 else c - 1
/-- The chunk a device adds to in hop `k` of direction `d`: the one finished, after all the hops, where it ends. -/
def ch (d : Bool) (c : Dev nD) (k : ℕ) : Dev nD :=
  if d then ⟨(c.val + 7 + 16 * 8 - k % 16) % 16, Nat.mod_lt _ (by decide)⟩ else ⟨(c.val + 8 + k) % 16, Nat.mod_lt _ (by decide)⟩
/-- The device `j` places up the stream that flows in direction `d`. -/
def go (d : Bool) (c : Dev nD) (j : ℕ) : Dev nD :=
  if d then ⟨(c.val + 16 * 8 - j % 16) % 16, Nat.mod_lt _ (by decide)⟩ else ⟨(c.val + j) % 16, Nat.mod_lt _ (by decide)⟩

theorem lft_eq (c : Dev nD) : lft c = nb false c := by revert c; decide
theorem rgt_eq (c : Dev nD) : rgt c = nb true c := by revert c; decide
theorem nb_nb (d : Bool) (c : Dev nD) : nb d (nb (!d) c) = c := by revert d c; decide
theorem nb_nb' (d : Bool) (c : Dev nD) : nb (!d) (nb d c) = c := by revert d c; decide

theorem nb_val (d : Bool) (c : Dev nD) : (nb d c).val = if d then (c.val + 1) % 16 else (c.val + 15) % 16 := by
  revert d c; decide

theorem ch_nb (d : Bool) (c : Dev nD) (k : ℕ) : ch d (nb d c) (k + 1) = ch d c k := by
  apply Fin.ext
  have h := nb_val d c
  cases d <;> simp only [ch, Bool.false_eq_true, if_true, if_false] at h ⊢ <;> rw [h] <;> omega

theorem go_nb (d : Bool) (c : Dev nD) (k : ℕ) : go d (nb d c) (k + 1) = go d c k := by
  apply Fin.ext
  have h := nb_val d c
  cases d <;> simp only [go, Bool.false_eq_true, if_true, if_false] at h ⊢ <;> rw [h] <;> omega

theorem go_zero (d : Bool) (c : Dev nD) : go d c 0 = c := by revert d c; decide

/-! ## The contents -/

/-- A chunk of the activations. -/
def xch (X : Vec F S4096x256 .bf16) (q : Dev nD) : Vec F S256x256 .bf16 :=
  fun j => X (ix2 ⟨256 * q.val + (j 0).val, by have hq : q.val < 16 := q.isLt; have : (j 0).val < 256 := (j 0).isLt; show _ < 4096; omega⟩ (j 1))

variable (x : Dev nD → Vec F S4096x256 .bf16) (w : Dev nD → Vec F S256x2048 .bf16)

/-- Device `c`'s product for chunk `q`. -/
def prt (c q : Dev nD) : FVec F S256x2048 .f32 := partV (xch (x c) q) (w c)

/-- The running sum device `c` has made by hop `k` of direction `d`. -/
def acc (d : Bool) : Dev nD → ℕ → FVec F S256x2048 .bf16
  | c, 0 => truncf .bf16 (prt x w c (ch d c 0)) bitsLt_bf16_f32
  | c, k + 1 => truncf .bf16 (addf (extf .f32 (acc d (nb (!d) c) k) bitsLt_bf16_f32) (prt x w c (ch d c (k + 1)))) bitsLt_bf16_f32

/-- A direction's buffer once this device has added to every slot. -/
def AC (d : Bool) (c : Dev nD) : (Sl (slots d)).Idx → Elt F .bf16 := fun i => acc x w d c (i 0).val (ix2 (i 1) (i 2))
/-- The same as received. -/
def RV (d : Bool) (c : Dev nD) : (Sl (slots d)).Idx → Elt F .bf16 := fun i => acc x w d (nb (!d) c) ((i 0).val - 1) (ix2 (i 1) (i 2))

/-- The finished chunk of device `c`. -/
def fin (c : Dev nD) : FVec F S256x2048 .f32 :=
  maximumf (addf (addf (extf .f32 (acc x w false (nb true c) 7) bitsLt_bf16_f32) (extf .f32 (acc x w true (nb false c) 6) bitsLt_bf16_f32)) (prt x w c c))
    (broadcast S256x2048 (Scalar.ofBits .f32 0x00000000#32))

/-- Its greatest element, filling a row. -/
def amaxRow (c : Dev nD) : FVec F S8x128 .f32 := amaxV (cut 0 (by decide) (fin x w c)) (cut 1 (by decide) (fin x w c))
/-- All the rows. -/
def AALL : S16x8x128.Idx → Elt F .f32 := fun i => amaxRow x w (i 0) (ix2 (i 1) (i 2))
/-- The greatest element of all. -/
def top : F .f32 := topV (AALL x w)

/-- The quantised chunk of device `q`. -/
def qch (q : Dev nD) : IVec S256x2048 8 :=
  fptosi 8 (minimumf (broadcast S256x2048 (Scalar.ofBits .f32 0x42FE0000#32))
    (maximumf (broadcast S256x2048 (Scalar.ofBits .f32 0x00000000#32)) (roundeven (mulf (fin x w q) (broadcast S256x2048 (invV (top x w)))))))
/-- All of them. -/
def QALL : (Sl 16).Idx → Elt F .i8 := fun i => qch x w (i 0) (ix2 (i 1) (i 2))
/-- The chunk an element of the result is in, and its place there. -/
def inCh (i : S4096x2048.Idx) : Dev nD := ⟨(i 0).val / 256, by have : (i 0).val < 4096 := (i 0).isLt; show _ < 16; omega⟩
def inIx (i : S4096x2048.Idx) : S256x2048.Idx := ix2 ⟨(i 0).val % 256, Nat.mod_lt _ (by decide)⟩ (i 1)
/-- The result. -/
def OUT : S4096x2048.Idx → Elt F .bf16 := fun i => deqV (top x w) (qch x w (inCh i)) (inIx i)

theorem OUT_at (q : Dev nD) (r : Fin 256) (b : Fin 2048) (h : 256 * q.val + r.val < 4096) :
    OUT x w (ix2 (n0 := 4096) (n1 := 2048) ⟨256 * q.val + r.val, h⟩ b) = deqV (top x w) (qch x w q) (ix2 r b) := by
  have h1 : inCh (ix2 (n0 := 4096) (n1 := 2048) ⟨256 * q.val + r.val, h⟩ b) = q := by
    apply Fin.ext
    show (256 * q.val + r.val) / 256 = q.val
    omega
  have h2 : inIx (ix2 (n0 := 4096) (n1 := 2048) ⟨256 * q.val + r.val, h⟩ b) = ix2 r b := by
    funext i
    apply Fin.ext
    match i with
    | 0 => show (256 * q.val + r.val) % 256 = r.val; omega
    | 1 => rfl
  unfold OUT
  rw [h1, h2]

theorem deqV_congr (a : F .f32) (u v : IVec S256x2048 8) (j : S256x2048.Idx) (h : u j = v j) : deqV a u j = deqV a v j := by
  unfold deqV
  rw [truncf_apply, truncf_apply, mulf_apply, mulf_apply]
  have : (sitofp .f32 u : FVec F S256x2048 .f32) j = (sitofp .f32 v : FVec F S256x2048 .f32) j := by
    unfold sitofp; rw [h]
  rw [this]

theorem deqH_cut (a : F .f32) (v : IVec S256x2048 8) (s : ℕ) (hs : s < 2) : deqH a (cut s hs v) = cut s hs (deqV a v) := by
  unfold deqH deqV
  funext j
  obtain ⟨i, b, rfl⟩ : ∃ (i : Fin 128) (b : Fin 2048), j = ix2 i b := ⟨j 0, j 1, eq_ix2 j⟩
  rfl

/-! ## What the body's loads and stores see -/

theorem read_x (X : Vec F S4096x256 .bf16) (q : Dev nD) (o : Fin 2 → ℕ) (ho : ∀ a, o a + S256x256.size a ≤ S4096x256.size a)
    (h : o = ![256 * q.val, 0]) : (fun j => X ((Rect.unit (s := S4096x256) o S256x256.size ho).emb j)) = xch X q := by
  subst h
  funext j
  refine congrArg X (funext fun a => Fin.ext ?_)
  rw [Rect.emb_apply]
  match a with
  | 0 => show 256 * q.val + 1 * (j 0).val = 256 * q.val + (j 0).val; omega
  | 1 => show 0 + 1 * (j 1).val = (j 1).val; omega

theorem read_w (W : Vec F S256x2048 .bf16) :
    (fun j => W ((Rect.unit (s := S256x2048) ![0, 0] S256x2048.size inb_S256x2048_S256x2048_0_0).emb j)) = W := by
  funext j
  refine congrArg W (funext fun a => Fin.ext ?_)
  rw [Rect.emb_apply]
  match a with
  | 0 => show 0 + 1 * (j 0).val = (j 0).val; omega
  | 1 => show 0 + 1 * (j 1).val = (j 1).val; omega

/-- An index of half a slot, placed in the stack. -/
theorem half_emb {n k s : ℕ} (h : k < n ∧ s < 2) (a : Fin 128) (b : Fin 2048) :
    (half n k s h).rect.emb (ix3 (n0 := 1) (n1 := 128) (n2 := 2048) 0 a b) = (ix3 (n0 := n) (n1 := 256) (n2 := 2048) ⟨k, h.1⟩ ⟨128 * s + a.val, by omega⟩ b) := by
  funext i
  apply Fin.ext
  rw [Rect.emb_apply]
  match i with
  | 0 => show k + 1 * 0 = k; omega
  | 1 => show 128 * s + 1 * a.val = 128 * s + a.val; omega
  | 2 => show 0 + 1 * b.val = b.val; omega

theorem ix_half (j : S1x128x2048.Idx) : ∃ (a : Fin 128) (b : Fin 2048), j = ix3 (n0 := 1) (n1 := 128) (n2 := 2048) 0 a b :=
  ⟨j 1, j 2, by
    funext i
    match i with
    | 0 => exact Subsingleton.elim (α := Fin 1) _ _
    | 1 => rfl
    | 2 => rfl⟩

theorem flat_apply {e : EltTy} (v : Vec F S1x128x2048 e) (a : Fin 128) (b : Fin 2048) :
    flat (F := F) (e := e) v (ix2 a b) = v (ix3 (n0 := 1) (n1 := 128) (n2 := 2048) 0 a b) := by
  pointwise [flat]

theorem lift1_apply {e : EltTy} (v : Vec F S128x2048 e) (a : Fin 128) (b : Fin 2048) :
    lift1 (F := F) (e := e) v (ix3 (n0 := 1) (n1 := 128) (n2 := 2048) 0 a b) = v (ix2 a b) := by
  pointwise [lift1]

theorem cut_apply {α : Type} (s : ℕ) (hs : s < 2) (v : S256x2048.Idx → α) (a : Fin 128) (b : Fin 2048) :
    cut s hs v (ix2 a b) = v (ix2 (n0 := 256) (n1 := 2048) ⟨128 * s + a.val, by omega⟩ b) := by
  refine congrArg v (funext fun i => Fin.ext ?_)
  match i with
  | 0 => show 128 * s + a.val = 128 * s + a.val; rfl
  | 1 => show 0 + b.val = b.val; omega

theorem ix_flat (j : S128x2048.Idx) : ∃ (a : Fin 128) (b : Fin 2048), j = ix2 a b := ⟨j 0, j 1, eq_ix2 j⟩

/-- What a hop stores is the running sum. -/
theorem acc_store (d : Bool) (c : Dev nD) (k s : ℕ) (h : k + 1 < slots d ∧ s < 2) (j : S1x128x2048.Idx) :
    AC x w d c ((half (slots d) (k + 1) s h).rect.emb j)
      = lift1 (F := F) (e := .bf16) (accV s h.2 (prt x w c (ch d c (k + 1)))
          (flat (F := F) (e := .bf16) fun j => RV x w d c ((half (slots d) (k + 1) s h).rect.emb j))) j := by
  obtain ⟨a, b, rfl⟩ := ix_half j
  rw [lift1_apply, half_emb]
  unfold accV
  rw [truncf_apply, addf_apply, extf_apply, flat_apply, half_emb, cut_apply]
  rfl

/-- What the first store puts in slot 0. -/
theorem seed_store (d : Bool) (c : Dev nD) (j : S1x256x2048.Idx) :
    AC x w d c ((Rect.unit (s := Sl (slots d)) ![0, 0, 0] S1x256x2048.size (inb_slot0 d)).emb j)
      = shapeCast S1x256x2048 (truncf .bf16 (prt x w c (ch d c 0)) bitsLt_bf16_f32 : FVec F S256x2048 .bf16) shapeCasts_S256x2048_S1x256x2048 j := by
  obtain ⟨u, a, b, rfl⟩ : ∃ (u : Fin 1) (a : Fin 256) (b : Fin 2048), j = ix3 u a b := ⟨j 0, j 1, j 2, eq_ix3 j⟩
  have e : (Rect.unit (s := Sl (slots d)) ![0, 0, 0] S1x256x2048.size (inb_slot0 d)).emb (ix3 (n0 := 1) (n1 := 256) (n2 := 2048) u a b)
      = ix3 (n0 := slots d) (n1 := 256) (n2 := 2048) ⟨0, by cases d <;> decide⟩ a b := by
    funext i
    apply Fin.ext
    rw [Rect.emb_apply]
    match i with
    | 0 => show 0 + 1 * u.val = 0; omega
    | 1 => show 0 + 1 * a.val = a.val; omega
    | 2 => show 0 + 1 * b.val = b.val; omega
  rw [e]
  pointwise
  rfl

/-- What one device sends is what the next receives. -/
theorem recv_send (d : Bool) (c : Dev nD) (k s : ℕ) (h : k + 1 < slots d ∧ s < 2) (h' : k < slots d ∧ s < 2) (j : S1x128x2048.Idx) :
    RV x w d (nb d c) ((half (slots d) (k + 1) s h).rect.emb j) = AC x w d c ((half (slots d) k s h').rect.emb j) := by
  obtain ⟨a, b, rfl⟩ := ix_half j
  rw [half_emb, half_emb]
  unfold RV AC
  rw [nb_nb']
  rfl

/-- The finished half chunk. -/
theorem fin_half (c : Dev nD) (s : ℕ) (hs : s < 2) (h8 : 8 < slots false ∧ s < 2) (h7 : 7 < slots true ∧ s < 2) :
    finV s hs (prt x w c c) (flat (F := F) (e := .bf16) fun j => RV x w false c ((half (slots false) 8 s h8).rect.emb j))
        (flat (F := F) (e := .bf16) fun j => RV x w true c ((half (slots true) 7 s h7).rect.emb j))
      = cut s hs (fin x w c) := by
  funext j
  obtain ⟨a, b, rfl⟩ := ix_flat j
  rw [cut_apply]
  unfold finV fin
  rw [maximumf_apply, addf_apply, addf_apply, extf_apply, extf_apply, flat_apply, flat_apply, half_emb, half_emb, cut_apply]
  rfl

/-- A row of maxima, in its place. -/
theorem row_store (c : Dev nD) (o : Fin 3 → ℕ) (ho : ∀ a, o a + S1x8x128.size a ≤ S16x8x128.size a) (h : o = ![c.val, 0, 0]) (j : S1x8x128.Idx) :
    AALL x w ((rowR o ho).emb j) = shapeCast S1x8x128 (amaxRow x w c) shapeCasts_S8x128_S1x8x128 j := by
  subst h
  obtain ⟨u, a, b, rfl⟩ : ∃ (u : Fin 1) (a : Fin 8) (b : Fin 128), j = ix3 u a b := ⟨j 0, j 1, j 2, eq_ix3 j⟩
  have e : (rowR ![c.val, 0, 0] ho).emb (ix3 (n0 := 1) (n1 := 8) (n2 := 128) u a b) = ix3 (n0 := 16) (n1 := 8) (n2 := 128) c a b := by
    funext i
    apply Fin.ext
    rw [Rect.emb_apply]
    match i with
    | 0 => show c.val + 1 * u.val = c.val; omega
    | 1 => show 0 + 1 * a.val = a.val; omega
    | 2 => show 0 + 1 * b.val = b.val; omega
  rw [e]
  pointwise
  rfl

/-- An index of rows of the result, in its place. -/
theorem out_emb {n : ℕ} (o : ℕ) (ho : ∀ a, (![o, 0] : Fin 2 → ℕ) a + (![n, 2048] : Fin 2 → ℕ) a ≤ S4096x2048.size a)
    (a : Fin n) (b : Fin 2048) (h : o + a.val < 4096) :
    (Rect.unit (s := S4096x2048) ![o, 0] ![n, 2048] ho).emb (ix2 (n0 := n) (n1 := 2048) a b) = ix2 (n0 := 4096) (n1 := 2048) ⟨o + a.val, h⟩ b := by
  funext i
  apply Fin.ext
  rw [Rect.emb_apply]
  match i with
  | 0 => show o + 1 * a.val = o + a.val; omega
  | 1 => show 0 + 1 * b.val = b.val; omega

theorem quant_half (c : Dev nD) (s : ℕ) (hs : s < 2) : quantV (top x w) (cut s hs (fin x w c)) = cut s hs (qch x w c) := rfl

/-- The quantised half chunk, in its place. -/
theorem quant_store (c : Dev nD) (s : ℕ) (hs : s < 2) (h : c.val < 16 ∧ s < 2) (j : S1x128x2048.Idx) :
    QALL x w ((half 16 c.val s h).rect.emb j) = lift1 (F := F) (e := .i8) (quantV (top x w) (cut s hs (fin x w c))) j := by
  obtain ⟨a, b, rfl⟩ := ix_half j
  rw [lift1_apply, half_emb, quant_half, cut_apply]
  rfl

/-- And read back. -/
theorem quant_out (c : Dev nD) (s : ℕ) (hs : s < 2) (o : Fin 2 → ℕ) (ho : ∀ a, o a + S128x2048.size a ≤ S4096x2048.size a)
    (h : o = ![256 * c.val + 128 * s, 0]) (j : S128x2048.Idx) :
    OUT x w ((Rect.unit (s := S4096x2048) o S128x2048.size ho).emb j) = deqH (top x w) (quantV (top x w) (cut s hs (fin x w c))) j := by
  subst h
  obtain ⟨a, b, rfl⟩ := ix_flat j
  have hc : c.val < 16 := c.isLt
  refine (congrArg (OUT x w) (out_emb (n := 128) (256 * c.val + 128 * s) ho a b (by omega))).trans ?_
  have e : (⟨256 * c.val + 128 * s + a.val, by omega⟩ : Fin 4096) = ⟨256 * c.val + (128 * s + a.val), by omega⟩ := Fin.ext (Nat.add_assoc _ _ _)
  rw [e, OUT_at x w c ⟨128 * s + a.val, by omega⟩ b (by show 256 * c.val + (128 * s + a.val) < 4096; omega), quant_half, deqH_cut, cut_apply]

/-- A whole chunk read back. -/
theorem deq_out (q : Dev nD) (o : Fin 3 → ℕ) (ho : ∀ a, o a + S1x256x2048.size a ≤ (Sl 16).size a) (h : o = ![q.val, 0, 0])
    (o' : Fin 2 → ℕ) (ho' : ∀ a, o' a + S256x2048.size a ≤ S4096x2048.size a) (h' : o' = ![256 * q.val, 0]) (j : S256x2048.Idx) :
    OUT x w ((Rect.unit (s := S4096x2048) o' S256x2048.size ho').emb j)
      = deqV (top x w) (shapeCast S256x2048 (fun j => QALL x w ((Rect.unit (s := Sl 16) o S1x256x2048.size ho).emb j) : Vec F S1x256x2048 .i8)
          shapeCasts_S1x256x2048_S256x2048) j := by
  subst h h'
  have hq : q.val < 16 := q.isLt
  obtain ⟨a, b, rfl⟩ : ∃ (a : Fin 256) (b : Fin 2048), j = ix2 a b := ⟨j 0, j 1, eq_ix2 j⟩
  have e : (Rect.unit (s := Sl 16) ![q.val, 0, 0] S1x256x2048.size ho).emb (ix3 (n0 := 1) (n1 := 256) (n2 := 2048) 0 a b)
      = ix3 (n0 := 16) (n1 := 256) (n2 := 2048) q a b := by
    funext i
    apply Fin.ext
    rw [Rect.emb_apply]
    match i with
    | 0 => show q.val + 1 * 0 = q.val; omega
    | 1 => show 0 + 1 * a.val = a.val; omega
    | 2 => show 0 + 1 * b.val = b.val; omega
  have e' : shapeCast S256x2048 (fun j => QALL x w ((Rect.unit (s := Sl 16) ![q.val, 0, 0] S1x256x2048.size ho).emb j) : Vec F S1x256x2048 .i8)
      shapeCasts_S1x256x2048_S256x2048 (ix2 a b) = qch x w q (ix2 a b) := by
    pointwise
    rw [e]
    rfl
  have e2 : OUT x w ((Rect.unit (s := S4096x2048) ![256 * q.val, 0] S256x2048.size ho').emb (ix2 (n0 := 256) (n1 := 2048) a b))
      = deqV (top x w) (qch x w q) (ix2 (n0 := 256) (n1 := 2048) a b) :=
    (congrArg (OUT x w) (out_emb (n := 256) (256 * q.val) ho' a b (by omega))).trans (OUT_at x w q a b (by omega))
  rw [e2]
  exact deqV_congr _ _ _ _ e'.symm

end Cert.Proof
-- ==== Proof.Sched.lean ====
/-
The schedule of the body's semaphores: which cell each is, what a credit on it hands over, in which order a device pays, and
the levels that order its waits.

Every cell has one round. A barrier cell has two duties, one from each neighbour, which hands over the places the device
will send into; every other cell has one duty. Reading a transfer's landing cell hands over what landed.
-/
module

public import proofs.«01_k».proof.Proof.Vals

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Kinds of cells -/

/-- What a semaphore is for: direction, hop and half, or distance. -/
inductive CK where
  | bar
  | rsS (d : Bool) (k s : ℕ)
  | rsR (d : Bool) (k s : ℕ)
  | agS (d : Bool) (k s : ℕ)
  | agR (d : Bool) (k s : ℕ)
  | axS (i : ℕ)
  | axR (i : ℕ)
  | pipe
  deriving DecidableEq

/-- The kind of the `n`-th DMA semaphore. -/
def dk (n : ℕ) : CK :=
  if n < 3 then .pipe
  else if n < 19 then .rsS false ((n - 3) / 2) ((n - 3) % 2)
  else if n < 35 then .rsR false ((n - 19) / 2) ((n - 19) % 2)
  else if n < 49 then .rsS true ((n - 35) / 2) ((n - 35) % 2)
  else if n < 63 then .rsR true ((n - 49) / 2) ((n - 49) % 2)
  else if n < 79 then .agS false ((n - 63) / 2) ((n - 63) % 2)
  else if n < 95 then .agR false ((n - 79) / 2) ((n - 79) % 2)
  else if n < 109 then .agS true ((n - 95) / 2) ((n - 95) % 2)
  else if n < 123 then .agR true ((n - 109) / 2) ((n - 109) % 2)
  else if n < 138 then .axS (n - 123)
  else .axR (n - 138)

def kind : SemLoc sig → CK
  | .reg _ => .bar
  | .dma q => dk q.val

/-- Hops of a direction. -/
abbrev ns (d : Bool) : ℕ := if d then 7 else 8

theorem kind_rsS (d : Bool) (k s : ℕ) (h : k < ns d ∧ s < 2) : kind (.dma (rsS d k s)) = .rsS d k s := by
  have : ∀ d, ∀ k < ns d, ∀ s < 2, kind (.dma (rsS d k s)) = CK.rsS d k s := by decide
  exact this d k h.1 s h.2
theorem kind_rsR (d : Bool) (k s : ℕ) (h : k < ns d ∧ s < 2) : kind (.dma (rsR d k s)) = .rsR d k s := by
  have : ∀ d, ∀ k < ns d, ∀ s < 2, kind (.dma (rsR d k s)) = CK.rsR d k s := by decide
  exact this d k h.1 s h.2
theorem kind_agS (d : Bool) (k s : ℕ) (h : k < ns d ∧ s < 2) : kind (.dma (agS d k s)) = .agS d k s := by
  have : ∀ d, ∀ k < ns d, ∀ s < 2, kind (.dma (agS d k s)) = CK.agS d k s := by decide
  exact this d k h.1 s h.2
theorem kind_agR (d : Bool) (k s : ℕ) (h : k < ns d ∧ s < 2) : kind (.dma (agR d k s)) = .agR d k s := by
  have : ∀ d, ∀ k < ns d, ∀ s < 2, kind (.dma (agR d k s)) = CK.agR d k s := by decide
  exact this d k h.1 s h.2
theorem kind_axS (i : ℕ) (h : i < 15) : kind (.dma (axS i)) = .axS i := by
  have : ∀ i < 15, kind (.dma (axS i)) = CK.axS i := by decide
  exact this i h
theorem kind_axR (i : ℕ) (h : i < 15) : kind (.dma (axR i)) = .axR i := by
  have : ∀ i < 15, kind (.dma (axR i)) = CK.axR i := by decide
  exact this i h

/-! ## Sets of indices -/

/-- Half `s` of chunk `k` of a stack. -/
def hs (n k s : ℕ) : Finset (Sl n).Idx := Finset.univ.filter fun i => (i 0).val = k ∧ (i 1).val / 128 = s

theorem half_set {n k s : ℕ} (h : k < n ∧ s < 2) : (half n k s h).rect.set = hs n k s := by
  ext i
  have h1 : (i 1).val < 256 := (i 1).isLt
  have h2 : (i 2).val < 2048 := (i 2).isLt
  rw [Rect.mem_set_unit]
  simp only [hs, Finset.mem_filter, Finset.mem_univ, true_and]
  constructor
  · intro a
    have a0 : k ≤ (i 0).val ∧ (i 0).val < k + 1 := a 0
    have a1 : 128 * s ≤ (i 1).val ∧ (i 1).val < 128 * s + 128 := a 1
    omega
  · rintro ⟨a0, a1⟩ a
    match a with
    | 0 => show k ≤ (i 0).val ∧ (i 0).val < k + 1; omega
    | 1 => show 128 * s ≤ (i 1).val ∧ (i 1).val < 128 * s + 128; omega
    | 2 => show 0 ≤ (i 2).val ∧ (i 2).val < 0 + 2048; omega

/-- A row of maxima. -/
def rowSet (o : Dev nD) : Finset S16x8x128.Idx := Finset.univ.filter fun i => (i 0).val = o.val

theorem row_set (c : Dev nD) (o : Fin 3 → ℕ) (ho : ∀ a, o a + S1x8x128.size a ≤ S16x8x128.size a) (h : o = ![c.val, 0, 0]) :
    (rowR o ho).set = rowSet c := by
  subst h
  ext i
  have h1 : (i 1).val < 8 := (i 1).isLt
  have h2 : (i 2).val < 128 := (i 2).isLt
  rw [Rect.mem_set_unit]
  simp only [rowSet, Finset.mem_filter, Finset.mem_univ, true_and]
  constructor
  · intro a
    have a0 : c.val ≤ (i 0).val ∧ (i 0).val < c.val + 1 := a 0
    omega
  · rintro a0 a
    match a with
    | 0 => show c.val ≤ (i 0).val ∧ (i 0).val < c.val + 1; omega
    | 1 => show 0 ≤ (i 1).val ∧ (i 1).val < 0 + 8; omega
    | 2 => show 0 ≤ (i 2).val ∧ (i 2).val < 0 + 128; omega

/-! ## Credits -/

/-- A half chunk's credit in a direction's buffer, in the quantised buffer, and a row's. -/
def nRS (d : Bool) : ℕ := (hM (bufM d) (half (slots d) 0 0 ⟨by cases d <;> decide, by decide⟩)).view.dmaCredit
def nAG : ℕ := (hM qM (half 16 0 0 (by decide))).view.dmaCredit
def nAX : ℕ := (rowM ![0, 0, 0] (by decide)).view.dmaCredit

theorem nRS_pos (d : Bool) : 0 < nRS d := View.dmaCredit_pos _ (by decide)
theorem nAG_pos : 0 < nAG := View.dmaCredit_pos _ (by decide)
theorem nAX_pos : 0 < nAX := View.dmaCredit_pos _ (by decide)

def amtK : CK → ℕ
  | .bar => 1
  | .rsS d _ _ => nRS d
  | .rsR d _ _ => nRS d
  | .agS _ _ _ => nAG
  | .agR _ _ _ => nAG
  | .axS _ => nAX
  | .axR _ => nAX
  | .pipe => 1

theorem amtK_pos (k : CK) : 0 < amtK k := by
  cases k <;> first | exact Nat.one_pos | exact nRS_pos _ | exact nAG_pos | exact nAX_pos

/-! ## What is handed over -/

variable (x : Dev nD → Vec F S4096x256 .bf16) (w : Dev nD → Vec F S256x2048 .bf16)

/-- Half a slot, half a quantised chunk, a row, each at any contents. -/
def slotF (c : Dev nD) (d : Bool) (k s : ℕ) : sProp 𝕄 := iprop(∃ X, pts c (bufM d) (hs (slots d) k s) fullShare X)
def qF (c q : Dev nD) (s : ℕ) : sProp 𝕄 := iprop(∃ X, pts c qM (hs 16 q.val s) fullShare X)
def rowF (t o : Dev nD) : sProp 𝕄 := iprop(∃ X, pts t aM (rowSet o) fullShare X)

/-- The places device `c` receives into in hop `k` of direction `d`. -/
def spot (d : Bool) (c : Dev nD) (k : ℕ) : sProp 𝕄 :=
  iprop((slotF c d (k + 1) 0 ∗ slotF c d (k + 1) 1) ∗ qF c (go d c (k + 1)) 0 ∗ qF c (go d c (k + 1)) 1)
/-- All of a direction's. -/
def spots (d : Bool) (c : Dev nD) : sProp 𝕄 := bigSep (Finset.range (ns d)) (spot d c)

/-- The rows the chunk of slot `k` has collected on its way: where its finisher will write its maximum. -/
def pile (d : Bool) (c : Dev nD) (k : ℕ) : sProp 𝕄 := bigSep (Finset.range k) fun j => rowF (go d c (1 + j)) (ch d c k)

/-- The shares a row is sent at, and what is left. -/
def rest : ℕ → PosShare TreeShare
  | 0 => fullShare
  | n + 1 => (rest n).right
def shr (n : ℕ) : PosShare TreeShare := (rest n).left

/-- The share a quantised chunk is sent at. -/
def qsh (d : Bool) (k : ℕ) : PosShare TreeShare := if k = 0 ∧ d = true then fullShare.right else fullShare.left

/-- The device a row comes from, by distance less one, and the one it goes to. -/
def axSrc (c : Dev nD) (i : ℕ) : Dev nD := ⟨(c.val + 16 * 8 - (1 + i) % 16) % 16, Nat.mod_lt _ (by decide)⟩
def axTgt (c : Dev nD) (i : ℕ) : Dev nD := ⟨(c.val + 1 + i) % 16, Nat.mod_lt _ (by decide)⟩

def payK (c : Dev nD) (d : Bool) : CK → sProp 𝕄
  | .bar => spots d (nb d c)
  | .rsS d k s => slotF c d k s
  | .rsR d k s => iprop(pts c (bufM d) (hs (slots d) (k + 1) s) fullShare (RV x w d c) ∗ if s = 0 then pile d c (k + 1) else iprop(emp))
  | .agS d k s => pts c qM (hs 16 (go d c k).val s) (qsh d k) (QALL x w)
  | .agR d k s => pts c qM (hs 16 (go d c (k + 1)).val s) fullShare (QALL x w)
  | .axS i => pts c aM (rowSet c) (shr i) (AALL x w)
  | .axR i => pts c aM (rowSet (axSrc c i)) fullShare (AALL x w)
  | .pipe => iprop(emp)

instance slotF_storable (c d k s) : BI.Storable (upEmb : UEmb _ 𝕄) (slotF (F := F) c d k s) := by unfold slotF; infer_instance
instance qF_storable (c q s) : BI.Storable (upEmb : UEmb _ 𝕄) (qF (F := F) c q s) := by unfold qF; infer_instance
instance rowF_storable (t o) : BI.Storable (upEmb : UEmb _ 𝕄) (rowF (F := F) t o) := by unfold rowF; infer_instance
instance spot_storable (d c k) : BI.Storable (upEmb : UEmb _ 𝕄) (spot (F := F) d c k) := by unfold spot; infer_instance
instance spots_storable (d c) : BI.Storable (upEmb : UEmb _ 𝕄) (spots (F := F) d c) := by unfold spots; infer_instance
instance pile_storable (d c k) : BI.Storable (upEmb : UEmb _ 𝕄) (pile (F := F) d c k) := by unfold pile; infer_instance

instance payK_storable (c d k) : BI.Storable (upEmb : UEmb _ 𝕄) (payK x w c d k) := by
  cases k <;> unfold payK <;> (repeat' split) <;> infer_instance

def dutK : CK → Finset Bool
  | .bar => Finset.univ
  | .pipe => ∅
  | _ => {false}

/-- The schedule. -/
def Rd : Rounds.Schedule (GSem nD τ sig) Bool 𝕄 where
  duties g r := if r = 0 ∧ g.1.2 = .tc then dutK (kind g.2) else ∅
  unitless _ := False
  amount g _ _ := amtK (kind g.2)
  payload g _ d := payK x w g.1.1 d (kind g.2)
  amount_pos g _ _ _ := amtK_pos _

instance Rd_storable (g : GSem nD τ sig) (r : ℕ) (d : Bool) : BI.Storable (upEmb : UEmb _ 𝕄) ((Rd (F := F) x w).payload g r d) :=
  payK_storable x w _ _ _

theorem Rd_duties (c : Dev nD) (m : SemLoc sig) : (Rd (F := F) x w).duties ((c : Thread nD τ), m) 0 = dutK (kind m) := by
  unfold Rd
  dsimp only
  exact if_pos ⟨rfl, rfl⟩
theorem Rd_later (g : GSem nD τ sig) : ∀ r, 1 ≤ r → (Rd (F := F) x w).duties g r = ∅ := fun r hr => if_neg fun h => by omega

/-! ## Payments in order -/

/-- The direction and half of the `m`-th transfer of a phase. -/
def pd (m : ℕ) : Bool := decide (2 ≤ m % 4)

def payD (c : Dev nD) (n : ℕ) : Dev nD :=
  if n = 0 then nb false c else if n = 1 then nb true c else if n < 32 then nb (pd (n - 2)) c
  else if n < 47 then axTgt c (n - 32) else nb (pd (n - 47)) c
def payS (n : ℕ) : SemLoc sig :=
  if n < 2 then .reg barS else if n < 32 then .dma (rsR (pd (n - 2)) ((n - 2) / 4) ((n - 2) % 2))
  else if n < 47 then .dma (axR (n - 32)) else .dma (agR (pd (n - 47)) ((n - 47) / 4) ((n - 47) % 2))
abbrev payCell (c : Dev nD) (n : ℕ) : GSem nD τ sig := ((payD c n : Thread nD τ), payS n)
def amt (n : ℕ) : ℕ := amtK (kind (payS n))

/-- What device `c` still owes after its first `n` payments. -/
def O (c : Dev nD) (n : ℕ) : CellTallies nD τ sig Unit := ∑ i ∈ Finset.Ico n 77, tallyAt (payCell c i) () (amt i)

theorem O_succ (c : Dev nD) (n : ℕ) (h : n < 77) : O c n = O c (n + 1) + tallyAt (payCell c n) () (amt n) := by
  have e : Finset.Ico n 77 = insert n (Finset.Ico (n + 1) 77) := by ext i; simp only [Finset.mem_insert, Finset.mem_Ico]; omega
  unfold O
  rw [e, Finset.sum_insert (by simp), add_comm]
theorem O_end (c : Dev nD) : O c 77 = 0 := by unfold O; rw [Finset.Ico_self]; rfl

theorem O_pos {c : Dev nD} {n : ℕ} {g : GSem nD τ sig} {u : Unit} (h : 0 < O c n g u) : ∃ i, n ≤ i ∧ i < 77 ∧ g = payCell c i := by
  by_contra hn
  have : O c n g u = 0 := by
    unfold O
    rw [Finset.sum_apply, Finsupp.finset_sum_apply]
    refine Finset.sum_eq_zero fun i hi => ?_
    rw [tallyAt_apply, if_neg]
    rintro ⟨rfl, -⟩
    rw [Finset.mem_Ico] at hi
    exact hn ⟨i, hi.1, hi.2, rfl⟩
  omega

/-! ## Levels -/

def lvK : CK → ℕ
  | .bar => 1
  | .rsR _ k _ => 2 + k
  | .axR _ => 20
  | .agR _ k _ => 30 + k
  | _ => 0

def L (g : GSem nD τ sig) : Finset Unit := if g.1.2 = .tc then {()} else ∅
def lv (g : GSem nD τ sig) (_ : Unit) : ℕ := lvK (kind g.2)

theorem L_of_ne (g : GSem nD τ sig) (h : g.1.2 ≠ .tc) : L g = ∅ := if_neg h
theorem L_tc (c : Dev nD) (m : SemLoc sig) : L ((c : Thread nD τ), m) = {()} := if_pos rfl

/-- The level of the `n`-th payment. -/
def lvP (n : ℕ) : ℕ := lvK (kind (payS n))

/-- A wait below everything still owed. -/
theorem mayWait (c : Dev nD) (m : SemLoc sig) (n : ℕ) (l : ℕ) (hl : lvK (kind m) ≤ l) (h : ∀ i, n ≤ i → i < 77 → l < lvP i) :
    (levAts L lv : sProp 𝕄) ⊢ MayWait (c : Thread nD τ) m () (O c n) := by
  refine MayOwe.of_cut (L := L) (lev := lv) l (fun p hp => by rw [Finset.mem_singleton.mp hp, L_tc]; exact Finset.mem_singleton_self _)
    (fun g u hg => ?_) (fun p hp => by rw [Finset.mem_singleton.mp hp]; exact hl) (fun g u hg => ?_)
  · obtain ⟨i, -, -, rfl⟩ := O_pos hg
    rw [L_tc]; exact Finset.mem_singleton_self _
  · obtain ⟨i, h1, h2, rfl⟩ := O_pos hg
    exact h i h1 h2

end Cert.Proof
-- ==== Proof.Steps.lean ====
/-
One step of the protocol at a time: a signal, a transfer and a wait, each over the schedule of `Sched`.

`Rec` holds what never changes: every cell's invariant, that its only round is reached, and the levels. `own c n` is what the
device owes after its first `n` payments.
-/
module

public import proofs.«01_k».proof.Proof.Sched
public import Idealize.SL.ProofMode.BigOp
public import Idealize.SL.BI.BigOpNat

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A device's cells -/

/-- A device's semaphores: the barrier's, and ten for each of fifteen hops: a half of a phase at one end, and a row. -/
abbrev J : Type := Option (Fin 15 × Fin 10)

/-- Direction and hop of the `m`-th of the fifteen. -/
def dir (m : ℕ) : Bool := decide (8 ≤ m)
def hop (m : ℕ) : ℕ := if m < 8 then m else m - 8

def semJ : J → SemLoc sig
  | none => .reg barS
  | some (m, i) => match i with
    | 0 => .dma (rsS (dir m) (hop m) 0)
    | 1 => .dma (rsS (dir m) (hop m) 1)
    | 2 => .dma (rsR (dir m) (hop m) 0)
    | 3 => .dma (rsR (dir m) (hop m) 1)
    | 4 => .dma (agS (dir m) (hop m) 0)
    | 5 => .dma (agS (dir m) (hop m) 1)
    | 6 => .dma (agR (dir m) (hop m) 0)
    | 7 => .dma (agR (dir m) (hop m) 1)
    | 8 => .dma (axS m)
    | 9 => .dma (axR m)

abbrev cellAt (cj : Dev nD × J) : GSem nD τ sig := ((cj.1 : Thread nD τ), semJ cj.2)

theorem hop_lt (m : Fin 15) : hop m < ns (dir m) := by revert m; decide

theorem kind_ne_pipe (j : J) : dutK (kind (semJ j)) ≠ ∅ := by
  revert j; decide

/-- Hop `k` of a direction, among the fifteen. -/
def lane (d : Bool) (k : ℕ) : ℕ := if d then k + 8 else k
theorem lane_lt (d : Bool) (k : ℕ) (h : k < ns d) : lane d k < 15 := by unfold lane; revert h; cases d <;> simp [ns] <;> omega
theorem dir_lane (d : Bool) (k : ℕ) (h : k < ns d) : dir (lane d k) = d := by unfold lane dir; revert h; cases d <;> simp [ns] <;> omega
theorem hop_lane (d : Bool) (k : ℕ) (h : k < ns d) : hop (lane d k) = k := by unfold lane hop; revert h; cases d <;> simp [ns] <;> omega

variable (x : Dev nD → Vec F S4096x256 .bf16) (w : Dev nD → Vec F S256x2048 .bf16)

/-! ## What never changes -/

def Rec₀ (K : Dev nD × J → ℕ) : sProp 𝕄 :=
  iprop((bigSep Finset.univ fun cj : Dev nD × J => iprop(cellInv ER (Rd x w) (K cj) (cellAt cj) ∗ reached ER (cellAt cj) 0)) ∗ levAts L lv)
def Rec : sProp 𝕄 := iprop(∃ K, Rec₀ x w K)

instance Rec₀_persistent (K) : BI.Persistent (Rec₀ x w K) := by unfold Rec₀; infer_instance
instance Rec_persistent : BI.Persistent (Rec x w) := by unfold Rec; infer_instance

def Known (c : Dev nD) (m : SemLoc sig) : sProp 𝕄 := iprop(∃ κ, cellInv ER (Rd x w) κ ((c : Thread nD τ), m) ∗ reached ER ((c : Thread nD τ), m) 0)
instance Known_persistent (c m) : BI.Persistent (Known x w c m) := by unfold Known; infer_instance

/-- One member of a family. -/
theorem big_elim {I : Type} [DecidableEq I] {s : Finset I} {i : I} (hi : i ∈ s) (Φ : I → sProp 𝕄) : bigSep s Φ ⊢ Φ i := BI.bigSep_elim hi

theorem rec_get (c : Dev nD) (m : SemLoc sig) (h : ∃ j, semJ j = m) : Rec x w ⊢ Known x w c m := by
  obtain ⟨j, rfl⟩ := h
  unfold Rec Rec₀ Known
  iintro ⟨%K, #H, -⟩
  ihave H' := (big_elim (Finset.mem_univ ((c, j) : Dev nD × J))
    (fun cj : Dev nD × J => iprop(cellInv ER (Rd x w) (K cj) (cellAt cj) ∗ reached ER (cellAt cj) 0))) $$ H
  iexists _
  iexact H'

/-- The levels. -/
def Lev : sProp 𝕄 := levAts L lv
theorem Lev_eq : Lev = (levAts L lv : sProp 𝕄) := rfl
instance Lev_persistent : BI.Persistent (Lev (F := F)) := by unfold Lev; infer_instance

attribute [irreducible] Lev

theorem rec_lev : Rec x w ⊢ Lev (F := F) := by
  rw [Lev_eq]; unfold Rec Rec₀
  iintro ⟨%K, -, #H⟩
  iexact H

theorem is_bar : ∃ j, semJ j = .reg barS := ⟨none, rfl⟩
theorem is_rsS (d : Bool) (k s : ℕ) (h : k < ns d ∧ s < 2) : ∃ j, semJ j = .dma (rsS d k s) := by
  have e := dir_lane d k h.1; have e' := hop_lane d k h.1
  rcases (by omega : s = 0 ∨ s = 1) with rfl | rfl
  · exact ⟨some (⟨lane d k, lane_lt d k h.1⟩, 0), by show SemLoc.dma (rsS (dir (lane d k)) (hop (lane d k)) 0) = _; rw [e, e']⟩
  · exact ⟨some (⟨lane d k, lane_lt d k h.1⟩, 1), by show SemLoc.dma (rsS (dir (lane d k)) (hop (lane d k)) 1) = _; rw [e, e']⟩
theorem is_rsR (d : Bool) (k s : ℕ) (h : k < ns d ∧ s < 2) : ∃ j, semJ j = .dma (rsR d k s) := by
  have e := dir_lane d k h.1; have e' := hop_lane d k h.1
  rcases (by omega : s = 0 ∨ s = 1) with rfl | rfl
  · exact ⟨some (⟨lane d k, lane_lt d k h.1⟩, 2), by show SemLoc.dma (rsR (dir (lane d k)) (hop (lane d k)) 0) = _; rw [e, e']⟩
  · exact ⟨some (⟨lane d k, lane_lt d k h.1⟩, 3), by show SemLoc.dma (rsR (dir (lane d k)) (hop (lane d k)) 1) = _; rw [e, e']⟩
theorem is_agS (d : Bool) (k s : ℕ) (h : k < ns d ∧ s < 2) : ∃ j, semJ j = .dma (agS d k s) := by
  have e := dir_lane d k h.1; have e' := hop_lane d k h.1
  rcases (by omega : s = 0 ∨ s = 1) with rfl | rfl
  · exact ⟨some (⟨lane d k, lane_lt d k h.1⟩, 4), by show SemLoc.dma (agS (dir (lane d k)) (hop (lane d k)) 0) = _; rw [e, e']⟩
  · exact ⟨some (⟨lane d k, lane_lt d k h.1⟩, 5), by show SemLoc.dma (agS (dir (lane d k)) (hop (lane d k)) 1) = _; rw [e, e']⟩
theorem is_agR (d : Bool) (k s : ℕ) (h : k < ns d ∧ s < 2) : ∃ j, semJ j = .dma (agR d k s) := by
  have e := dir_lane d k h.1; have e' := hop_lane d k h.1
  rcases (by omega : s = 0 ∨ s = 1) with rfl | rfl
  · exact ⟨some (⟨lane d k, lane_lt d k h.1⟩, 6), by show SemLoc.dma (agR (dir (lane d k)) (hop (lane d k)) 0) = _; rw [e, e']⟩
  · exact ⟨some (⟨lane d k, lane_lt d k h.1⟩, 7), by show SemLoc.dma (agR (dir (lane d k)) (hop (lane d k)) 1) = _; rw [e, e']⟩
theorem is_axS (i : ℕ) (h : i < 15) : ∃ j, semJ j = .dma (axS i) := ⟨some (⟨i, h⟩, 8), rfl⟩
theorem is_axR (i : ℕ) (h : i < 15) : ∃ j, semJ j = .dma (axR i) := ⟨some (⟨i, h⟩, 9), rfl⟩

/-! ## The steps -/

/-- A device's debts, whatever it has waited on. -/
def own (c : Dev nD) (n : ℕ) : sProp 𝕄 := iprop(∃ W, owes (c : Thread nD τ) (O c n) W)

abbrev tokB (c : Dev nD) (d : Bool) : sProp 𝕄 := dutyTok ER ((c : Thread nD τ), SemLoc.reg barS) 0 d
abbrev tok (c : Dev nD) (a : DmaSem sig) : sProp 𝕄 := dutyTok ER ((c : Thread nD τ), SemLoc.dma a) 0 false
abbrev pend (c : Dev nD) (m : SemLoc sig) : sProp 𝕄 := atPos ER ((c : Thread nD τ), m) 0 ∅ 0
abbrev done (c : Dev nD) (m : SemLoc sig) : sProp 𝕄 := atPos ER ((c : Thread nD τ), m) 1 ∅ 0
abbrev cr (c : Dev nD) (a : DmaSem sig) : sProp 𝕄 := cred (tallyAt ((c : Thread nD τ), SemLoc.dma a) () (amtK (kind (.dma a))))

theorem signal_step (c t : Dev nD) (n : ℕ) (hn : n < 77) (hc : payCell c n = ((t : Thread nD τ), .reg barS)) (d : Bool) (K : PUnit → PP F)
    (Q : PUnit → sProp 𝕄) :
    iprop(Rec x w ∗ own c n ∗ tokB t d ∗ spots d (nb d t))
      ⊢ iprop((own c (n + 1) -∗ runs c Q (K ⟨⟩)) -∗ runs c Q (.op (.semSignal (Dev.tc t) barS (1#32 : BitVec 32).toInt) K)) := by
  have hO : O c n = O c (n + 1) + tallyAt ((t : Thread nD τ), SemLoc.reg barS) () (1#32 : BitVec 32).toInt.toNat := by
    have e : amt n = 1 := by
      have : payS n = .reg barS := congrArg Prod.snd hc
      unfold amt; rw [this]; rfl
    rw [O_succ c n hn, hc, e]; rfl
  unfold own
  iintro ⟨#HR, ⟨%W, HO⟩, Ht, Hp⟩ Hk
  ihave Hi := (rec_get x w t _ is_bar) $$ HR
  unfold Known
  icases Hi with ⟨%κ, #Hi, #Hr⟩
  iapply (Rounds.wp_signal 𝒱₀ ER (Rd x w) (c : Thread nD τ) none (dst := (t : Thread nD τ)) (κ := κ) (d := d) (r := 0)
      (by rw [Rd_duties]; exact Finset.mem_univ _) (show amtK (kind (.reg barS)) = _ by decide) () (O c (n + 1)) hO) $$ [HO Ht Hp]
  · isplitr; · iexact Hi
    isplitl [HO]; · iexact HO
    isplitl [Ht]; · iexact Ht
    isplitl [Hp]; · iapply (Entails.of_eq (show spots d (nb d t) = (Rd x w).payload ((t : Thread nD τ), SemLoc.reg barS) 0 d from rfl)); iexact Hp
    iexact Hr
  iintro HO
  iapply Hk
  iexists W
  iexact HO

theorem wait_bar_step (c : Dev nD) (n : ℕ) (hl : ∀ i, n ≤ i → i < 77 → 1 < lvP i) (K : PUnit → PP F) (Q : PUnit → sProp 𝕄) :
    iprop(Rec x w ∗ own c n ∗ cred (tallyAt ((c : Thread nD τ), SemLoc.reg barS) () 2) ∗ pend c (.reg barS))
      ⊢ iprop(((own c n ∗ done c (.reg barS) ∗ spots false (nb false c) ∗ spots true (nb true c)) -∗ runs c Q (K ⟨⟩))
        -∗ runs c Q (.op (.semWait barS (2#32 : BitVec 32).toInt) K)) := by
  unfold own
  iintro ⟨#HR, ⟨%W, HO⟩, Hc, Ha⟩ Hk
  ihave Hi := (rec_get x w c _ is_bar) $$ HR
  ihave Hl := (rec_lev (F := F) x w) $$ HR
  icases Hl with #Hl
  unfold Known
  icases Hi with ⟨%κ, #Hi, #Hr⟩
  iapply (Rounds.wp_wait_rest_token 𝒱₀ ER (Rd x w) (c : Thread nD τ) none (κ := κ)
      (wpE_semWait_eq 𝒱₀ (c : Thread nD τ) none Set.univ) (Set.mem_univ _) () (O := O c n) (W := W) (R := 0) (m := 0) (T := ∅)
      (by unfold Schedule.expect Schedule.amountOf; rw [Rd_duties]; rfl)) $$ [Hc HO Ha]
  · isplitr; · iexact Hi
    isplitl [Hc]; · iexact Hc
    isplitl [HO]; · iexact HO
    isplitr; · iapply (mayWait c _ n 1 (by decide) hl); rw [← Lev_eq]; iexact Hl
    iexact Ha
  iintro ⟨HO, Ha, -, Hp⟩
  ihave Hp := (Entails.of_eq (show bigSep ((Rd x w).duties ((c : Thread nD τ), SemLoc.reg barS) 0 \ ∅)
      (fun d => (Rd x w).payload ((c : Thread nD τ), SemLoc.reg barS) 0 d) = (iprop(spots false (nb false c) ∗ spots true (nb true c)) : sProp 𝕄) by
    rw [Finset.sdiff_empty, Rd_duties]
    show bigSep Finset.univ (fun d => (spots d (nb d c) : sProp 𝕄)) = _
    rw [bigSep_univ_eq_bigSepL [false, true] (by decide) (by decide), bigSepL_cons_cons, bigSepL_singleton]; rfl)) $$ Hp
  iapply Hk
  isplitl [HO]; · iexists _; iexact HO
  isplitl [Ha]; · iexact Ha
  iexact Hp

/-- A wait on a transfer's cell, below everything owed. -/
theorem wait_step (c : Dev nD) (n : ℕ) (a : DmaSem sig) (hj : ∃ j, semJ j = .dma a) (hk : dutK (kind (.dma a)) = {false}) {sp sp' : Space}
    {s : Shape} {e : EltTy}
    (src : Memref sig .tc sp s e) (dst : Memref sig .tc sp' s e) (h1 : src.view.WordExact) (h2 : dst.view.WordExact)
    (hN : dst.view.dmaCredit = amtK (kind (.dma a))) (hl : ∀ i, n ≤ i → i < 77 → lvK (kind (.dma a)) < lvP i) (K : PUnit → PP F)
    (Q : PUnit → sProp 𝕄) :
    iprop(Rec x w ∗ own c n ∗ cr c a ∗ pend c (.dma a))
      ⊢ iprop(((own c n ∗ done c (.dma a) ∗ payK x w c false (kind (.dma a))) -∗ runs c Q (K ⟨⟩))
        -∗ runs c Q (.op (.waitDma2 a src dst h1 h2) K)) := by
  unfold own
  iintro ⟨#HR, ⟨%W, HO⟩, Hc, Ha⟩ Hk
  ihave Hi := (rec_get x w c _ hj) $$ HR
  ihave Hl := (rec_lev (F := F) x w) $$ HR
  icases Hl with #Hl
  unfold Known cr
  icases Hi with ⟨%κ, #Hi, #Hr⟩
  rw [← hN]
  iapply (Rounds.wp_wait_rest_token 𝒱₀ ER (Rd x w) (c : Thread nD τ) none (κ := κ)
      (wpE_waitDma2_eq 𝒱₀ (c : Thread nD τ) none Set.univ) (Set.mem_univ _) () (O := O c n) (W := W) (R := 0) (m := 0) (T := ∅)
      (by unfold Schedule.expect Schedule.amountOf; rw [Rd_duties, hk, Finset.sum_singleton, Nat.zero_add, hN]; rfl)) $$ [Hc HO Ha]
  · isplitr; · iexact Hi
    isplitl [Hc]; · iexact Hc
    isplitl [HO]; · iexact HO
    isplitr; · iapply (mayWait c _ n _ (Nat.le_refl _) hl); rw [← Lev_eq]; iexact Hl
    iexact Ha
  iintro ⟨HO, Ha, -, Hp⟩
  ihave Hp := (Entails.of_eq (show bigSep ((Rd x w).duties ((c : Thread nD τ), SemLoc.dma a) 0 \ ∅)
      (fun d => (Rd x w).payload ((c : Thread nD τ), SemLoc.dma a) 0 d) = payK x w c false (kind (.dma a)) by
    rw [Finset.sdiff_empty, Rd_duties, hk, bigSep_singleton]; rfl)) $$ Hp
  iapply Hk
  isplitl [HO]; · iexists _; iexact HO
  isplitl [Ha]; · iexact Ha
  iexact Hp

section Send

variable {s : Shape} {e : EltTy} (c t : Dev nD) (M : Memref sig .tc .vmem s e) {off off' size : Fin s.rank → ℕ}
  (ho : ∀ a, off a + size a ≤ s.size a) (ho' : ∀ a, off' a + size a ≤ s.size a) (s' : Shape)
  (hq : (Rect.unit off size ho).shape.Squeezes s') (hq' : (Rect.unit off' size ho').shape.Squeezes s') (q : PosShare TreeShare)
  (X Y : s.Idx → Elt F e)

/-- A transfer: the source's ownership to the sender's cell, the written places and `E` to the receiver's. -/
theorem send_step (n : ℕ) (hn : n < 77) (a b : DmaSem sig) (hc : payCell c n = ((t : Thread nD τ), .dma b))
    (ja : ∃ j, semJ j = .dma a) (jb : ∃ j, semJ j = .dma b) (ka : dutK (kind (.dma a)) = {false}) (kb : dutK (kind (.dma b)) = {false})
    (hN : (sqM M off' ho' s' hq').view.dmaCredit = amtK (kind (.dma a))) (hab : amtK (kind (.dma b)) = amtK (kind (.dma a))) (E : sProp 𝕄)
    (hp₁ : pts c M (Rect.unit off size ho).set q X ⊢ payK x w c false (kind (.dma a)))
    (hp₂ : iprop(pts t M (Rect.unit off' size ho').set fullShare Y ∗ E) ⊢ payK x w t false (kind (.dma b)))
    (hXY : ∀ j : (Rect.unit off size ho).shape.Idx, Y ((Rect.unit off' size ho').emb j) = X ((Rect.unit off size ho).emb j))
    (h1 : (sqM M off ho s' hq).view.WordExact) (h2 : (sqM M off' ho' s' hq').view.WordExact)
    (hsc : (sqM M off' ho' s' hq' : Memref sig (Dev.tc t : Thread nD τ).2.kind .vmem s' e).view.ref.isScScratch = false)
    (h3 : DmaTarget.Typed .vmem (.dma b) (.remote (Dev.tc t : Thread nD τ) (sqM M off' ho' s' hq') (.dma a) hsc))
    (K : PUnit → PP F) (Q : PUnit → sProp 𝕄) :
    iprop(Rec x w ∗ pts c M (Rect.unit off size ho).set q X ∗ (∃ Z, pts t M (Rect.unit off' size ho').set fullShare Z) ∗ E ∗ own c n ∗ tok c a ∗ tok t b)
      ⊢ iprop(((cr c a ∗ own c (n + 1)) -∗ runs c Q (K ⟨⟩))
        -∗ runs c Q (.op (.enqueueDma (sqM M off ho s' hq) (.remote (Dev.tc t) (sqM M off' ho' s' hq') (.dma a) hsc) (.dma b) h1 h2 h3) K)) := by
  have hO : O c n = O c (n + 1) + tallyAt ((t : Thread nD τ), SemLoc.dma b) () (amtK (kind (.dma a))) := by
    have e : amt n = amtK (kind (.dma a)) := by
      have : payS n = .dma b := congrArg Prod.snd hc
      unfold amt; rw [this, hab]
    rw [O_succ c n hn, hc, e]
  unfold own cr
  iintro ⟨#HR, Hs, ⟨%Z, Hd⟩, HE, ⟨%W, HO⟩, Ha, Hb⟩ Hk
  ihave Hi := (rec_get x w c _ ja) $$ HR
  ihave Hi' := (rec_get x w t _ jb) $$ HR
  unfold Known
  icases Hi with ⟨%κ, #Hi, #Hr⟩
  icases Hi' with ⟨%κ', #Hi', #Hr'⟩
  ihave Hs := (pts_view c M ho s' hq q X) $$ Hs
  icases Hs with ⟨%f, %hf, Hs⟩
  ihave Hd := (pts_view t M ho' s' hq' fullShare Z) $$ Hd
  icases Hd with ⟨%fd, -, Hd⟩
  iapply (Rounds.wp_send_pointsTo_with 𝒱₀ ER (Rd x w) (c : Thread nD τ) none (c' := (t : Thread nD τ)) (κ₁ := κ) (κ₂ := κ')
      (r₁ := 0) (r₂ := 0) (d₁ := false) (d₂ := false) (fd := fd) (fs := f) (F := E) (q := q)
      (by rw [Rd_duties, ka]; exact Finset.mem_singleton_self _) (by rw [Rd_duties, kb]; exact Finset.mem_singleton_self _)
      () () (amtK (kind (.dma a))) (show (sqM M off' ho' s' hq').view.amount (.dma b) = _ from hN) rfl hab (O c (n + 1)) hO (W := W)
      ((view_pts c M ho s' hq q X f hf).trans hp₁)
      ((sep_mono_left (landed_pts t M ho ho' s' hq fullShare X Y hq' fd _ hf hXY)).trans hp₂)) $$ [Hs Hd HE HO Ha Hb]
  · isplitr; · iexact Hi
    isplitr; · iexact Hi'
    isplitl [Hs]; · iexact Hs
    isplitl [Hd HE]
    · isplitl [Hd]; · iexact Hd
      iexact HE
    isplitl [HO]; · iexact HO
    isplitl [Ha]; · iexact Ha
    isplitr; · iexact Hr
    isplitl [Hb]; · iexact Hb
    iexact Hr'
  iintro ⟨Hc, HO⟩
  iapply Hk
  isplitl [Hc]; · iexact Hc
  iexists W
  iexact HO

end Send

/-- A loop of the body: its state advances by one at each entry. -/
theorem each_step (c : Dev nD) {α : Type} (f : α → PP F → PP F) (Q : PUnit → sProp 𝕄) (I : ℕ → sProp 𝕄) (R : sProp 𝕄) [BI.Persistent R] (v : α → ℕ) :
    ∀ (l : List α) (k : ℕ), (∀ i (h : i < l.length), v l[i] = k + i) →
      (∀ i ∈ l, ∀ K, iprop(R ∗ I (v i)) ⊢ iprop((I (v i + 1) -∗ runs c Q K) -∗ runs c Q (f i K))) → ∀ K,
      iprop(R ∗ I k) ⊢ iprop((I (k + l.length) -∗ runs c Q K) -∗ runs c Q (each f l K))
  | [], k, _, _, K => by
    iintro ⟨-, H⟩ Hk
    iapply Hk
    iexact H
  | i :: l, k, hv, hs, K => by
    have e : v i = k := hv 0 (Nat.succ_pos _)
    have st := hs i (List.mem_cons_self ..) (each f l K)
    have ih := each_step c f Q I R v l (k + 1) (fun j h => (hv (j + 1) (Nat.succ_lt_succ h)).trans (by omega))
      (fun j hj => hs j (List.mem_cons_of_mem _ hj)) K
    rw [e] at st
    rw [show k + (i :: l).length = k + 1 + l.length by rw [List.length_cons]; omega]
    iintro ⟨#HR, H⟩ Hk
    iapply st $$ [H]
    · isplitr; · iexact HR
      iexact H
    iintro H
    iapply ih $$ [H]
    · isplitr; · iexact HR
      iexact H
    iexact Hk

end Cert.Proof
-- ==== Proof.Reduce.lean ====
/-
The reduce phase. A lane is one half of one direction: its hops, one after another, with the cells, the credits and the landing
places they use. Half 0 of a slot travels with the rows of maxima its chunk has collected.
-/
module

public import proofs.«01_k».proof.Proof.Steps

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S4096x256 .bf16) (w : Dev nD → Vec F S256x2048 .bf16)

/-! ## Order and levels -/

/-- A direction's place among a hop's four transfers. -/
abbrev two (d : Bool) : ℕ := if d then 2 else 0

theorem slots_ns (d : Bool) : slots d = ns d + 1 := by cases d <;> rfl

theorem pay_rs (c : Dev nD) (d : Bool) (k s n : ℕ) (h : k < ns d ∧ s < 2) (hn : n = 2 + 4 * k + two d + s) :
    n < 32 ∧ payCell c n = ((nb d c : Thread nD τ), .dma (rsR d k s)) := by
  subst hn
  have hk : k < 8 := lt_of_lt_of_le h.1 (by cases d <;> simp [ns])
  have hs := h.2
  have lt : 2 + 4 * k + two d + s < 32 := by
    have h1 := h.1
    cases d <;> simp [ns, two] at h1 ⊢ <;> omega
  have e : pd (2 + 4 * k + two d + s - 2) = d := by unfold pd; cases d <;> simp [two] <;> omega
  have e1 : (2 + 4 * k + two d + s - 2) / 4 = k := by cases d <;> simp [two] <;> omega
  have e2 : (2 + 4 * k + two d + s - 2) % 2 = s := by cases d <;> simp [two] <;> omega
  refine ⟨lt, ?_⟩
  unfold payCell payD payS
  rw [if_neg (by omega), if_neg (by omega), if_pos lt, if_neg (by omega), if_pos lt, e, e1, e2]

theorem lv_bar : ∀ i, 2 ≤ i → i < 77 → 1 < lvP i := by
  have : ∀ i < 77, 2 ≤ i → 1 < lvP i := by decide
  exact fun i h1 h2 => this i h2 h1
theorem lv_rs (k n : ℕ) (hk : k < 8) (hn : 2 + 4 * (k + 1) ≤ n ∨ 32 ≤ n) : ∀ i, n ≤ i → i < 77 → 2 + k < lvP i := by
  have : ∀ k < 8, ∀ i < 77, (2 + 4 * (k + 1) ≤ i ∨ 32 ≤ i) → 2 + k < lvP i := by decide
  exact fun i h1 h2 => this k hk i h2 (by omega)
theorem lv_ag (k n : ℕ) (hk : k < 8) (hn : 47 + 4 * (k + 1) ≤ n ∨ 77 ≤ n) : ∀ i, n ≤ i → i < 77 → 30 + k < lvP i := by
  have : ∀ k < 8, ∀ i < 77, (47 + 4 * (k + 1) ≤ i ∨ 77 ≤ i) → 30 + k < lvP i := by decide
  exact fun i h1 h2 => this k hk i h2 (by omega)
theorem lv_pos : ∀ i < 77, 0 < lvP i := by decide

/-! ## The rows that travel -/

theorem pile_zero (d : Bool) (c : Dev nD) : pile (F := F) d c 0 = iprop(emp) := bigSep_empty

/-- A device adds its row for the chunk it sends on. -/
theorem pile_step (d : Bool) (c : Dev nD) (k : ℕ) : iprop(rowF c (ch d c k) ∗ pile d c k) ⊢ (pile d (nb d c) (k + 1) : sProp 𝕄) := by
  unfold pile
  have e : ∀ j, go d (nb d c) (1 + j) = go d c j := fun j => by rw [Nat.add_comm, go_nb]
  have es : Finset.range (k + 1) = insert 0 ((Finset.range k).map ⟨fun j => j + 1, fun a b h => Nat.succ.inj h⟩) := by
    ext i
    simp only [Finset.mem_range, Finset.mem_insert, Finset.mem_map, Function.Embedding.coeFn_mk]
    constructor
    · intro h
      by_cases h0 : i = 0
      · exact .inl h0
      · exact .inr ⟨i - 1, by omega, by show i - 1 + 1 = i; omega⟩
    · rintro (rfl | ⟨j, h, rfl⟩)
      · omega
      · show j + 1 < k + 1; omega
  rw [es, bigSep_insert (by simp), bigSep_map]
  have e0 : go d (nb d c) (1 + 0) = c := by rw [e, go_zero]
  rw [e0, ch_nb]
  refine sep_mono_right (Entails.of_eq (bigSep_congr fun j _ => ?_))
  show rowF (go d c (1 + j)) (ch d c k) = rowF (go d (nb d c) (1 + (j + 1))) (ch d c k)
  rw [e, Nat.add_comm 1 j]

/-! ## One transfer -/

/-- The rows half `s` carries. -/
def load (s : ℕ) (P : sProp 𝕄) : sProp 𝕄 := if s = 0 then P else iprop(emp)

/-- What a landing of hop `k` hands over. -/
def got (c : Dev nD) (d : Bool) (k s : ℕ) : sProp 𝕄 :=
  iprop(pts c (bufM d) (hs (slots d) (k + 1) s) fullShare (RV x w d c) ∗ load s (pile d c (k + 1)))

theorem amt_rs (d : Bool) (k s : ℕ) (h : k < ns d ∧ s < 2) : amtK (kind (.dma (rsS d k s))) = nRS d ∧ amtK (kind (.dma (rsR d k s))) = nRS d := by
  rw [kind_rsS d k s h, kind_rsR d k s h]; exact ⟨rfl, rfl⟩

theorem credit_rs (d : Bool) (P : Piece (slots d)) : (hM (bufM d) P).view.dmaCredit = nRS d := rfl

theorem rs_send (c : Dev nD) (d : Bool) (k s n : ℕ) (h : k + 1 < slots d ∧ s < 2) (hn : n = 2 + 4 * k + two d + s) (K : PP F) (Q : PUnit → sProp 𝕄) :
    iprop(Rec x w ∗ pts c (bufM d) (hs (slots d) k s) fullShare (AC x w d c) ∗ slotF (nb d c) d (k + 1) s ∗ load s (pile d (nb d c) (k + 1))
        ∗ own c n ∗ tok c (rsS d k s) ∗ tok (nb d c) (rsR d k s))
      ⊢ iprop(((cr c (rsS d k s) ∗ own c (n + 1)) -∗ runs c Q K) -∗ runs c Q (rsSend d (nb d c) k s h K)) := by
  have hk : k < ns d ∧ s < 2 := ⟨by have := slots_ns d; omega, h.2⟩
  obtain ⟨lt, hc⟩ := pay_rs c d k s n hk hn
  have e1 := half_set (n := slots d) (k := k) (s := s) ⟨by omega, h.2⟩
  have e2 := half_set (n := slots d) (k := k + 1) (s := s) h
  unfold slotF rsSend sendC
  rw [← e1, ← e2]
  refine send_step x w c (nb d c) (bufM d) (half _ k s ⟨by omega, h.2⟩).inb (half _ (k + 1) s h).inb S128x2048
    squeezes_S1x128x2048_S128x2048 squeezes_S1x128x2048_S128x2048 fullShare (AC x w d c) (RV x w d (nb d c)) n (by omega) (rsS d k s) (rsR d k s) hc
    (is_rsS d k s hk) (is_rsR d k s hk) (by rw [kind_rsS d k s hk]; rfl) (by rw [kind_rsR d k s hk]; rfl)
    ((credit_rs d _).trans (amt_rs d k s hk).1.symm) ((amt_rs d k s hk).2.trans (amt_rs d k s hk).1.symm) (load s (pile d (nb d c) (k + 1))) ?_ ?_
    (fun j => recv_send x w d c k s h ⟨by omega, h.2⟩ j) _ _ _ _ (fun _ => K) Q
  · rw [kind_rsS d k s hk]
    show _ ⊢ slotF c d k s
    unfold slotF
    rw [← e1]
    iintro H
    iexists (AC x w d c)
    iexact H
  · rw [kind_rsR d k s hk]
    show _ ⊢ got x w (nb d c) d k s
    unfold got
    rw [← e2]

theorem pay_rsS (c : Dev nD) (d b : Bool) (k s : ℕ) (h : k < ns d ∧ s < 2) : payK x w c b (kind (.dma (rsS d k s))) = slotF c d k s := by
  rw [kind_rsS d k s h]; rfl
theorem pay_rsR (c : Dev nD) (d b : Bool) (k s : ℕ) (h : k < ns d ∧ s < 2) : payK x w c b (kind (.dma (rsR d k s))) = got x w c d k s := by
  rw [kind_rsR d k s h]; rfl

/-- A hop's cells on the device that waits on them. -/
def kitW (c : Dev nD) (d : Bool) (s k : ℕ) : sProp 𝕄 :=
  iprop(pend c (.dma (rsS d k s)) ∗ pend c (.dma (rsR d k s)) ∗ cr c (rsR d k s))
/-- What a hop's transfer is made with. -/
def kit (c : Dev nD) (d : Bool) (s k : ℕ) : sProp 𝕄 :=
  iprop(tok c (rsS d k s) ∗ tok (nb d c) (rsR d k s) ∗ slotF (nb d c) d (k + 1) s ∗ load s (rowF c (ch d c k)))
/-- What is left of a hop. -/
def kitD (c : Dev nD) (d : Bool) (s k : ℕ) : sProp 𝕄 :=
  iprop(done c (.dma (rsS d k s)) ∗ done c (.dma (rsR d k s)) ∗ slotF c d k s)

theorem rs_wait (c : Dev nD) (d : Bool) (k s n : ℕ) (h : k + 1 < slots d ∧ s < 2) (hn : 2 + 4 * (k + 1) ≤ n ∨ 32 ≤ n) (K : PP F) (Q : PUnit → sProp 𝕄) :
    iprop(Rec x w ∗ own c n ∗ cr c (rsS d k s) ∗ kitW c d s k)
      ⊢ iprop(((own c n ∗ kitD c d s k ∗ got x w c d k s) -∗ runs c Q K) -∗ runs c Q (rsWait d k s h K)) := by
  have hk : k < ns d ∧ s < 2 := ⟨by have := slots_ns d; omega, h.2⟩
  have k8 : k < 8 := lt_of_lt_of_le hk.1 (by cases d <;> simp [ns])
  unfold rsWait waitC kitW kitD
  iintro ⟨#HR, HO, Hc, Hp, Hp', Hc'⟩ Hk
  iapply (wait_step x w c n (rsS d k s) (is_rsS d k s hk) (by rw [kind_rsS d k s hk]; rfl) (hM (bufM d) _) (hM (bufM d) _) _ _
    ((credit_rs d _).trans (amt_rs d k s hk).1.symm) (by rw [kind_rsS d k s hk]; exact fun i _ h => lv_pos i h)) $$ [HO Hc Hp]
  · isplitr; · iexact HR
    isplitl [HO]; · iexact HO
    isplitl [Hc] <;> iassumption
  iintro ⟨HO, Hd, Hs⟩
  iapply (wait_step x w c n (rsR d k s) (is_rsR d k s hk) (by rw [kind_rsR d k s hk]; rfl) (hM (bufM d) _) (hM (bufM d) _) _ _
    ((credit_rs d _).trans (amt_rs d k s hk).2.symm) (by rw [kind_rsR d k s hk]; exact lv_rs k n k8 hn)) $$ [HO Hc' Hp']
  · isplitr; · iexact HR
    isplitl [HO]; · iexact HO
    isplitl [Hc'] <;> iassumption
  iintro ⟨HO, Hd', Hg⟩
  ihave Hs := (Entails.of_eq (pay_rsS x w c d false k s hk)) $$ Hs
  ihave Hg := (Entails.of_eq (pay_rsR x w c d false k s hk)) $$ Hg
  iapply Hk
  isplitl [HO]; · iexact HO
  isplitl [Hd Hd' Hs]
  · isplitl [Hd]; · iexact Hd
    isplitl [Hd']; · iexact Hd'
    iexact Hs
  iexact Hg

/-- The device's product added to the half that arrived. -/
theorem rs_acc (c : Dev nD) (d : Bool) (k s : ℕ) (h : k + 1 < slots d ∧ s < 2) (K : PP F) (Q : PUnit → sProp 𝕄) :
    pts c (bufM d) (hs (slots d) (k + 1) s) fullShare (RV x w d c)
      ⊢ iprop((pts c (bufM d) (hs (slots d) (k + 1) s) fullShare (AC x w d c) -∗ runs c Q K)
        -∗ runs c Q (accC d (k + 1) s h (prt x w c (ch d c (k + 1))) K)) := by
  have e := half_set (n := slots d) (k := k + 1) (s := s) h
  rw [← e]
  unfold accC
  iintro H Hk
  iapply (pts_load c (bufM d) (half _ (k + 1) s h).rect.set fullShare (RV x w d c) (r := (half _ (k + 1) s h).rect) (Finset.Subset.refl _)) $$ H
  iintro H
  iapply (pts_load c (bufM d) (half _ (k + 1) s h).rect.set fullShare (RV x w d c) (r := (half _ (k + 1) s h).rect) (Finset.Subset.refl _)) $$ H
  iintro H
  iapply (pts_store c (bufM d) (half _ (k + 1) s h).rect.set (RV x w d c) (AC x w d c) (r := (half _ (k + 1) s h).rect) (Finset.Subset.refl _)
    (fun j => acc_store x w d c k s h j) (fun i hi hn => absurd hi hn)) $$ H
  iexact Hk

/-! ## Lanes -/

/-- A lane before its first transfer, in hop `k`, and after the last. -/
def lane₀ (c : Dev nD) (d : Bool) (s : ℕ) : sProp 𝕄 :=
  iprop(bigSep (Finset.Ico 0 (ns d)) (kitW c d s) ∗ bigSep (Finset.Ico 0 (ns d)) (kit c d s))
def laneK (c : Dev nD) (d : Bool) (s k : ℕ) : sProp 𝕄 :=
  iprop(cr c (rsS d k s) ∗ bigSep (Finset.Ico k (ns d)) (kitW c d s) ∗ bigSep (Finset.Ico (k + 1) (ns d)) (kit c d s) ∗ bigSep (Finset.range k) (kitD c d s))
def laneE (c : Dev nD) (d : Bool) (s k : ℕ) : sProp 𝕄 := iprop(bigSep (Finset.range k) (kitD c d s) ∗ got x w c d (k - 1) s)

theorem load_pile (c : Dev nD) (d : Bool) (s k : ℕ) :
    iprop(load s (rowF c (ch d c k)) ∗ load s (pile d c k)) ⊢ (load s (pile d (nb d c) (k + 1)) : sProp 𝕄) := by
  unfold load
  split
  · exact pile_step d c k
  · iintro ⟨-, H⟩; iexact H

theorem lane_start (c : Dev nD) (d : Bool) (s n : ℕ) (h : 0 + 1 < slots d ∧ s < 2) (hn : n = 2 + 4 * 0 + two d + s) (K : PP F) (Q : PUnit → sProp 𝕄) :
    iprop(Rec x w ∗ lane₀ c d s ∗ pts c (bufM d) (hs (slots d) 0 s) fullShare (AC x w d c) ∗ own c n)
      ⊢ iprop(((laneK c d s 0 ∗ own c (n + 1)) -∗ runs c Q K) -∗ runs c Q (rsSend d (nb d c) 0 s h K)) := by
  unfold lane₀ laneK
  iintro ⟨#HR, ⟨Hw, Hs⟩, Hp, HO⟩ Hk
  ihave Hs := (Entails.of_eq (bigSep_Ico_succ_bot (show 0 < ns d by cases d <;> decide) (kit (F := F) c d s))) $$ Hs
  icases Hs with ⟨Hkit, Hs⟩
  unfold kit
  icases Hkit with ⟨Ht, Ht', Hd, Hl⟩
  iapply (rs_send x w c d 0 s n h hn) $$ [Hp Hd Hl HO Ht Ht']
  · isplitr; · iexact HR
    isplitl [Hp]; · iexact Hp
    isplitl [Hd]; · iexact Hd
    isplitl [Hl]
    · iapply (load_pile c d s 0)
      isplitl [Hl]; · iexact Hl
      unfold load
      rw [pile_zero, ite_self]; iempintro
    isplitl [HO]; · iexact HO
    isplitl [Ht] <;> iassumption
  iintro ⟨Hc, HO⟩
  iapply Hk
  isplitl [Hc Hw Hs]
  · isplitl [Hc]; · iexact Hc
    isplitl [Hw]; · iexact Hw
    isplitl [Hs]; · iexact Hs
    rw [Finset.range_zero, bigSep_empty]; iempintro
  iexact HO

/-- The wait of a lane's hop. -/
theorem lane_wait (c : Dev nD) (d : Bool) (s k n : ℕ) (h : k + 1 < slots d ∧ s < 2) (hn : 2 + 4 * (k + 1) ≤ n ∨ 32 ≤ n) (K : PP F) (Q : PUnit → sProp 𝕄) :
    iprop(Rec x w ∗ laneK c d s k ∗ own c n)
      ⊢ iprop(((bigSep (Finset.Ico (k + 1) (ns d)) (kitW c d s) ∗ bigSep (Finset.Ico (k + 1) (ns d)) (kit c d s) ∗ laneE x w c d s (k + 1) ∗ own c n)
          -∗ runs c Q K) -∗ runs c Q (rsWait d k s h K)) := by
  unfold laneK laneE
  iintro ⟨#HR, ⟨Hc, Hw, Hs, Hd⟩, HO⟩ Hk
  ihave Hw := (Entails.of_eq (bigSep_Ico_succ_bot (show k < ns d by have := slots_ns d; omega) (kitW (F := F) c d s))) $$ Hw
  icases Hw with ⟨Hw0, Hw⟩
  iapply (rs_wait x w c d k s n h hn) $$ [HO Hc Hw0]
  · isplitr; · iexact HR
    isplitl [HO]; · iexact HO
    isplitl [Hc]; · iexact Hc
    iexact Hw0
  iintro ⟨HO, Hd0, Hg⟩
  iapply Hk
  isplitl [Hw]; · iexact Hw
  isplitl [Hs]; · iexact Hs
  isplitl [Hd0 Hd Hg]
  · isplitl [Hd0 Hd]
    · iapply (Entails.of_eq (bigSep_range_succ k (kitD (F := F) c d s)).symm)
      isplitl [Hd0] <;> iassumption
    · rw [Nat.add_sub_cancel]; iexact Hg
  iexact HO

/-- The last. -/
theorem lane_last (c : Dev nD) (d : Bool) (s k n : ℕ) (h : k + 1 < slots d ∧ s < 2) (hk : k + 1 = ns d) (hn : 32 ≤ n) (K : PP F) (Q : PUnit → sProp 𝕄) :
    iprop(Rec x w ∗ laneK c d s k ∗ own c n) ⊢ iprop(((laneE x w c d s (ns d) ∗ own c n) -∗ runs c Q K) -∗ runs c Q (rsWait d k s h K)) := by
  iintro H Hk
  iapply (lane_wait x w c d s k n h (.inr hn)) $$ H
  iintro ⟨-, -, He, HO⟩
  iapply Hk
  rw [hk]
  isplitl [He] <;> iassumption

/-- A whole hop. -/
theorem lane_hop (c : Dev nD) (d : Bool) (s k n : ℕ) (h : k + 2 < slots d ∧ s < 2) (hn : n = 2 + 4 * (k + 1) + two d + s) (K : PP F) (Q : PUnit → sProp 𝕄) :
    iprop(Rec x w ∗ laneK c d s k ∗ own c n)
      ⊢ iprop(((laneK c d s (k + 1) ∗ own c (n + 1)) -∗ runs c Q K) -∗ runs c Q (rsHop d (nb d c) k s h (prt x w c (ch d c (k + 1))) K)) := by
  unfold rsHop
  iintro ⟨#HR, HL, HO⟩ Hk
  iapply (lane_wait x w c d s k n ⟨by omega, h.2⟩ (.inl (by omega))) $$ [HL HO]
  · isplitr; · iexact HR
    isplitl [HL] <;> iassumption
  unfold laneE got
  rw [Nat.add_sub_cancel]
  iintro ⟨Hw, Hs, ⟨Hd, Hp, Hl'⟩, HO⟩
  iapply (rs_acc x w c d k s ⟨by omega, h.2⟩) $$ Hp
  iintro Hp
  ihave Hs := (Entails.of_eq (bigSep_Ico_succ_bot (show k + 1 < ns d by have := slots_ns d; omega) (kit (F := F) c d s))) $$ Hs
  icases Hs with ⟨Hkit, Hs⟩
  unfold kit
  icases Hkit with ⟨Ht, Ht', Hd', Hl⟩
  iapply (rs_send x w c d (k + 1) s n h hn) $$ [Hp Hd' Hl Hl' HO Ht Ht']
  · isplitr; · iexact HR
    isplitl [Hp]; · iexact Hp
    isplitl [Hd']; · iexact Hd'
    isplitl [Hl Hl']
    · iapply (load_pile c d s (k + 1))
      isplitl [Hl] <;> iassumption
    isplitl [HO]; · iexact HO
    isplitl [Ht] <;> iassumption
  iintro ⟨Hc, HO⟩
  iapply Hk
  isplitr [HO]
  · unfold laneK
    isplitl [Hc]; · iexact Hc
    isplitl [Hw]; · iexact Hw
    isplitl [Hs]; · iexact Hs
    iexact Hd
  iexact HO

end Cert.Proof
-- ==== Proof.Pieces.lean ====
/-
Buffers cut into the pieces the protocol hands around, and put together again.
-/
module

public import proofs.«01_k».proof.Proof.Reduce

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem disjoint_rest {I : Type} [DecidableEq I] {s : Shape} {S : I → Finset s.Idx} {T : Finset s.Idx} {a : I} {l : Finset I} (ha : a ∉ l)
    (hT : ∀ i ∈ insert a l, Disjoint T (S i)) (hS : ∀ i ∈ insert a l, ∀ j ∈ insert a l, i ≠ j → Disjoint (S i) (S j)) :
    Disjoint (T ∪ l.biUnion S) (S a) := by
  rw [Finset.disjoint_union_left, Finset.disjoint_biUnion_left]
  refine ⟨hT a (Finset.mem_insert_self ..), fun i hi => hS i (Finset.mem_insert_of_mem hi) a (Finset.mem_insert_self ..) ?_⟩
  rintro rfl
  exact ha hi

theorem union_insert {I : Type} [DecidableEq I] {s : Shape} (S : I → Finset s.Idx) (T : Finset s.Idx) (a : I) (l : Finset I) :
    T ∪ (insert a l).biUnion S = (T ∪ l.biUnion S) ∪ S a := by
  rw [Finset.biUnion_insert, Finset.union_comm (S a), Finset.union_assoc]

theorem big_insert {I : Type} [DecidableEq I] {a : I} {l : Finset I} (h : a ∉ l) (Φ : I → sProp 𝕄) :
    bigSep (insert a l) Φ = iprop(Φ a ∗ bigSep l Φ) := bigSep_insert h

section Any

variable {sp : Space} {s : Shape} {e : EltTy} (c : Dev nD) (M : Memref sig .tc sp s e)

/-- Elements owned, at any contents. -/
def pany (S : Finset s.Idx) : sProp 𝕄 := iprop(∃ X, pts c M S fullShare X)

theorem pany_join {S T : Finset s.Idx} (h : Disjoint S T) : (iprop(pany c M S ∗ pany c M T) : sProp 𝕄) ⊢ pany c M (S ∪ T) := by
  unfold pany
  iintro ⟨⟨%X, H⟩, ⟨%Y, H'⟩⟩
  iexists T.piecewise Y X
  iapply (pts_join c M S T fullShare _ h)
  isplitl [H]
  · iapply (Entails.of_eq (pts_congr c M S fullShare X (T.piecewise Y X)
      fun i hi => (Finset.piecewise_eq_of_notMem _ _ _ (Finset.disjoint_left.mp h hi)).symm)); iexact H
  · iapply (Entails.of_eq (pts_congr c M T fullShare Y (T.piecewise Y X) fun i hi => (Finset.piecewise_eq_of_mem _ _ _ hi).symm)); iexact H'

theorem pany_split {S T : Finset s.Idx} (h : Disjoint S T) : (pany c M (S ∪ T) : sProp 𝕄) ⊢ iprop(pany c M S ∗ pany c M T) := by
  unfold pany
  iintro ⟨%X, H⟩
  ihave H := (pts_split c M S T fullShare X h) $$ H
  icases H with ⟨H, H'⟩
  isplitl [H]
  · iexists X; iexact H
  · iexists X; iexact H'

theorem pany_of (S : Finset s.Idx) (X : s.Idx → Elt F e) : (pts c M S fullShare X : sProp 𝕄) ⊢ pany c M S := by
  unfold pany
  iintro H
  iexists X
  iexact H

variable {I : Type} [DecidableEq I] (l : Finset I) (S : I → Finset s.Idx) (T : Finset s.Idx)
  (hT : ∀ i ∈ l, Disjoint T (S i)) (hS : ∀ i ∈ l, ∀ j ∈ l, i ≠ j → Disjoint (S i) (S j))
include hT hS

theorem pany_big : iprop(pany c M T ∗ bigSep l fun i => pany c M (S i)) ⊢ (pany c M (T ∪ l.biUnion S) : sProp 𝕄) := by
  induction l using Finset.induction_on with
  | empty =>
    rw [Finset.biUnion_empty, Finset.union_empty]
    iintro ⟨H, -⟩; iexact H
  | insert a l ha ih =>
    rw [union_insert, big_insert ha]
    iintro ⟨H, Ha, Hl⟩
    iapply (pany_join c M (disjoint_rest ha hT hS))
    isplitr [Ha]
    · iapply (ih (fun i hi => hT i (Finset.mem_insert_of_mem hi))
        fun i hi j hj => hS i (Finset.mem_insert_of_mem hi) j (Finset.mem_insert_of_mem hj))
      isplitl [H] <;> iassumption
    iexact Ha

theorem pany_cut : pany c M (T ∪ l.biUnion S) ⊢ (iprop(pany c M T ∗ bigSep l fun i => pany c M (S i)) : sProp 𝕄) := by
  induction l using Finset.induction_on with
  | empty =>
    rw [Finset.biUnion_empty, Finset.union_empty, bigSep_empty]
    iintro H
    isplitl [H]; · iexact H
    iempintro
  | insert a l ha ih =>
    rw [union_insert, big_insert ha]
    iintro H
    ihave H := (pany_split c M (disjoint_rest ha hT hS)) $$ H
    icases H with ⟨H, Ha⟩
    ihave H := (ih (fun i hi => hT i (Finset.mem_insert_of_mem hi))
        fun i hi j hj => hS i (Finset.mem_insert_of_mem hi) j (Finset.mem_insert_of_mem hj)) $$ H
    icases H with ⟨H, Hl⟩
    isplitl [H]; · iexact H
    isplitl [Ha] <;> iassumption

theorem pts_big (q : PosShare TreeShare) (X : s.Idx → Elt F e) :
    iprop(pts c M T q X ∗ bigSep l fun i => pts c M (S i) q X) ⊢ (pts c M (T ∪ l.biUnion S) q X : sProp 𝕄) := by
  induction l using Finset.induction_on with
  | empty =>
    rw [Finset.biUnion_empty, Finset.union_empty]
    iintro ⟨H, -⟩; iexact H
  | insert a l ha ih =>
    rw [union_insert, big_insert ha]
    iintro ⟨H, Ha, Hl⟩
    iapply (pts_join c M _ _ q X (disjoint_rest ha hT hS))
    isplitr [Ha]
    · iapply (ih (fun i hi => hT i (Finset.mem_insert_of_mem hi))
        fun i hi j hj => hS i (Finset.mem_insert_of_mem hi) j (Finset.mem_insert_of_mem hj))
      isplitl [H] <;> iassumption
    iexact Ha

end Any

/-! ## Sets -/

theorem hs_disjoint (n k s k' s' : ℕ) (h : k ≠ k' ∨ s ≠ s') : Disjoint (hs n k s) (hs n k' s') := by
  rw [Finset.disjoint_left]
  intro i a b
  simp only [hs, Finset.mem_filter, Finset.mem_univ, true_and] at a b
  omega

theorem row_disjoint (o o' : Dev nD) (h : o ≠ o') : Disjoint (rowSet o) (rowSet o') := by
  rw [Finset.disjoint_left]
  intro i a b
  simp only [rowSet, Finset.mem_filter, Finset.mem_univ, true_and] at a b
  exact h (Fin.ext (a.symm.trans b))

/-- A whole chunk's rectangle. -/
theorem chunk_set {n : ℕ} (k : ℕ) (o : Fin 3 → ℕ) (ho : ∀ a, o a + S1x256x2048.size a ≤ (Sl n).size a) (h : o = ![k, 0, 0]) :
    (Rect.unit (s := Sl n) o S1x256x2048.size ho).set = hs n k 0 ∪ hs n k 1 := by
  subst h
  ext i
  have h1 : (i 1).val < 256 := (i 1).isLt
  have h2 : (i 2).val < 2048 := (i 2).isLt
  rw [Rect.mem_set_unit]
  simp only [hs, Finset.mem_union, Finset.mem_filter, Finset.mem_univ, true_and]
  constructor
  · intro a
    have a0 : k ≤ (i 0).val ∧ (i 0).val < k + 1 := a 0
    omega
  · rintro a0 a
    match a with
    | 0 => show k ≤ (i 0).val ∧ (i 0).val < k + 1; omega
    | 1 => show 0 ≤ (i 1).val ∧ (i 1).val < 0 + 256; omega
    | 2 => show 0 ≤ (i 2).val ∧ (i 2).val < 0 + 2048; omega

theorem slotF_eq (c : Dev nD) (d : Bool) (k s : ℕ) : slotF (F := F) c d k s = pany c (bufM d) (hs (slots d) k s) := rfl
theorem qF_eq (c q : Dev nD) (s : ℕ) : qF (F := F) c q s = pany c qM (hs 16 q.val s) := rfl
theorem rowF_eq (t o : Dev nD) : rowF (F := F) t o = pany t aM (rowSet o) := rfl

/-! ## A direction's buffer -/

theorem slot_cover (d : Bool) :
    (hs (slots d) 0 0 ∪ (Finset.range (ns d)).biUnion fun k => hs (slots d) (k + 1) 0)
      ∪ (hs (slots d) 0 1 ∪ (Finset.range (ns d)).biUnion fun k => hs (slots d) (k + 1) 1) = Finset.univ := by
  ext i
  have h0 : (i 0).val < ns d + 1 := by rw [← slots_ns]; exact (i 0).isLt
  have h1 : (i 1).val < 256 := (i 1).isLt
  simp only [hs, Finset.mem_union, Finset.mem_biUnion, Finset.mem_filter, Finset.mem_univ, true_and, Finset.mem_range, iff_true]
  by_cases hz : (i 0).val = 0
  · omega
  · by_cases hh : (i 1).val / 128 = 0
    · exact .inl (.inr ⟨(i 0).val - 1, by omega, by omega, hh⟩)
    · exact .inr (.inr ⟨(i 0).val - 1, by omega, by omega, by omega⟩)

theorem slot_cover' (d : Bool) :
    (hs (slots d) (ns d) 0 ∪ (Finset.range (ns d)).biUnion fun k => hs (slots d) k 0)
      ∪ (hs (slots d) (ns d) 1 ∪ (Finset.range (ns d)).biUnion fun k => hs (slots d) k 1) = Finset.univ := by
  ext i
  have h0 : (i 0).val < ns d + 1 := by rw [← slots_ns]; exact (i 0).isLt
  have h1 : (i 1).val < 256 := (i 1).isLt
  simp only [hs, Finset.mem_union, Finset.mem_biUnion, Finset.mem_filter, Finset.mem_univ, true_and, Finset.mem_range, iff_true]
  by_cases hz : (i 0).val = ns d
  · omega
  · by_cases hh : (i 1).val / 128 = 0
    · exact .inl (.inr ⟨(i 0).val, by omega, rfl, hh⟩)
    · exact .inr (.inr ⟨(i 0).val, by omega, rfl, by omega⟩)

/-- Both halves' sets stay apart. -/
theorem halves_apart {n : ℕ} {I I' : Type} [DecidableEq I] [DecidableEq I'] (l : Finset I) (l' : Finset I') (f : I → ℕ) (g : I' → ℕ) (a b : ℕ) :
    Disjoint (hs n a 0 ∪ l.biUnion fun k => hs n (f k) 0) (hs n b 1 ∪ l'.biUnion fun k => hs n (g k) 1) := by
  rw [Finset.disjoint_left]
  intro i h h'
  simp only [hs, Finset.mem_union, Finset.mem_biUnion, Finset.mem_filter, Finset.mem_univ, true_and] at h h'
  have e : (i 1).val / 128 = 0 := by rcases h with h | ⟨_, _, h⟩ <;> exact h.2
  have e' : (i 1).val / 128 = 1 := by rcases h' with h | ⟨_, _, h⟩ <;> exact h.2
  omega

theorem buf_cut (c : Dev nD) (d : Bool) :
    (pany c (bufM d) Finset.univ : sProp 𝕄)
      ⊢ iprop((slotF c d 0 0 ∗ bigSep (Finset.range (ns d)) fun k => slotF c d (k + 1) 0)
          ∗ (slotF c d 0 1 ∗ bigSep (Finset.range (ns d)) fun k => slotF c d (k + 1) 1)) := by
  rw [← slot_cover d]
  refine (pany_split c (bufM d) (halves_apart _ _ _ _ _ _)).trans (BIClass.sep_mono (pany_cut c (bufM d) _ _ _ ?_ ?_) (pany_cut c (bufM d) _ _ _ ?_ ?_))
  · exact fun i _ => hs_disjoint _ _ _ _ _ (.inl (by omega))
  · exact fun i _ j _ h => hs_disjoint _ _ _ _ _ (.inl (by omega))
  · exact fun i _ => hs_disjoint _ _ _ _ _ (.inl (by omega))
  · exact fun i _ j _ h => hs_disjoint _ _ _ _ _ (.inl (by omega))

theorem buf_join (c : Dev nD) (d : Bool) :
    iprop((slotF c d (ns d) 0 ∗ bigSep (Finset.range (ns d)) fun k => slotF c d k 0)
          ∗ (slotF c d (ns d) 1 ∗ bigSep (Finset.range (ns d)) fun k => slotF c d k 1))
      ⊢ (pany c (bufM d) Finset.univ : sProp 𝕄) := by
  rw [← slot_cover' d]
  refine (BIClass.sep_mono (pany_big c (bufM d) _ _ _ ?_ ?_) (pany_big c (bufM d) _ _ _ ?_ ?_)).trans (pany_join c (bufM d) (halves_apart _ _ _ _ _ _))
  · exact fun i hi => hs_disjoint _ _ _ _ _ (.inl (by rw [Finset.mem_range] at hi; omega))
  · exact fun i _ j _ h => hs_disjoint _ _ _ _ _ (.inl h)
  · exact fun i hi => hs_disjoint _ _ _ _ _ (.inl (by rw [Finset.mem_range] at hi; omega))
  · exact fun i _ j _ h => hs_disjoint _ _ _ _ _ (.inl h)

/-! ## The devices, by direction and distance -/

/-- `f` names every device but `c` once: eight by one direction, seven by the other. -/
structure Around (c : Dev nD) (f : Bool → ℕ → Dev nD) : Prop where
  ne : ∀ d k, k < ns d → c ≠ f d k
  inj : ∀ d k k', k < ns d → k' < ns d → k ≠ k' → f d k ≠ f d k'
  apart : ∀ k k', k < 8 → k' < 7 → f false k ≠ f true k'
  cover : ∀ o, o = c ∨ (∃ k, k < 8 ∧ o = f false k) ∨ ∃ k, k < 7 ∧ o = f true k

theorem around_go (c : Dev nD) : Around c fun d k => go d c (k + 1) := by
  have hc : c.val < 16 := c.isLt
  refine ⟨fun d k h e => ?_, fun d k k' h h' hk e => ?_, fun k k' h h' e => ?_, fun o => ?_⟩
  · have e := congrArg Fin.val e
    revert h; cases d <;> simp [go, ns] at e ⊢ <;> omega
  · have e := congrArg Fin.val e
    revert h h'; cases d <;> simp [go, ns] at e ⊢ <;> omega
  · have e := congrArg Fin.val e
    simp [go] at e; omega
  · have ho : o.val < 16 := o.isLt
    by_cases h : o = c
    · exact .inl h
    have h : o.val ≠ c.val := fun e => h (Fin.ext e)
    by_cases h8 : (o.val + 16 - c.val) % 16 ≤ 8
    · refine .inr (.inl ⟨(o.val + 16 - c.val) % 16 - 1, by omega, Fin.ext ?_⟩)
      simp only [go, Bool.false_eq_true, if_false]; omega
    · refine .inr (.inr ⟨(c.val + 16 - o.val) % 16 - 1, by omega, Fin.ext ?_⟩)
      simp only [go, if_true]; omega

theorem around_ch (c : Dev nD) : Around c fun d k => ch d c k := by
  have hc : c.val < 16 := c.isLt
  refine ⟨fun d k h e => ?_, fun d k k' h h' hk e => ?_, fun k k' h h' e => ?_, fun o => ?_⟩
  · have e := congrArg Fin.val e
    revert h; cases d <;> simp [ch, ns] at e ⊢ <;> omega
  · have e := congrArg Fin.val e
    revert h h'; cases d <;> simp [ch, ns] at e ⊢ <;> omega
  · have e := congrArg Fin.val e
    simp [ch] at e; omega
  · have ho : o.val < 16 := o.isLt
    by_cases h : o = c
    · exact .inl h
    have h : o.val ≠ c.val := fun e => h (Fin.ext e)
    by_cases h8 : 8 ≤ (o.val + 16 - c.val) % 16
    · refine .inr (.inl ⟨(o.val + 16 - c.val) % 16 - 8, by omega, Fin.ext ?_⟩)
      simp only [ch, Bool.false_eq_true, if_false]; omega
    · refine .inr (.inr ⟨7 - (o.val + 16 - c.val) % 16, by omega, Fin.ext ?_⟩)
      simp only [ch, if_true]; omega

section Around

variable {sp : Space} {s : Shape} {e : EltTy} (c : Dev nD) (M : Memref sig .tc sp s e) {f : Bool → ℕ → Dev nD} (hf : Around c f)
  (S : Dev nD → Finset s.Idx) (hd : ∀ o o', o ≠ o' → Disjoint (S o) (S o'))
include hf hd

omit hd in
theorem around_union : (S c ∪ (Finset.range (ns false)).biUnion fun k => S (f false k)) ∪ ((Finset.range (ns true)).biUnion fun k => S (f true k))
    = Finset.univ.biUnion S := by
  ext i
  simp only [Finset.mem_union, Finset.mem_biUnion, Finset.mem_range, Finset.mem_univ, true_and]
  constructor
  · rintro ((h | ⟨k, -, h⟩) | ⟨k, -, h⟩)
    · exact ⟨_, h⟩
    · exact ⟨_, h⟩
    · exact ⟨_, h⟩
  · rintro ⟨o, h⟩
    rcases hf.cover o with rfl | ⟨k, hk, rfl⟩ | ⟨k, hk, rfl⟩
    · exact .inl (.inl h)
    · exact .inl (.inr ⟨k, hk, h⟩)
    · exact .inr ⟨k, hk, h⟩

theorem around_apart : ∀ k ∈ Finset.range (ns true), Disjoint (S c ∪ (Finset.range (ns false)).biUnion fun k => S (f false k)) (S (f true k)) := by
  intro k hk
  rw [Finset.mem_range] at hk
  rw [Finset.disjoint_union_left, Finset.disjoint_biUnion_left]
  exact ⟨hd _ _ (hf.ne true k hk), fun j hj => hd _ _ (hf.apart j k (Finset.mem_range.mp hj) hk)⟩

theorem around_cut : pany c M (Finset.univ.biUnion S)
    ⊢ (iprop(pany c M (S c) ∗ (bigSep (Finset.range (ns false)) fun k => pany c M (S (f false k)))
        ∗ bigSep (Finset.range (ns true)) fun k => pany c M (S (f true k))) : sProp 𝕄) := by
  rw [← around_union c hf S]
  iintro H
  ihave H := (pany_cut c M (Finset.range (ns true)) (fun k => S (f true k)) _ (around_apart c hf S hd)
    fun i hi j hj h => hd _ _ (hf.inj true i j (Finset.mem_range.mp hi) (Finset.mem_range.mp hj) h)) $$ H
  icases H with ⟨H, H2⟩
  ihave H := (pany_cut c M (Finset.range (ns false)) (fun k => S (f false k)) _ (fun i hi => hd _ _ (hf.ne false i (Finset.mem_range.mp hi)))
    fun i hi j hj h => hd _ _ (hf.inj false i j (Finset.mem_range.mp hi) (Finset.mem_range.mp hj) h)) $$ H
  icases H with ⟨H, H1⟩
  isplitl [H]; · iexact H
  isplitl [H1] <;> iassumption

theorem around_join (q : PosShare TreeShare) (X : s.Idx → Elt F e) :
    iprop(pts c M (S c) q X ∗ (bigSep (Finset.range (ns false)) fun k => pts c M (S (f false k)) q X)
        ∗ bigSep (Finset.range (ns true)) fun k => pts c M (S (f true k)) q X)
      ⊢ (pts c M (Finset.univ.biUnion S) q X : sProp 𝕄) := by
  rw [← around_union c hf S]
  iintro ⟨H, H1, H2⟩
  iapply (pts_big c M (Finset.range (ns true)) (fun k => S (f true k)) _ (around_apart c hf S hd)
    fun i hi j hj h => hd _ _ (hf.inj true i j (Finset.mem_range.mp hi) (Finset.mem_range.mp hj) h))
  isplitr [H2]
  · iapply (pts_big c M (Finset.range (ns false)) (fun k => S (f false k)) _ (fun i hi => hd _ _ (hf.ne false i (Finset.mem_range.mp hi)))
      fun i hi j hj h => hd _ _ (hf.inj false i j (Finset.mem_range.mp hi) (Finset.mem_range.mp hj) h))
    isplitl [H] <;> iassumption
  iexact H2

end Around

/-! ## The rows and the quantised chunks -/

theorem rows_univ : (Finset.univ.biUnion rowSet : Finset S16x8x128.Idx) = Finset.univ := by
  ext i
  have h : (i 0).val < 16 := (i 0).isLt
  simp only [Finset.mem_biUnion, Finset.mem_univ, true_and, iff_true, rowSet, Finset.mem_filter]
  exact ⟨⟨(i 0).val, h⟩, rfl⟩

theorem rows_cut (c : Dev nD) : (pany c aM Finset.univ : sProp 𝕄)
    ⊢ iprop(rowF c c ∗ (bigSep (Finset.range (ns false)) fun k => rowF c (ch false c k)) ∗ bigSep (Finset.range (ns true)) fun k => rowF c (ch true c k)) := by
  rw [← rows_univ]
  exact around_cut c aM (around_ch c) rowSet row_disjoint

/-- A quantised chunk's half. -/
abbrev qs (s : ℕ) (o : Dev nD) : Finset (Sl 16).Idx := hs 16 o.val s
theorem qs_disjoint (s : ℕ) (o o' : Dev nD) (h : o ≠ o') : Disjoint (qs s o) (qs s o') :=
  hs_disjoint _ _ _ _ _ (.inl fun e => h (Fin.ext e))
theorem qs_univ : (Finset.univ.biUnion (qs 0) ∪ Finset.univ.biUnion (qs 1) : Finset (Sl 16).Idx) = Finset.univ := by
  ext i
  have h : (i 0).val < 16 := (i 0).isLt
  have h1 : (i 1).val < 256 := (i 1).isLt
  simp only [Finset.mem_union, Finset.mem_biUnion, Finset.mem_univ, true_and, iff_true, hs, Finset.mem_filter]
  by_cases hh : (i 1).val / 128 = 0
  · exact .inl ⟨⟨(i 0).val, h⟩, rfl, hh⟩
  · exact .inr ⟨⟨(i 0).val, h⟩, rfl, by omega⟩
theorem qs_apart : Disjoint (Finset.univ.biUnion (qs 0) : Finset (Sl 16).Idx) (Finset.univ.biUnion (qs 1)) := by
  rw [Finset.disjoint_biUnion_left]
  intro i _
  rw [Finset.disjoint_biUnion_right]
  exact fun j _ => hs_disjoint _ _ _ _ _ (.inr (by decide))

theorem quant_cut (c : Dev nD) : (pany c qM Finset.univ : sProp 𝕄)
    ⊢ iprop((qF c c 0 ∗ (bigSep (Finset.range (ns false)) fun k => qF c (go false c (k + 1)) 0) ∗ bigSep (Finset.range (ns true)) fun k => qF c (go true c (k + 1)) 0)
        ∗ (qF c c 1 ∗ (bigSep (Finset.range (ns false)) fun k => qF c (go false c (k + 1)) 1) ∗ bigSep (Finset.range (ns true)) fun k => qF c (go true c (k + 1)) 1)) := by
  rw [← qs_univ]
  exact (pany_split c qM qs_apart).trans (BIClass.sep_mono (around_cut c qM (around_go c) (qs 0) (qs_disjoint 0)) (around_cut c qM (around_go c) (qs 1) (qs_disjoint 1)))

end Cert.Proof
-- ==== Proof.Phase1.lean ====
/-
The first phase of the body: the products seeded, every hop of the reduce phase, and the finished chunk with its maximum.
-/
module

public import proofs.«01_k».proof.Proof.Pieces

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S4096x256 .bf16) (w : Dev nD → Vec F S256x2048 .bf16)

/-- The device's operands. -/
def xw (c : Dev nD) : sProp 𝕄 := iprop(pts c xM Finset.univ fullShare (x c) ∗ pts c wM Finset.univ fullShare (w c))

/-- A chunk's product. -/
theorem part_step (c q : Dev nD) (o : Fin 2 → ℕ) (ho : ∀ a, o a + S256x256.size a ≤ S4096x256.size a) (h : o = ![256 * q.val, 0])
    (K : FVec F S256x2048 .f32 → PP F) (Q : PUnit → sProp 𝕄) :
    xw x w c ⊢ iprop((xw x w c -∗ runs c Q (K (prt x w c q))) -∗ runs c Q (partC o ho K)) := by
  unfold partC xw
  iintro ⟨Hx, Hw⟩ Hk
  iapply (pts_load c xM Finset.univ fullShare (x c) (r := Rect.unit (s := S4096x256) o S256x256.size ho) (Finset.subset_univ _)) $$ Hx
  iintro Hx
  iapply (pts_load c wM Finset.univ fullShare (w c) (r := Rect.unit (s := S256x2048) ![0, 0] S256x2048.size inb_S256x2048_S256x2048_0_0)
    (Finset.subset_univ _)) $$ Hw
  iintro Hw
  rw [read_x (x c) q o ho h, read_w (w c)]
  iapply Hk
  isplitl [Hx] <;> iassumption

/-- The product seeds slot 0. -/
theorem seed_step (c : Dev nD) (d : Bool) (K : PP F) (Q : PUnit → sProp 𝕄) :
    iprop(slotF c d 0 0 ∗ slotF c d 0 1)
      ⊢ iprop(((pts c (bufM d) (hs (slots d) 0 0) fullShare (AC x w d c) ∗ pts c (bufM d) (hs (slots d) 0 1) fullShare (AC x w d c)) -∗ runs c Q K)
        -∗ runs c Q (seedC d (prt x w c (ch d c 0)) K)) := by
  have e := chunk_set (n := slots d) 0 _ (inb_slot0 d) rfl
  have hd := hs_disjoint (slots d) 0 0 0 1 (.inr (by decide))
  unfold seedC
  rw [slotF_eq, slotF_eq]
  iintro H Hk
  ihave H := (pany_join c (bufM d) hd) $$ H
  rw [← e]
  unfold pany
  icases H with ⟨%X, H⟩
  iapply (pts_load c (bufM d) _ fullShare X (r := Rect.unit (s := Sl (slots d)) ![0, 0, 0] S1x256x2048.size (inb_slot0 d)) (Finset.Subset.refl _)) $$ H
  iintro H
  iapply (pts_store c (bufM d) _ X (AC x w d c) (r := Rect.unit (s := Sl (slots d)) ![0, 0, 0] S1x256x2048.size (inb_slot0 d)) (Finset.Subset.refl _)
    (fun j => seed_store x w d c j) (fun i hi hn => absurd hi hn)) $$ H
  iintro H
  iapply Hk
  iapply (pts_split c (bufM d) _ _ fullShare (AC x w d c) hd)
  ihave H := (Entails.of_eq (congrArg (fun S => pts c (bufM d) S fullShare (AC x w d c)) e)) $$ H
  iexact H

/-- The state between hops. -/
def hopI (c : Dev nD) (k : ℕ) : sProp 𝕄 :=
  iprop(xw x w c ∗ (laneK c false 0 k ∗ laneK c false 1 k) ∗ (laneK c true 0 k ∗ laneK c true 1 k) ∗ own c (2 + 4 * (k + 1)))

theorem hop_step (c : Dev nD) (k : Fin 6) (K : PP F) (Q : PUnit → sProp 𝕄) :
    iprop(Rec x w ∗ hopI x w c k.val) ⊢ iprop((hopI x w c (k.val + 1) -∗ runs c Q K) -∗ runs c Q (hopC (lft c) (rgt c) c k K)) := by
  have hk := k.isLt
  have hc : c.val < 16 := c.isLt
  have e1 : k0_off3 c (BitVec.ofNat 32 k.val) = ![256 * (ch false c (k.val + 1)).val, 0] := by
    rw [show k.val = (k.castSucc : Fin 7).val from rfl, k0_off3_eq]
    show (![256 * ((c.val + k.val + 9) % 16), 0] : Fin 2 → ℕ) = ![256 * ((c.val + 8 + (k.val + 1)) % 16), 0]
    rw [show c.val + k.val + 9 = c.val + 8 + (k.val + 1) by omega]
  have e2 : k0_off4 c (BitVec.ofNat 32 k.val) = ![256 * (ch true c (k.val + 1)).val, 0] := by
    rw [k0_off4_eq]
    show (![256 * ((c.val + 6 - k.val) % 16), 0] : Fin 2 → ℕ) = ![256 * ((c.val + 7 + 16 * 8 - (k.val + 1) % 16) % 16), 0]
    rw [show (c.val + 6 - k.val) % 16 = (c.val + 7 + 16 * 8 - (k.val + 1) % 16) % 16 by omega]
  rw [lft_eq, rgt_eq]
  unfold hopC hopI
  iintro ⟨#HR, Hxw, ⟨H1, H2⟩, ⟨H3, H4⟩, HO⟩ Hk
  iapply (part_step x w c _ _ _ e1) $$ Hxw
  iintro Hxw
  iapply (part_step x w c _ _ _ e2) $$ Hxw
  iintro Hxw
  iapply (lane_hop x w c false 0 k.val _ _ (show _ = 2 + 4 * (k.val + 1) + two false + 0 from rfl)) $$ [H1 HO]
  · isplitr; · iexact HR
    isplitl [H1]; · iexact H1
    iexact HO
  iintro ⟨H1, HO⟩
  iapply (lane_hop x w c false 1 k.val _ _ (show _ = 2 + 4 * (k.val + 1) + two false + 1 from rfl)) $$ [H2 HO]
  · isplitr; · iexact HR
    isplitl [H2]; · iexact H2
    iexact HO
  iintro ⟨H2, HO⟩
  iapply (lane_hop x w c true 0 k.val _ _ (show _ = 2 + 4 * (k.val + 1) + two true + 0 from rfl)) $$ [H3 HO]
  · isplitr; · iexact HR
    isplitl [H3]; · iexact H3
    iexact HO
  iintro ⟨H3, HO⟩
  iapply (lane_hop x w c true 1 k.val _ _ (show _ = 2 + 4 * (k.val + 1) + two true + 1 from rfl)) $$ [H4 HO]
  · isplitr; · iexact HR
    isplitl [H4]; · iexact H4
    iexact HO
  iintro ⟨H4, HO⟩
  iapply Hk
  isplitl [Hxw]; · iexact Hxw
  isplitl [H1 H2]
  · isplitl [H1] <;> iassumption
  isplitl [H3 H4]
  · isplitl [H3] <;> iassumption
  iexact HO

/-- What a direction's two lanes end with. -/
def ends (c : Dev nD) (d : Bool) : sProp 𝕄 := iprop(laneE x w c d 0 (ns d) ∗ laneE x w c d 1 (ns d))

theorem last_step (c : Dev nD) (K : PP F) (Q : PUnit → sProp 𝕄) :
    iprop(Rec x w ∗ hopI x w c 6)
      ⊢ iprop(((xw x w c ∗ ends x w c false ∗ ends x w c true ∗ own c 32) -∗ runs c Q K) -∗ runs c Q (lastHops (lft c) c K)) := by
  have e1 : k0_off3 c 6#32 = ![256 * (ch false c (6 + 1)).val, 0] := by
    rw [show (6#32 : BitVec 32) = BitVec.ofNat 32 (6 : Fin 7).val from rfl, k0_off3_eq]
    show (![256 * ((c.val + 6 + 9) % 16), 0] : Fin 2 → ℕ) = ![256 * ((c.val + 8 + (6 + 1)) % 16), 0]
    rfl
  rw [lft_eq]
  unfold lastHops hopI ends
  iintro ⟨#HR, Hxw, ⟨H1, H2⟩, ⟨H3, H4⟩, HO⟩ Hk
  iapply (part_step x w c _ _ _ e1) $$ Hxw
  iintro Hxw
  iapply (lane_hop x w c false 0 6 30 _ rfl) $$ [H1 HO]
  · isplitr; · iexact HR
    isplitl [H1]; · iexact H1
    iexact HO
  iintro ⟨H1, HO⟩
  iapply (lane_hop x w c false 1 6 31 _ rfl) $$ [H2 HO]
  · isplitr; · iexact HR
    isplitl [H2]; · iexact H2
    iexact HO
  iintro ⟨H2, HO⟩
  iapply (lane_last x w c true 0 6 32 _ rfl (by decide)) $$ [H3 HO]
  · isplitr; · iexact HR
    isplitl [H3]; · iexact H3
    iexact HO
  iintro ⟨H3, HO⟩
  iapply (lane_last x w c true 1 6 32 _ rfl (by decide)) $$ [H4 HO]
  · isplitr; · iexact HR
    isplitl [H4]; · iexact H4
    iexact HO
  iintro ⟨H4, HO⟩
  iapply (lane_last x w c false 0 7 32 _ rfl (by decide)) $$ [H1 HO]
  · isplitr; · iexact HR
    isplitl [H1]; · iexact H1
    iexact HO
  iintro ⟨H1, HO⟩
  iapply (lane_last x w c false 1 7 32 _ rfl (by decide)) $$ [H2 HO]
  · isplitr; · iexact HR
    isplitl [H2]; · iexact H2
    iexact HO
  iintro ⟨H2, HO⟩
  iapply Hk
  isplitl [Hxw]; · iexact Hxw
  isplitl [H1 H2]
  · isplitl [H1] <;> iassumption
  isplitl [H3 H4]
  · isplitl [H3] <;> iassumption
  iexact HO

/-- A half slot read. -/
theorem loadH_step (c : Dev nD) (d : Bool) (k s : ℕ) (h : k < slots d ∧ s < 2) (X : (Sl (slots d)).Idx → Elt F .bf16)
    (K : FVec F S128x2048 .bf16 → PP F) (Q : PUnit → sProp 𝕄) :
    pts c (bufM d) (hs (slots d) k s) fullShare X
      ⊢ iprop((pts c (bufM d) (hs (slots d) k s) fullShare X -∗ runs c Q (K (flat (F := F) (e := .bf16) fun j => X ((half (slots d) k s h).rect.emb j))))
        -∗ runs c Q (loadH d k s h K)) := by
  unfold loadH
  exact pts_load (K := fun v => K (flat v)) (Q := Q) c (bufM d) _ fullShare X (r := (half (slots d) k s h).rect) (half_set h).subset

/-- The last landing of each lane. -/
def tail (c : Dev nD) (d : Bool) (s : ℕ) : sProp 𝕄 := pts c (bufM d) (hs (slots d) (ns d) s) fullShare (RV x w d c)

theorem finish_step (c : Dev nD) (K : FVec F S128x2048 .f32 → FVec F S128x2048 .f32 → PP F) (Q : PUnit → sProp 𝕄) :
    iprop(xw x w c ∗ (tail x w c false 0 ∗ tail x w c false 1) ∗ (tail x w c true 0 ∗ tail x w c true 1) ∗ rowF c c)
      ⊢ iprop(((xw x w c ∗ (tail x w c false 0 ∗ tail x w c false 1) ∗ (tail x w c true 0 ∗ tail x w c true 1)
            ∗ pts c aM (rowSet c) fullShare (AALL x w)) -∗ runs c Q (K (cut 0 (by decide) (fin x w c)) (cut 1 (by decide) (fin x w c))))
        -∗ runs c Q (finishC c K)) := by
  have e0 := fin_half x w c 0 (by decide) (by decide) (by decide)
  have e1 := fin_half x w c 1 (by decide) (by decide) (by decide)
  have er := row_set c _ (k0_off6_inb c) (k0_off6_eq c)
  have t0 : ∀ s, tail x w c false s = pts c (bufM false) (hs (slots false) 8 s) fullShare (RV x w false c) := fun _ => rfl
  have t1 : ∀ s, tail x w c true s = pts c (bufM true) (hs (slots true) 7 s) fullShare (RV x w true c) := fun _ => rfl
  simp only [t0, t1]
  unfold finishC rowF
  iintro ⟨Hxw, ⟨H1, H2⟩, ⟨H3, H4⟩, ⟨%X, Hr⟩⟩ Hk
  iapply (part_step x w c c _ _ (k0_off5_eq c)) $$ Hxw
  iintro Hxw
  iapply (loadH_step c false 8 0 _ (RV x w false c)) $$ H1
  iintro H1
  iapply (loadH_step c true 7 0 _ (RV x w true c)) $$ H3
  iintro H3
  iapply (loadH_step c false 8 1 _ (RV x w false c)) $$ H2
  iintro H2
  iapply (loadH_step c true 7 1 _ (RV x w true c)) $$ H4
  iintro H4
  rw [e0, e1]
  iapply (pts_load c aM (rowSet c) fullShare X (r := rowR (k0_off6 c) (k0_off6_inb c)) er.subset) $$ Hr
  iintro Hr
  iapply (pts_store c aM (rowSet c) X (AALL x w) (r := rowR (k0_off6 c) (k0_off6_inb c)) er.subset
    (fun j => row_store x w c _ (k0_off6_inb c) (k0_off6_eq c) j) (fun i hi hn => absurd (by rw [er]; exact hi) hn)) $$ Hr
  iintro Hr
  iapply Hk
  isplitl [Hxw]; · iexact Hxw
  isplitl [H1 H2]
  · isplitl [H1] <;> iassumption
  isplitl [H3 H4]
  · isplitl [H3] <;> iassumption
  iexact Hr

/-! ## The phase -/

/-- A hop's cells, waited on. -/
def rsDone (c : Dev nD) (d : Bool) (s k : ℕ) : sProp 𝕄 := iprop(done c (.dma (rsS d k s)) ∗ done c (.dma (rsR d k s)))

theorem kitD_split (c : Dev nD) (d : Bool) (s : ℕ) : bigSep (Finset.range (ns d)) (kitD (F := F) c d s)
    ⊢ (iprop(bigSep (Finset.range (ns d)) (rsDone c d s) ∗ bigSep (Finset.range (ns d)) fun k => slotF c d k s) : sProp 𝕄) := by
  have h : ∀ k, kitD (F := F) c d s k ⊢ (iprop(rsDone c d s k ∗ slotF c d k s) : sProp 𝕄) := fun k => by
    unfold kitD rsDone
    iintro ⟨H1, H2, H3⟩
    isplitl [H1 H2]
    · isplitl [H1] <;> iassumption
    iexact H3
  exact (Idealize.SL.BI.bigSep_mono fun k _ => h k).trans (Entails.of_eq (bigSep_sep' _ _ _))

/-- A direction's buffer whole again. -/
theorem ends_split (c : Dev nD) (d : Bool) : ends x w c d ⊢
    (iprop((bigSep (Finset.range (ns d)) (kitD c d 0) ∗ bigSep (Finset.range (ns d)) (kitD c d 1)) ∗ (tail x w c d 0 ∗ tail x w c d 1) ∗ pile d c (ns d)) : sProp 𝕄) := by
  have e : ns d - 1 + 1 = ns d := by cases d <;> rfl
  unfold ends laneE got tail load
  rw [e, if_pos rfl, if_neg (by decide)]
  iintro ⟨⟨H1, H2, Hp⟩, ⟨H3, H4, -⟩⟩
  isplitl [H1 H3]
  · isplitl [H1] <;> iassumption
  isplitl [H2 H4]
  · isplitl [H2] <;> iassumption
  iexact Hp

theorem buf_back (c : Dev nD) (d : Bool) :
    iprop((bigSep (Finset.range (ns d)) (kitD c d 0) ∗ bigSep (Finset.range (ns d)) (kitD c d 1)) ∗ (tail x w c d 0 ∗ tail x w c d 1)) ⊢
    (iprop((bigSep (Finset.range (ns d)) (rsDone c d 0) ∗ bigSep (Finset.range (ns d)) (rsDone c d 1)) ∗ pany c (bufM d) Finset.univ) : sProp 𝕄) := by
  iintro ⟨⟨H1, H2⟩, H3, H4⟩
  ihave H1 := (kitD_split c d 0) $$ H1
  ihave H2 := (kitD_split c d 1) $$ H2
  icases H1 with ⟨Hd, H1⟩
  icases H2 with ⟨Hd', H2⟩
  isplitl [Hd Hd']
  · isplitl [Hd] <;> iassumption
  iapply (buf_join c d)
  isplitl [H1 H3]
  · isplitl [H3]
    · rw [slotF_eq]; iapply (pany_of c (bufM d)); unfold tail; iexact H3
    iexact H1
  · isplitl [H4]
    · rw [slotF_eq]; iapply (pany_of c (bufM d)); unfold tail; iexact H4
    iexact H2

/-- Both halves of a direction at the start. -/
def startD (c : Dev nD) (d : Bool) : sProp 𝕄 := iprop((slotF c d 0 0 ∗ slotF c d 0 1) ∗ lane₀ c d 0 ∗ lane₀ c d 1)
/-- And at the end. -/
def endD (c : Dev nD) (d : Bool) : sProp 𝕄 :=
  iprop((bigSep (Finset.range (ns d)) (rsDone c d 0) ∗ bigSep (Finset.range (ns d)) (rsDone c d 1)) ∗ pany c (bufM d) Finset.univ)

theorem phase1 (c : Dev nD) (K : FVec F S128x2048 .f32 → FVec F S128x2048 .f32 → PP F) (Q : PUnit → sProp 𝕄) :
    iprop(Rec x w ∗ xw x w c ∗ startD c false ∗ startD c true ∗ rowF c c ∗ own c 2)
      ⊢ iprop(((xw x w c ∗ endD c false ∗ endD c true ∗ (pile false c (ns false) ∗ pile true c (ns true)) ∗ pts c aM (rowSet c) fullShare (AALL x w) ∗ own c 32)
            -∗ runs c Q (K (cut 0 (by decide) (fin x w c)) (cut 1 (by decide) (fin x w c))))
        -∗ runs c Q (partC (k0_off1 c) (k0_off1_inb c) fun pm => seedC false pm <|
            partC (k0_off2 c) (k0_off2_inb c) fun pp => seedC true pp <|
            rsSend false (lft c) 0 0 (by decide) <| rsSend false (lft c) 0 1 (by decide) <|
            rsSend true (rgt c) 0 0 (by decide) <| rsSend true (rgt c) 0 1 (by decide) <|
            each (hopC (lft c) (rgt c) c) [0, 1, 2, 3, 4, 5] <|
            lastHops (lft c) c <| finishC c K)) := by
  have e1 : k0_off1 c = ![256 * (ch false c 0).val, 0] := k0_off1_eq c
  have e2 : k0_off2 c = ![256 * (ch true c 0).val, 0] := by
    rw [k0_off2_eq]; revert c; decide
  unfold startD
  iintro ⟨#HR, Hxw, ⟨Hs, Hl1, Hl2⟩, ⟨Hs', Hl3, Hl4⟩, Hr, HO⟩ Hk
  iapply (part_step x w c _ _ _ e1) $$ Hxw
  iintro Hxw
  iapply (seed_step x w c false) $$ Hs
  iintro ⟨Ha, Hb⟩
  iapply (part_step x w c _ _ _ e2) $$ Hxw
  iintro Hxw
  iapply (seed_step x w c true) $$ Hs'
  iintro ⟨Ha', Hb'⟩
  rw [show rsSend (F := F) false (lft c) = rsSend false (nb false c) by rw [lft_eq], show rsSend (F := F) true (rgt c) = rsSend true (nb true c) by rw [rgt_eq]]
  iapply (lane_start x w c false 0 2 _ rfl) $$ [Hl1 Ha HO]
  · isplitr; · iexact HR
    isplitl [Hl1]; · iexact Hl1
    isplitl [Ha]; · iexact Ha
    iexact HO
  iintro ⟨H1, HO⟩
  iapply (lane_start x w c false 1 3 _ rfl) $$ [Hl2 Hb HO]
  · isplitr; · iexact HR
    isplitl [Hl2]; · iexact Hl2
    isplitl [Hb]; · iexact Hb
    iexact HO
  iintro ⟨H2, HO⟩
  iapply (lane_start x w c true 0 4 _ rfl) $$ [Hl3 Ha' HO]
  · isplitr; · iexact HR
    isplitl [Hl3]; · iexact Hl3
    isplitl [Ha']; · iexact Ha'
    iexact HO
  iintro ⟨H3, HO⟩
  iapply (lane_start x w c true 1 5 _ rfl) $$ [Hl4 Hb' HO]
  · isplitr; · iexact HR
    isplitl [Hl4]; · iexact Hl4
    isplitl [Hb']; · iexact Hb'
    iexact HO
  iintro ⟨H4, HO⟩
  iapply (each_step c (hopC (lft c) (rgt c) c) Q (hopI x w c) (Rec x w) (fun i : Fin 6 => i.val) [0, 1, 2, 3, 4, 5] 0 (by decide)
    (fun i _ K => hop_step x w c i K Q)) $$ [Hxw H1 H2 H3 H4 HO]
  · isplitr; · iexact HR
    unfold hopI
    isplitl [Hxw]; · iexact Hxw
    isplitl [H1 H2]
    · isplitl [H1] <;> iassumption
    isplitl [H3 H4]
    · isplitl [H3] <;> iassumption
    iexact HO
  iintro HI
  iapply (last_step x w c) $$ [HI]
  · isplitr; · iexact HR
    iexact HI
  iintro ⟨Hxw, He, He', HO⟩
  ihave He := (ends_split x w c false) $$ He
  icases He with ⟨Hd, Ht, Hp⟩
  ihave He' := (ends_split x w c true) $$ He'
  icases He' with ⟨Hd', Ht', Hp'⟩
  iapply (finish_step x w c) $$ [Hxw Ht Ht' Hr]
  · isplitl [Hxw]; · iexact Hxw
    isplitl [Ht]; · iexact Ht
    isplitl [Ht'] <;> iassumption
  iintro ⟨Hxw, Ht, Ht', Hr⟩
  iapply Hk
  unfold endD
  isplitl [Hxw]; · iexact Hxw
  isplitl [Hd Ht]
  · iapply (buf_back x w c false)
    isplitl [Hd] <;> iassumption
  isplitl [Hd' Ht']
  · iapply (buf_back x w c true)
    isplitl [Hd'] <;> iassumption
  isplitl [Hp Hp']
  · isplitl [Hp] <;> iassumption
  isplitl [Hr] <;> iassumption

end Cert.Proof
-- ==== Proof.Exchange.lean ====
/-
The exchange of maxima: every device sends its row to the fifteen others, at shares that add up to the whole, waits for theirs,
takes its own back, and reads all sixteen.
-/
module

public import proofs.«01_k».proof.Proof.Phase1

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S4096x256 .bf16) (w : Dev nD → Vec F S256x2048 .bf16)

theorem axDev_eq (c : Dev nD) (i : Fin 15) : axDev c i = axTgt c i.val := by
  apply Fin.ext
  revert i c
  unfold axTgt
  decide +kernel

theorem src_tgt (c : Dev nD) (i : ℕ) (h : i < 15) : axSrc (axTgt c i) i = c := by
  have hc : c.val < 16 := c.isLt
  apply Fin.ext
  show ((c.val + 1 + i) % 16 + 16 * 8 - (1 + i) % 16) % 16 = c.val
  omega

theorem pay_ax (c : Dev nD) (i : ℕ) (h : i < 15) : payCell c (32 + i) = ((axTgt c i : Thread nD τ), .dma (axR i)) := by
  have e1 : payD c (32 + i) = axTgt c i := by
    unfold payD
    rw [if_neg (by omega), if_neg (by omega), if_neg (by omega), if_pos (by omega), show 32 + i - 32 = i by omega]
  have e2 : payS (32 + i) = .dma (axR i) := by
    unfold payS
    rw [if_neg (by omega), if_neg (by omega), if_pos (by omega), show 32 + i - 32 = i by omega]
  unfold payCell
  rw [e1, e2]

theorem lv_ax : ∀ i, 47 ≤ i → i < 77 → 20 < lvP i := by
  have : ∀ i < 77, 47 ≤ i → 20 < lvP i := by decide
  exact fun i h1 h2 => this i h2 h1

theorem amt_ax (i : ℕ) (h : i < 15) : amtK (kind (.dma (axS i))) = nAX ∧ amtK (kind (.dma (axR i))) = nAX := by
  rw [kind_axS i h, kind_axR i h]; exact ⟨rfl, rfl⟩
theorem credit_ax (o : Fin 3 → ℕ) (ho) : (rowM o ho).view.dmaCredit = nAX := rfl

theorem pay_axS (c : Dev nD) (b : Bool) (i : ℕ) (h : i < 15) : payK x w c b (kind (.dma (axS i))) = pts c aM (rowSet c) (shr i) (AALL x w) := by
  rw [kind_axS i h]; rfl
theorem pay_axR (c : Dev nD) (b : Bool) (i : ℕ) (h : i < 15) :
    payK x w c b (kind (.dma (axR i))) = pts c aM (rowSet (axSrc c i)) fullShare (AALL x w) := by
  rw [kind_axR i h]; rfl

/-- What a row is sent with. -/
def axKit (c : Dev nD) (i : ℕ) : sProp 𝕄 := iprop(tok c (axS i) ∗ tok (axTgt c i) (axR i) ∗ rowF (axTgt c i) c)

def axI (c : Dev nD) (i : ℕ) : sProp 𝕄 :=
  iprop(pts c aM (rowSet c) (rest i) (AALL x w) ∗ bigSep (Finset.Ico i 15) (axKit c) ∗ (bigSep (Finset.range i) fun j => cr c (axS j)) ∗ own c (32 + i))

theorem ax_send (c : Dev nD) (i : Fin 15) (K : PP F) (Q : PUnit → sProp 𝕄) :
    iprop(Rec x w ∗ axI x w c i.val) ⊢ iprop((axI x w c (i.val + 1) -∗ runs c Q K) -∗ runs c Q (axSend c i K)) := by
  have hi := i.isLt
  have es := row_set c (k0_off7 c) (k0_off7_inb c) (k0_off7_eq c)
  have st := send_step x w c (axDev c i) aM (k0_off7_inb c) (k0_off7_inb c) S8x128 squeezes_S1x8x128_S8x128 squeezes_S1x8x128_S8x128 (shr i.val)
    (AALL x w) (AALL x w) (32 + i.val) (by omega) (axS i.val) (axR i.val) (by rw [axDev_eq]; exact pay_ax c i.val hi) (is_axS _ hi) (is_axR _ hi)
    (by rw [kind_axS _ hi]; rfl) (by rw [kind_axR _ hi]; rfl) ((credit_ax _ _).trans (amt_ax _ hi).1.symm)
    ((amt_ax _ hi).2.trans (amt_ax _ hi).1.symm) iprop(emp)
    (by rw [pay_axS x w c false _ hi]; exact Entails.of_eq (congrArg (fun S => pts c aM S (shr i.val) (AALL x w)) es))
    (by
      rw [pay_axR x w _ false _ hi, show axSrc (axDev c i) i.val = c by rw [axDev_eq]; exact src_tgt c _ hi]
      have e : pts (axDev c i) aM (rowR (k0_off7 c) (k0_off7_inb c)).set fullShare (AALL x w) = pts (axDev c i) aM (rowSet c) fullShare (AALL x w) := by rw [es]
      rw [← e]
      iintro ⟨H, -⟩; iexact H)
    (fun _ => rfl) ((View.wordExact_bits rfl).reshape _ _) ((View.wordExact_bits rfl).reshape _ _) rfl ⟨⟨rfl, Or.inl rfl⟩, trivial⟩ (fun _ => K) Q
  unfold axSend axI
  have ek : axKit c i.val = (iprop(tok c (axS i.val) ∗ tok (axDev c i) (axR i.val) ∗ rowF (axDev c i) c) : sProp 𝕄) := by rw [axDev_eq]; rfl
  iintro ⟨#HR, Hp, Hs, Hc, HO⟩ Hk
  ihave Hs := (Entails.of_eq (bigSep_Ico_succ_bot hi (axKit (F := F) c))) $$ Hs
  icases Hs with ⟨Hq, Hs⟩
  ihave Hq := (Entails.of_eq ek) $$ Hq
  unfold rowF
  icases Hq with ⟨Ha, Hb, Hz⟩
  ihave Hp := (pts_share c aM (rowSet c) (rest i.val) (AALL x w)) $$ Hp
  icases Hp with ⟨Hp, Hp'⟩
  iapply st $$ [Hp Ha Hb Hz HO]
  · isplitr; · iexact HR
    isplitl [Hp]
    · iapply (Entails.of_eq (congrArg (fun S => pts c aM S (shr i.val) (AALL x w)) es.symm)); iexact Hp
    isplitl [Hz]
    · icases Hz with ⟨%Z, Hz⟩
      iexists Z
      iapply (Entails.of_eq (congrArg (fun S => pts (axDev c i) aM S fullShare Z) es.symm)); iexact Hz
    isplitr; · iempintro
    isplitl [HO]; · iexact HO
    isplitl [Ha] <;> iassumption
  iintro ⟨Hcr, HO⟩
  iapply Hk
  isplitl [Hp']; · iexact Hp'
  isplitl [Hs]; · iexact Hs
  isplitl [Hc Hcr]
  · iapply (Entails.of_eq (bigSep_range_succ i.val (fun j => cr (F := F) c (axS j))).symm)
    isplitl [Hcr] <;> iassumption
  iexact HO

/-- The wait for a row. -/
def axJ (c : Dev nD) (i : ℕ) : sProp 𝕄 :=
  iprop(own c 47 ∗ (bigSep (Finset.Ico i 15) fun j => iprop(pend c (.dma (axR j)) ∗ cr c (axR j)))
    ∗ (bigSep (Finset.range i) fun j => done c (.dma (axR j))) ∗ bigSep (Finset.range i) fun j => pts c aM (rowSet (axSrc c j)) fullShare (AALL x w))

theorem ax_recv (c : Dev nD) (i : Fin 15) (K : PP F) (Q : PUnit → sProp 𝕄) :
    iprop(Rec x w ∗ axJ x w c i.val) ⊢ iprop((axJ x w c (i.val + 1) -∗ runs c Q K) -∗ runs c Q (axWait c (axR i.val) K)) := by
  have hi := i.isLt
  unfold axWait axJ
  iintro ⟨#HR, HO, Hp, Hd, Hr⟩ Hk
  ihave Hp := (Entails.of_eq (bigSep_Ico_succ_bot hi (fun j => iprop(pend (F := F) c (.dma (axR j)) ∗ cr c (axR j))))) $$ Hp
  icases Hp with ⟨⟨Hp, Hc⟩, Hps⟩
  iapply (wait_step x w c 47 (axR i.val) (is_axR _ hi) (by rw [kind_axR _ hi]; rfl) (rowM _ _) (rowM _ _) _ _
    ((credit_ax _ _).trans (amt_ax _ hi).2.symm) (by rw [kind_axR _ hi]; exact lv_ax)) $$ [HO Hc Hp]
  · isplitr; · iexact HR
    isplitl [HO]; · iexact HO
    isplitl [Hc] <;> iassumption
  iintro ⟨HO, Hd', Hg⟩
  ihave Hg := (Entails.of_eq (pay_axR x w c false _ hi)) $$ Hg
  iapply Hk
  isplitl [HO]; · iexact HO
  isplitl [Hps]; · iexact Hps
  isplitl [Hd Hd']
  · iapply (Entails.of_eq (bigSep_range_succ i.val (fun j => done (F := F) c (.dma (axR j)))).symm)
    isplitl [Hd'] <;> iassumption
  · iapply (Entails.of_eq (bigSep_range_succ i.val (fun j => pts c aM (rowSet (axSrc c j)) fullShare (AALL x w))).symm)
    isplitl [Hg] <;> iassumption

/-- The wait for the own row to be sent. -/
def axW (c : Dev nD) (i : ℕ) : sProp 𝕄 :=
  iprop(own c 47 ∗ (bigSep (Finset.Ico i 15) fun j => pend c (.dma (axS j))) ∗ (bigSep (Finset.Ico i 15) fun j => cr c (axS j))
    ∗ (bigSep (Finset.range i) fun j => done c (.dma (axS j))) ∗ bigSep (Finset.range i) fun j => pts c aM (rowSet c) (shr j) (AALL x w))

theorem ax_sent (c : Dev nD) (i : Fin 15) (K : PP F) (Q : PUnit → sProp 𝕄) :
    iprop(Rec x w ∗ axW x w c i.val) ⊢ iprop((axW x w c (i.val + 1) -∗ runs c Q K) -∗ runs c Q (axWait c (axS i.val) K)) := by
  have hi := i.isLt
  unfold axWait axW
  iintro ⟨#HR, HO, Hp, Hc, Hd, Hr⟩ Hk
  ihave Hp := (Entails.of_eq (bigSep_Ico_succ_bot hi (fun j => pend (F := F) c (.dma (axS j))))) $$ Hp
  ihave Hc := (Entails.of_eq (bigSep_Ico_succ_bot hi (fun j => cr (F := F) c (axS j)))) $$ Hc
  icases Hp with ⟨Hp, Hps⟩
  icases Hc with ⟨Hc, Hcs⟩
  iapply (wait_step x w c 47 (axS i.val) (is_axS _ hi) (by rw [kind_axS _ hi]; rfl) (rowM _ _) (rowM _ _) _ _
    ((credit_ax _ _).trans (amt_ax _ hi).1.symm) (by rw [kind_axS _ hi]; exact fun i _ h => lv_pos i h)) $$ [HO Hc Hp]
  · isplitr; · iexact HR
    isplitl [HO]; · iexact HO
    isplitl [Hc] <;> iassumption
  iintro ⟨HO, Hd', Hg⟩
  ihave Hg := (Entails.of_eq (pay_axS x w c false _ hi)) $$ Hg
  iapply Hk
  isplitl [HO]; · iexact HO
  isplitl [Hps]; · iexact Hps
  isplitl [Hcs]; · iexact Hcs
  isplitl [Hd Hd']
  · iapply (Entails.of_eq (bigSep_range_succ i.val (fun j => done (F := F) c (.dma (axS j)))).symm)
    isplitl [Hd'] <;> iassumption
  · iapply (Entails.of_eq (bigSep_range_succ i.val (fun j => pts c aM (rowSet c) (shr j) (AALL x w))).symm)
    isplitl [Hg] <;> iassumption

/-! ## Put together -/

theorem shares_join (c : Dev nD) : ∀ n, (iprop((bigSep (Finset.range n) fun j => pts c aM (rowSet c) (shr j) (AALL x w))
    ∗ pts c aM (rowSet c) (rest n) (AALL x w)) : sProp 𝕄) ⊢ pts c aM (rowSet c) fullShare (AALL x w)
  | 0 => by iintro ⟨-, H⟩; iexact H
  | n + 1 => by
    have ih := shares_join c n
    iintro ⟨H, Hr⟩
    ihave H := (Entails.of_eq (bigSep_range_succ n (fun j => pts c aM (rowSet c) (shr j) (AALL x w)))) $$ H
    icases H with ⟨Hl, H⟩
    iapply ih
    isplitl [H]; · iexact H
    iapply (pts_unshare c aM (rowSet c) (rest n) (AALL x w))
    isplitl [Hl]; · iexact Hl
    iexact Hr

theorem src_cover (c : Dev nD) : (rowSet c ∪ (Finset.range 15).biUnion fun j => rowSet (axSrc c j)) = (Finset.univ : Finset S16x8x128.Idx) := by
  have hc : c.val < 16 := c.isLt
  ext i
  have h : (i 0).val < 16 := (i 0).isLt
  simp only [Finset.mem_union, Finset.mem_biUnion, Finset.mem_range, Finset.mem_univ, iff_true, rowSet, Finset.mem_filter, true_and]
  by_cases e : (i 0).val = c.val
  · exact .inl e
  · refine .inr ⟨(c.val + 16 - (i 0).val - 1) % 16, by omega, ?_⟩
    show (i 0).val = (c.val + 16 * 8 - (1 + (c.val + 16 - (i 0).val - 1) % 16) % 16) % 16
    omega

theorem src_ne (c : Dev nD) (j : ℕ) (h : j < 15) : c ≠ axSrc c j := by
  have hc : c.val < 16 := c.isLt
  intro e
  have e := congrArg Fin.val e
  have e : c.val = (c.val + 16 * 8 - (1 + j) % 16) % 16 := e
  omega
theorem src_inj (c : Dev nD) (j k : ℕ) (h : j < 15) (h' : k < 15) (hn : j ≠ k) : axSrc c j ≠ axSrc c k := by
  have hc : c.val < 16 := c.isLt
  intro e
  have e := congrArg Fin.val e
  have e : (c.val + 16 * 8 - (1 + j) % 16) % 16 = (c.val + 16 * 8 - (1 + k) % 16) % 16 := e
  omega

theorem rows_join (c : Dev nD) : (iprop(pts c aM (rowSet c) fullShare (AALL x w)
    ∗ bigSep (Finset.range 15) fun j => pts c aM (rowSet (axSrc c j)) fullShare (AALL x w)) : sProp 𝕄) ⊢ pts c aM Finset.univ fullShare (AALL x w) := by
  rw [← src_cover c]
  refine pts_big c aM (Finset.range 15) (fun j => rowSet (axSrc c j)) (rowSet c) ?_ ?_ fullShare (AALL x w)
  · exact fun j hj => row_disjoint _ _ (src_ne c j (Finset.mem_range.mp hj))
  · exact fun j hj k hk hn => row_disjoint _ _ (src_inj c j k (Finset.mem_range.mp hj) (Finset.mem_range.mp hk) hn)

/-- All the cells of the exchange, before and after. -/
def axStart (c : Dev nD) : sProp 𝕄 :=
  iprop(bigSep (Finset.Ico 0 15) (axKit c) ∗ (bigSep (Finset.Ico 0 15) fun j => iprop(pend c (.dma (axR j)) ∗ cr c (axR j)))
    ∗ bigSep (Finset.Ico 0 15) fun j => pend c (.dma (axS j)))
def axEnd (c : Dev nD) : sProp 𝕄 :=
  iprop((bigSep (Finset.range 15) fun j => done c (.dma (axS j))) ∗ bigSep (Finset.range 15) fun j => done c (.dma (axR j)))

theorem exchange_step (c : Dev nD) (K : F .f32 → PP F) (Q : PUnit → sProp 𝕄) :
    iprop(Rec x w ∗ axStart c ∗ pts c aM (rowSet c) fullShare (AALL x w) ∗ own c 32)
      ⊢ iprop(((axEnd c ∗ pany c aM Finset.univ ∗ own c 47) -∗ runs c Q (K (top x w))) -∗ runs c Q (exchange c K)) := by
  unfold exchange axStart axEnd
  iintro ⟨#HR, ⟨Hk1, Hk2, Hk3⟩, Hp, HO⟩ Hk
  iapply (each_step c (axSend c) Q (axI x w c) (Rec x w) (fun i : Fin 15 => i.val) all15 0 (by decide) (fun i _ K => ax_send x w c i K Q)) $$ [Hk1 Hp HO]
  · isplitr; · iexact HR
    unfold axI
    isplitl [Hp]; · iexact Hp
    isplitl [Hk1]; · iexact Hk1
    isplitr
    · rw [Finset.range_zero, bigSep_empty]; iempintro
    iexact HO
  iintro HI
  ihave HI := (Entails.of_eq (show axI x w c (0 + all15.length) = iprop(pts c aM (rowSet c) (rest 15) (AALL x w) ∗ bigSep (Finset.Ico 15 15) (axKit c)
    ∗ (bigSep (Finset.range 15) fun j => cr c (axS j)) ∗ own c 47) from rfl)) $$ HI
  icases HI with ⟨Hp, -, Hc, HO⟩
  iapply (each_step c (fun i : Fin 15 => axWait c (axR i.val)) Q (axJ x w c) (Rec x w) (fun i : Fin 15 => i.val) all15 0 (by decide)
    (fun i _ K => ax_recv x w c i K Q)) $$ [Hk2 HO]
  · isplitr; · iexact HR
    unfold axJ
    rw [Finset.range_zero, bigSep_empty, bigSep_empty]
    isplitl [HO]; · iexact HO
    isplitl [Hk2]; · iexact Hk2
    isplitr <;> iempintro
  iintro HI
  ihave HI := (Entails.of_eq (show axJ x w c (0 + all15.length) = iprop(own c 47 ∗ (bigSep (Finset.Ico 15 15) fun j => iprop(pend c (.dma (axR j)) ∗ cr c (axR j)))
    ∗ (bigSep (Finset.range 15) fun j => done c (.dma (axR j))) ∗ bigSep (Finset.range 15) fun j => pts c aM (rowSet (axSrc c j)) fullShare (AALL x w)) from rfl)) $$ HI
  icases HI with ⟨HO, -, Hd, Hr⟩
  iapply (each_step c (fun i : Fin 15 => axWait c (axS i.val)) Q (axW x w c) (Rec x w) (fun i : Fin 15 => i.val) all15 0 (by decide)
    (fun i _ K => ax_sent x w c i K Q)) $$ [Hk3 Hc HO]
  · isplitr; · iexact HR
    unfold axW
    rw [Finset.range_zero, bigSep_empty, bigSep_empty, ← Finset.range_eq_Ico]
    isplitl [HO]; · iexact HO
    isplitl [Hk3]; · iexact Hk3
    isplitl [Hc]; · iexact Hc
    isplitr <;> iempintro
  iintro HI
  ihave HI := (Entails.of_eq (show axW x w c (0 + all15.length) = iprop(own c 47 ∗ (bigSep (Finset.Ico 15 15) fun j => pend c (.dma (axS j)))
    ∗ (bigSep (Finset.Ico 15 15) fun j => cr c (axS j)) ∗ (bigSep (Finset.range 15) fun j => done c (.dma (axS j)))
    ∗ bigSep (Finset.range 15) fun j => pts c aM (rowSet c) (shr j) (AALL x w)) from rfl)) $$ HI
  icases HI with ⟨HO, -, -, Hd', Hs⟩
  ihave Hp := (shares_join x w c 15) $$ [Hs Hp]
  · isplitl [Hs] <;> iassumption
  ihave Hp := (rows_join x w c) $$ [Hp Hr]
  · isplitl [Hp] <;> iassumption
  iapply (pts_load c aM Finset.univ fullShare (AALL x w) (r := Rect.unit (s := S16x8x128) ![0, 0, 0] S16x8x128.size inb_S16x8x128_S16x8x128_0_0_0)
    (Finset.subset_univ _)) $$ Hp
  iintro Hp
  have e : (fun j => AALL x w ((Rect.unit (s := S16x8x128) ![0, 0, 0] S16x8x128.size inb_S16x8x128_S16x8x128_0_0_0).emb j)) = AALL x w := by
    funext j
    refine congrArg (AALL x w) (funext fun a => Fin.ext ?_)
    rw [Rect.emb_apply]
    match a with
    | 0 => show 0 + 1 * (j 0).val = (j 0).val; omega
    | 1 => show 0 + 1 * (j 1).val = (j 1).val; omega
    | 2 => show 0 + 1 * (j 2).val = (j 2).val; omega
  rw [e]
  ihave Hp := (pany_of c aM Finset.univ (AALL x w)) $$ Hp
  iapply Hk
  isplitl [Hd Hd']
  · isplitl [Hd'] <;> iassumption
  isplitl [Hp] <;> iassumption

end Cert.Proof
-- ==== Proof.Gather.lean ====
/-
The gather phase: the finished chunk quantised, sent both ways at half shares, passed on at every hop and read back into the result.
-/
module

public import proofs.«01_k».proof.Proof.Exchange

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S4096x256 .bf16) (w : Dev nD → Vec F S256x2048 .bf16)

/-! ## Pieces of the quantised buffer -/

theorem piece_half {n : ℕ} (k s : ℕ) (h : k < n ∧ s < 2) (P : Piece n) (e : P.off = ![k, 128 * s, 0]) : P = half n k s h := by
  obtain ⟨off, inb, row⟩ := P
  have e : off = ![k, 128 * s, 0] := e
  subst e
  rfl

theorem ownP_eq (c : Dev nD) (s : Fin 2) : ownP c s = half 16 c.val s.val ⟨c.isLt, s.isLt⟩ := by
  apply piece_half
  match s with
  | 0 => exact k0_off9_eq c
  | 1 => exact k0_off11_eq c
theorem sentP_eq (c : Dev nD) (s : Fin 2) : sentP c s = half 16 (go false c 0).val s.val ⟨(go false c 0).isLt, s.isLt⟩ := by
  apply piece_half
  rw [go_zero]
  match s with
  | 0 => exact k0_off12_eq c
  | 1 => exact k0_off13_eq c
theorem go_true_val (c : Dev nD) (k : ℕ) (h : k < 15) : ((c.val + 15) - k) % 16 = (go true c (k + 1)).val := by
  have hc : c.val < 16 := c.isLt
  show _ = (c.val + 16 * 8 - (k + 1) % 16) % 16
  omega
theorem mfwdP_eq (c : Dev nD) (k : Fin 7) (s : Fin 2) :
    mfwdP c k s = half 16 (go false c (k.val + 1)).val s.val ⟨(go false c (k.val + 1)).isLt, s.isLt⟩ := by
  apply piece_half
  match s with
  | 0 => exact k0_off14_eq c k
  | 1 => exact k0_off15_eq c k
theorem pfwdP_eq (c : Dev nD) (k : Fin 6) (s : Fin 2) :
    pfwdP c k s = half 16 (go true c (k.val + 1)).val s.val ⟨(go true c (k.val + 1)).isLt, s.isLt⟩ := by
  have hk := k.isLt
  apply piece_half
  rw [← go_true_val c k.val (by omega)]
  match s with
  | 0 => exact k0_off18_eq c k
  | 1 => exact k0_off19_eq c k

/-! ## One transfer -/

theorem pay_ag (c : Dev nD) (d : Bool) (k s n : ℕ) (h : k < ns d ∧ s < 2) (hn : n = 47 + 4 * k + two d + s) :
    n < 77 ∧ payCell c n = ((nb d c : Thread nD τ), .dma (agR d k s)) := by
  subst hn
  have hs := h.2
  have lt : 47 + 4 * k + two d + s < 77 := by
    have h1 := h.1
    cases d <;> simp [ns, two] at h1 ⊢ <;> omega
  have e : pd (47 + 4 * k + two d + s - 47) = d := by unfold pd; cases d <;> simp [two] <;> omega
  have e1 : (47 + 4 * k + two d + s - 47) / 4 = k := by cases d <;> simp [two] <;> omega
  have e2 : (47 + 4 * k + two d + s - 47) % 2 = s := by cases d <;> simp [two] <;> omega
  refine ⟨lt, ?_⟩
  unfold payCell payD payS
  rw [if_neg (by omega), if_neg (by omega), if_neg (by omega), if_neg (by omega), if_neg (by omega), if_neg (by omega), if_neg (by omega), e, e1, e2]

theorem amt_ag (d : Bool) (k s : ℕ) (h : k < ns d ∧ s < 2) : amtK (kind (.dma (agS d k s))) = nAG ∧ amtK (kind (.dma (agR d k s))) = nAG := by
  rw [kind_agS d k s h, kind_agR d k s h]; exact ⟨rfl, rfl⟩
theorem credit_ag (P : Piece 16) : (hM qM P).view.dmaCredit = nAG := rfl

/-- Half of a quantised chunk, at a share. -/
def qpts (c q : Dev nD) (s : ℕ) (sh : PosShare TreeShare) : sProp 𝕄 := pts c qM (hs 16 q.val s) sh (QALL x w)

theorem pay_agS (c : Dev nD) (d b : Bool) (k s : ℕ) (h : k < ns d ∧ s < 2) : payK x w c b (kind (.dma (agS d k s))) = qpts x w c (go d c k) s (qsh d k) := by
  rw [kind_agS d k s h]; rfl
theorem pay_agR (c : Dev nD) (d b : Bool) (k s : ℕ) (h : k < ns d ∧ s < 2) :
    payK x w c b (kind (.dma (agR d k s))) = qpts x w c (go d c (k + 1)) s fullShare := by
  rw [kind_agR d k s h]; rfl

theorem ag_send (c : Dev nD) (d : Bool) (k s n : ℕ) (h : k < ns d ∧ s < 2) (hn : n = 47 + 4 * k + two d + s) (K : PP F) (Q : PUnit → sProp 𝕄) :
    iprop(Rec x w ∗ qpts x w c (go d c k) s (qsh d k) ∗ qF (nb d c) (go d c k) s ∗ own c n ∗ tok c (agS d k s) ∗ tok (nb d c) (agR d k s))
      ⊢ iprop(((cr c (agS d k s) ∗ own c (n + 1)) -∗ runs c Q K)
        -∗ runs c Q (agSend d (nb d c) (half 16 (go d c k).val s ⟨(go d c k).isLt, h.2⟩) k s K)) := by
  obtain ⟨lt, hc⟩ := pay_ag c d k s n h hn
  have hh : (go d c k).val < 16 ∧ s < 2 := ⟨(go d c k).isLt, h.2⟩
  have e := half_set (n := 16) (k := (go d c k).val) (s := s) hh
  have st := send_step x w c (nb d c) qM (half 16 _ s hh).inb (half 16 _ s hh).inb S128x2048
    squeezes_S1x128x2048_S128x2048 squeezes_S1x128x2048_S128x2048 (qsh d k) (QALL x w) (QALL x w) n lt (agS d k s) (agR d k s) hc
    (is_agS d k s h) (is_agR d k s h) (by rw [kind_agS d k s h]; rfl) (by rw [kind_agR d k s h]; rfl)
    ((credit_ag _).trans (amt_ag d k s h).1.symm) ((amt_ag d k s h).2.trans (amt_ag d k s h).1.symm) iprop(emp)
    (by rw [pay_agS x w c d false k s h]; exact Entails.of_eq (congrArg (fun S => pts c qM S (qsh d k) (QALL x w)) e))
    (by
      rw [pay_agR x w _ d false k s h, go_nb]
      have e' : pts (nb d c) qM (half 16 _ s hh).rect.set fullShare (QALL x w) = qpts x w (nb d c) (go d c k) s fullShare := by rw [e]; rfl
      rw [← e']
      iintro ⟨H, -⟩; iexact H)
    (fun _ => rfl) (hM_words (Memref.isWhole_whole _) packs_i8 (half 16 _ s hh)) (hM_words (Memref.isWhole_whole _) packs_i8 (half 16 _ s hh)) rfl
    ⟨⟨rfl, Or.inl rfl⟩, trivial⟩ (fun _ => K) Q
  unfold agSend sendC qF qpts
  iintro ⟨#HR, Hp, ⟨%Z, Hz⟩, HO, Ha, Hb⟩ Hk
  iapply st $$ [Hp Hz HO Ha Hb]
  · isplitr; · iexact HR
    isplitl [Hp]
    · iapply (Entails.of_eq (congrArg (fun S => pts c qM S (qsh d k) (QALL x w)) e.symm)); iexact Hp
    isplitl [Hz]
    · iexists Z
      iapply (Entails.of_eq (congrArg (fun S => pts (nb d c) qM S fullShare Z) e.symm)); iexact Hz
    isplitr; · iempintro
    isplitl [HO]; · iexact HO
    isplitl [Ha] <;> iassumption
  iexact Hk

/-! ## Lanes -/

def gkitW (c : Dev nD) (d : Bool) (s k : ℕ) : sProp 𝕄 :=
  iprop(pend c (.dma (agS d k s)) ∗ pend c (.dma (agR d k s)) ∗ cr c (agR d k s))
def gkit (c : Dev nD) (d : Bool) (s k : ℕ) : sProp 𝕄 :=
  iprop(tok c (agS d k s) ∗ tok (nb d c) (agR d k s) ∗ qF (nb d c) (go d c k) s)
def gdone (c : Dev nD) (d : Bool) (s k : ℕ) : sProp 𝕄 := iprop(done c (.dma (agS d k s)) ∗ done c (.dma (agR d k s)))
/-- What a transfer gave back, and what was kept of it. -/
def gsrc (c : Dev nD) (d : Bool) (s k : ℕ) : sProp 𝕄 := qpts x w c (go d c k) s (qsh d k)
def held (c : Dev nD) (d : Bool) (s k : ℕ) : sProp 𝕄 := qpts x w c (go d c (k + 1)) s fullShare.right

def gLane₀ (c : Dev nD) (d : Bool) (s : ℕ) : sProp 𝕄 :=
  iprop(bigSep (Finset.Ico 0 (ns d)) (gkitW c d s) ∗ bigSep (Finset.Ico 0 (ns d)) (gkit c d s))
def gLane (c : Dev nD) (d : Bool) (s k : ℕ) : sProp 𝕄 :=
  iprop(cr c (agS d k s) ∗ bigSep (Finset.Ico k (ns d)) (gkitW c d s) ∗ bigSep (Finset.Ico (k + 1) (ns d)) (gkit c d s)
    ∗ bigSep (Finset.range k) (gdone c d s) ∗ bigSep (Finset.range k) (gsrc x w c d s))
def gEnd (c : Dev nD) (d : Bool) (s : ℕ) : sProp 𝕄 :=
  iprop(bigSep (Finset.range (ns d)) (gdone c d s) ∗ bigSep (Finset.range (ns d)) (gsrc x w c d s))

theorem g_start (c : Dev nD) (d : Bool) (s n : ℕ) (hs : s < 2) (hn : n = 47 + 4 * 0 + two d + s) (K : PP F) (Q : PUnit → sProp 𝕄) :
    iprop(Rec x w ∗ gLane₀ c d s ∗ gsrc x w c d s 0 ∗ own c n)
      ⊢ iprop(((gLane x w c d s 0 ∗ own c (n + 1)) -∗ runs c Q K)
        -∗ runs c Q (agSend d (nb d c) (half 16 (go d c 0).val s ⟨(go d c 0).isLt, hs⟩) 0 s K)) := by
  have h0 : 0 < ns d := by cases d <;> decide
  unfold gLane₀ gLane gsrc
  iintro ⟨#HR, ⟨Hw, Hs⟩, Hp, HO⟩ Hk
  ihave Hs := (Entails.of_eq (bigSep_Ico_succ_bot h0 (gkit (F := F) c d s))) $$ Hs
  unfold gkit
  icases Hs with ⟨⟨Ht, Ht', Hq⟩, Hs⟩
  iapply (ag_send x w c d 0 s n ⟨h0, hs⟩ hn) $$ [Hp Hq HO Ht Ht']
  · isplitr; · iexact HR
    isplitl [Hp]; · iexact Hp
    isplitl [Hq]; · iexact Hq
    isplitl [HO]; · iexact HO
    isplitl [Ht] <;> iassumption
  iintro ⟨Hc, HO⟩
  iapply Hk
  rw [Finset.range_zero, bigSep_empty, bigSep_empty]
  isplitr [HO]
  · isplitl [Hc]; · iexact Hc
    isplitl [Hw]; · iexact Hw
    isplitl [Hs]; · iexact Hs
    isplitr <;> iempintro
  iexact HO

/-- A hop's two waits. -/
theorem g_wait (c : Dev nD) (d : Bool) (s k n : ℕ) (h : k < ns d ∧ s < 2) (hn : 47 + 4 * (k + 1) ≤ n ∨ 77 ≤ n) (K : PP F) (Q : PUnit → sProp 𝕄) :
    iprop(Rec x w ∗ gLane x w c d s k ∗ own c n)
      ⊢ iprop(((bigSep (Finset.Ico (k + 1) (ns d)) (gkitW c d s) ∗ bigSep (Finset.Ico (k + 1) (ns d)) (gkit c d s)
            ∗ bigSep (Finset.range (k + 1)) (gdone c d s) ∗ bigSep (Finset.range (k + 1)) (gsrc x w c d s)
            ∗ qpts x w c (go d c (k + 1)) s fullShare ∗ own c n) -∗ runs c Q K)
        -∗ runs c Q (agWait c d k s K)) := by
  have k8 : k < 8 := lt_of_lt_of_le h.1 (by cases d <;> simp [ns])
  unfold agWait waitC gLane
  iintro ⟨#HR, ⟨Hc, Hw, Hs, Hd, Hg⟩, HO⟩ Hk
  ihave Hw := (Entails.of_eq (bigSep_Ico_succ_bot h.1 (gkitW (F := F) c d s))) $$ Hw
  icases Hw with ⟨Hw1, Hw⟩
  unfold gkitW
  icases Hw1 with ⟨Hp, Hp', Hc'⟩
  iapply (wait_step x w c n (agS d k s) (is_agS d k s h) (by rw [kind_agS d k s h]; rfl) (hM qM _) (hM qM _) _ _
    ((credit_ag _).trans (amt_ag d k s h).1.symm) (by rw [kind_agS d k s h]; exact fun i _ h => lv_pos i h)) $$ [HO Hc Hp]
  · isplitr; · iexact HR
    isplitl [HO]; · iexact HO
    isplitl [Hc] <;> iassumption
  iintro ⟨HO, He, Hsrc⟩
  iapply (wait_step x w c n (agR d k s) (is_agR d k s h) (by rw [kind_agR d k s h]; rfl) (hM qM _) (hM qM _) _ _
    ((credit_ag _).trans (amt_ag d k s h).2.symm) (by rw [kind_agR d k s h]; exact lv_ag k n k8 hn)) $$ [HO Hc' Hp']
  · isplitr; · iexact HR
    isplitl [HO]; · iexact HO
    isplitl [Hc'] <;> iassumption
  iintro ⟨HO, He', Hgot⟩
  ihave Hsrc := (Entails.of_eq (pay_agS x w c d false k s h)) $$ Hsrc
  ihave Hgot := (Entails.of_eq (pay_agR x w c d false k s h)) $$ Hgot
  iapply Hk
  isplitl [Hw]; · iexact Hw
  isplitl [Hs]; · iexact Hs
  isplitl [Hd He He']
  · iapply (Entails.of_eq (bigSep_range_succ k (gdone (F := F) c d s)).symm)
    unfold gdone
    isplitl [He He']
    · isplitl [He] <;> iassumption
    iexact Hd
  isplitl [Hg Hsrc]
  · iapply (Entails.of_eq (bigSep_range_succ k (gsrc x w c d s)).symm)
    isplitl [Hsrc]; · unfold gsrc; iexact Hsrc
    iexact Hg
  isplitl [Hgot] <;> iassumption

theorem qsh_succ (d : Bool) (k : ℕ) : qsh d (k + 1) = fullShare.left := if_neg (by simp)

/-- A hop that passes the half on. -/
theorem g_hop (c : Dev nD) (d : Bool) (s k n : ℕ) (h : k + 1 < ns d ∧ s < 2) (hn : n = 47 + 4 * (k + 1) + two d + s) (K : PP F) (Q : PUnit → sProp 𝕄) :
    iprop(Rec x w ∗ gLane x w c d s k ∗ own c n)
      ⊢ iprop(((gLane x w c d s (k + 1) ∗ held x w c d s k ∗ own c (n + 1)) -∗ runs c Q K)
        -∗ runs c Q (agWait c d k s (agSend d (nb d c) (half 16 (go d c (k + 1)).val s ⟨(go d c (k + 1)).isLt, h.2⟩) (k + 1) s K))) := by
  iintro ⟨#HR, HL, HO⟩ Hk
  iapply (g_wait x w c d s k n ⟨by omega, h.2⟩ (.inl (by omega))) $$ [HL HO]
  · isplitr; · iexact HR
    isplitl [HL] <;> iassumption
  iintro ⟨Hw, Hs, Hd, Hg, Hq, HO⟩
  ihave Hs := (Entails.of_eq (bigSep_Ico_succ_bot h.1 (gkit (F := F) c d s))) $$ Hs
  icases Hs with ⟨Hkit, Hs⟩
  unfold gkit
  icases Hkit with ⟨Ht, Ht', Hz⟩
  unfold qpts
  ihave Hq := (pts_share c qM _ fullShare (QALL x w)) $$ Hq
  icases Hq with ⟨Hq, Hq'⟩
  iapply (ag_send x w c d (k + 1) s n h hn) $$ [Hq Hz HO Ht Ht']
  · isplitr; · iexact HR
    isplitl [Hq]; · rw [qsh_succ]; unfold qpts; iexact Hq
    isplitl [Hz]; · iexact Hz
    isplitl [HO]; · iexact HO
    isplitl [Ht] <;> iassumption
  iintro ⟨Hc, HO⟩
  iapply Hk
  isplitr [HO Hq']
  · unfold gLane
    isplitl [Hc]; · iexact Hc
    isplitl [Hw]; · iexact Hw
    isplitl [Hs]; · iexact Hs
    isplitl [Hd] <;> iassumption
  isplitl [Hq']
  · unfold held qpts; iexact Hq'
  iexact HO

/-- The last hop of a lane. -/
theorem g_last (c : Dev nD) (d : Bool) (s k n : ℕ) (h : k + 1 = ns d ∧ s < 2) (hn : 77 ≤ n) (K : PP F) (Q : PUnit → sProp 𝕄) :
    iprop(Rec x w ∗ gLane x w c d s k ∗ own c n)
      ⊢ iprop(((gEnd x w c d s ∗ qpts x w c (go d c (ns d)) s fullShare ∗ own c n) -∗ runs c Q K) -∗ runs c Q (agWait c d k s K)) := by
  iintro ⟨#HR, HL, HO⟩ Hk
  iapply (g_wait x w c d s k n ⟨by omega, h.2⟩ (.inr hn)) $$ [HL HO]
  · isplitr; · iexact HR
    isplitl [HL] <;> iassumption
  rw [h.1]
  iintro ⟨-, -, Hd, Hg, Hq, HO⟩
  iapply Hk
  unfold gEnd
  isplitl [Hd Hg]
  · isplitl [Hd] <;> iassumption
  isplitl [Hq] <;> iassumption

/-! ## The result -/

/-- The result written where `D` says, by half chunk. -/
def outP (c : Dev nD) (D : ℕ → Prop) : sProp 𝕄 :=
  iprop(∃ Z, ⌜∀ i : S4096x2048.Idx, D ((i 0).val / 128) → Z i = OUT x w i⌝ ∗ pts c oM Finset.univ fullShare Z)

theorem out_step (c : Dev nD) (r : Rect S4096x2048) (D D' : ℕ → Prop) (hD : ∀ i : S4096x2048.Idx, D' ((i 0).val / 128) → i ∈ r.set ∨ D ((i 0).val / 128))
    (v : r.shape.Idx → Elt F .bf16) (hv : ∀ j, OUT x w (r.emb j) = v j) (hl : oM.view.LoadsAt r.toLoadRect) (hst : (oM.access r).Stores Finset.univ)
    (hm) (K : PP F) (Q : PUnit → sProp 𝕄) :
    outP x w c D ⊢ iprop((outP x w c D' -∗ runs c Q K)
      -∗ runs c Q (.op (.load oM r.toLoadRect hl) fun _ => .op (.store oM r v Finset.univ hst hm) fun _ => K)) := by
  unfold outP
  iintro ⟨%Z, %hZ, H⟩ Hk
  have hY : ∃ Y : S4096x2048.Idx → Elt F .bf16, (∀ i ∈ r.set, Y i = OUT x w i) ∧ ∀ i, i ∉ r.set → Y i = Z i :=
    ⟨fun i => if i ∈ r.set then OUT x w i else Z i, fun i h => if_pos h, fun i h => if_neg h⟩
  obtain ⟨Y, h1, h2⟩ := hY
  iapply (pts_load c oM Finset.univ fullShare Z (r := r) (Finset.subset_univ _)) $$ H
  iintro H
  iapply (pts_store c oM Finset.univ Z Y (r := r) (Finset.subset_univ _)
    (fun j => (h1 _ (rect_emb_mem _ j)).trans (hv j)) (fun i _ h => h2 i h)) $$ H
  iintro H
  iapply Hk
  iexists Y
  isplitr
  · ipureintro
    intro i hi
    by_cases h : i ∈ r.set
    · exact h1 i h
    · exact (h2 i h).trans (hZ i ((hD i hi).resolve_left h))
  iexact H

end Cert.Proof
-- ==== Proof.Cells.lean ====
/-
A device's hundred and fifty-one cells as families: the ten rows of fifteen, a row by direction and hop, and payments by
direction, half and hop.

Also whose tokens a device is dealt, and the closing of all its cells at the end.
-/
module

public import proofs.«01_k».proof.Proof.Gather
public import Idealize.ShloMosaic.Lib.Rounds.Family

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families of numbers -/

theorem sep_eq {P Q : sProp 𝕄} (h : P ⊢ Q) (h' : Q ⊢ P) : P = Q := BI.Entails.antisymm h h'

theorem range_zero (Φ : ℕ → sProp 𝕄) : bigSep (Finset.range 0) Φ = iprop(emp) := by rw [Finset.range_zero, bigSep_empty]; rfl

theorem range_add (a b : ℕ) (Φ : ℕ → sProp 𝕄) :
    bigSep (Finset.range (a + b)) Φ = iprop(bigSep (Finset.range a) Φ ∗ bigSep (Finset.range b) fun k => Φ (a + k)) := by
  induction b with
  | zero =>
    rw [range_zero, Nat.add_zero]
    exact sep_eq
      (by iintro H; isplitl [H]; · iexact H
          iempintro)
      (by iintro ⟨H, -⟩; iexact H)
  | succ b ih =>
    rw [← Nat.add_assoc, bigSep_range_succ, bigSep_range_succ, ih]
    exact sep_eq
      (by iintro ⟨H1, H2, H3⟩; isplitl [H2]; · iexact H2
          isplitl [H1]; · iexact H1
          iexact H3)
      (by iintro ⟨H2, H1, H3⟩; isplitl [H1]; · iexact H1
          isplitl [H2]; · iexact H2
          iexact H3)

/-- Four at a time. -/
theorem range_four (K : ℕ) (Φ : ℕ → sProp 𝕄) :
    bigSep (Finset.range (4 * K)) Φ = iprop(bigSep (Finset.range K) (fun k => Φ (4 * k)) ∗ bigSep (Finset.range K) (fun k => Φ (4 * k + 1))
      ∗ bigSep (Finset.range K) (fun k => Φ (4 * k + 2)) ∗ bigSep (Finset.range K) (fun k => Φ (4 * k + 3))) := by
  rw [← bigSep_sep', ← bigSep_sep', ← bigSep_sep']
  induction K with
  | zero => rfl
  | succ K ih =>
    rw [show 4 * (K + 1) = 4 * K + 3 + 1 from rfl, bigSep_range_succ, bigSep_range_succ, bigSep_range_succ, bigSep_range_succ, ih, bigSep_range_succ]
    exact sep_eq
      (by iintro ⟨H3, H2, H1, H0, H⟩
          isplitr [H]; · isplitl [H0]; · iexact H0
                         isplitl [H1]; · iexact H1
                         isplitl [H2]; · iexact H2
                         iexact H3
          iexact H)
      (by iintro ⟨⟨H0, H1, H2, H3⟩, H⟩
          isplitl [H3]; · iexact H3
          isplitl [H2]; · iexact H2
          isplitl [H1]; · iexact H1
          isplitl [H0]; · iexact H0
          iexact H)

/-- Something for each half of each hop of each direction. -/
def fan (Φ : Bool → ℕ → ℕ → sProp 𝕄) : sProp 𝕄 :=
  iprop((bigSep (Finset.range (ns false)) (Φ false 0) ∗ bigSep (Finset.range (ns false)) (Φ false 1))
    ∗ (bigSep (Finset.range (ns true)) (Φ true 0) ∗ bigSep (Finset.range (ns true)) (Φ true 1)))

/-- A phase's thirty payments. -/
theorem range_fan (Φ : Bool → ℕ → ℕ → sProp 𝕄) : (bigSep (Finset.range 30) fun m => Φ (pd m) (m % 2) (m / 4)) = fan Φ := by
  have c0 (k : ℕ) : pd (4 * k) = false ∧ 4 * k % 2 = 0 ∧ 4 * k / 4 = k := ⟨by unfold pd; exact decide_eq_false (by omega), by omega, by omega⟩
  have c1 (k : ℕ) : pd (4 * k + 1) = false ∧ (4 * k + 1) % 2 = 1 ∧ (4 * k + 1) / 4 = k := ⟨by unfold pd; exact decide_eq_false (by omega), by omega, by omega⟩
  have c2 (k : ℕ) : pd (4 * k + 2) = true ∧ (4 * k + 2) % 2 = 0 ∧ (4 * k + 2) / 4 = k := ⟨by unfold pd; exact decide_eq_true (by omega), by omega, by omega⟩
  have c3 (k : ℕ) : pd (4 * k + 3) = true ∧ (4 * k + 3) % 2 = 1 ∧ (4 * k + 3) / 4 = k := ⟨by unfold pd; exact decide_eq_true (by omega), by omega, by omega⟩
  rw [show 30 = 4 * 7 + 1 + 1 from rfl, bigSep_range_succ, bigSep_range_succ, range_four]
  simp only [c0, c1, c2, c3]
  have e (Ψ : ℕ → sProp 𝕄) : bigSep (Finset.range (ns false)) Ψ = iprop(Ψ 7 ∗ bigSep (Finset.range 7) Ψ) := bigSep_range_succ 7 Ψ
  unfold fan
  rw [e, e]
  exact sep_eq
    (by iintro ⟨H1, H0, A0, A1, A2, A3⟩
        isplitr [A2 A3]
        · isplitl [H0 A0]
          · isplitl [H0]; · iexact H0
            iexact A0
          isplitl [H1]; · iexact H1
          iexact A1
        isplitl [A2]; · iexact A2
        iexact A3)
    (by iintro ⟨⟨⟨H0, A0⟩, H1, A1⟩, A2, A3⟩
        isplitl [H1]; · iexact H1
        isplitl [H0]; · iexact H0
        isplitl [A0]; · iexact A0
        isplitl [A1]; · iexact A1
        isplitl [A2]; · iexact A2
        iexact A3)

/-- A row of fifteen, by direction and hop. -/
theorem range_lanes (Φ : Bool → ℕ → sProp 𝕄) : (bigSep (Finset.range 15) fun m => Φ (dir m) (hop m))
    = iprop(bigSep (Finset.range (ns false)) (Φ false) ∗ bigSep (Finset.range (ns true)) (Φ true)) := by
  rw [show 15 = 8 + 7 from rfl, range_add]
  have h1 : (bigSep (Finset.range 8) fun m => Φ (dir m) (hop m)) = bigSep (Finset.range 8) (Φ false) :=
    bigSep_congr fun m hm => by
      have := Finset.mem_range.mp hm
      rw [show dir m = false from decide_eq_false (by omega), show hop m = m from if_pos this]
  have h2 : (bigSep (Finset.range 7) fun m => Φ (dir (8 + m)) (hop (8 + m))) = bigSep (Finset.range 7) (Φ true) :=
    bigSep_congr fun m hm => by
      rw [show dir (8 + m) = true from decide_eq_true (by omega), show hop (8 + m) = m from (if_neg (by omega)).trans (by omega)]
  rw [h1, h2]
  rfl

theorem univ_range (n : ℕ) (Φ : ℕ → sProp 𝕄) : bigSep (Finset.univ : Finset (Fin n)) (fun m => Φ m.val) = bigSep (Finset.range n) Φ := by
  have e : Finset.range n = Finset.univ.map (Fin.valEmbedding (n := n)) := by
    ext i
    simp only [Finset.mem_range, Finset.mem_map, Finset.mem_univ, true_and]
    exact ⟨fun h => ⟨⟨i, h⟩, rfl⟩, fun ⟨a, ha⟩ => ha ▸ a.isLt⟩
  rw [e, bigSep_map]
  rfl

/-! ## Cells -/

/-- A cell's place among the device's, from its kind. -/
def unJ : CK → J
  | .bar => none
  | .rsS d k s => some (⟨lane d k % 15, Nat.mod_lt _ (by decide)⟩, ⟨s % 10, Nat.mod_lt _ (by decide)⟩)
  | .rsR d k s => some (⟨lane d k % 15, Nat.mod_lt _ (by decide)⟩, ⟨(2 + s) % 10, Nat.mod_lt _ (by decide)⟩)
  | .agS d k s => some (⟨lane d k % 15, Nat.mod_lt _ (by decide)⟩, ⟨(4 + s) % 10, Nat.mod_lt _ (by decide)⟩)
  | .agR d k s => some (⟨lane d k % 15, Nat.mod_lt _ (by decide)⟩, ⟨(6 + s) % 10, Nat.mod_lt _ (by decide)⟩)
  | .axS i => some (⟨i % 15, Nat.mod_lt _ (by decide)⟩, 8)
  | .axR i => some (⟨i % 15, Nat.mod_lt _ (by decide)⟩, 9)
  | .pipe => none

theorem unJ_semJ : ∀ j, unJ (kind (semJ j)) = j := by decide +kernel

theorem semJ_inj : Function.Injective semJ := fun a b h => by
  rw [← unJ_semJ a, ← unJ_semJ b, h]

theorem cellAt_inj : Function.Injective cellAt := by
  rintro ⟨c, j⟩ ⟨c', j'⟩ h
  have h1 : c = c' := congrArg (fun g : GSem nD τ sig => g.1.1) h
  have h2 : j = j' := semJ_inj (congrArg (fun g : GSem nD τ sig => g.2) h)
  rw [h1, h2]

/-- A family over a device's cells: the barrier's and ten rows of fifteen. -/
theorem big_J (b : sProp 𝕄) (ψ : ℕ → Fin 10 → sProp 𝕄) (Φ : J → sProp 𝕄) (h0 : Φ none = b) (h : ∀ m i, Φ (some (m, i)) = ψ m.val i) :
    bigSep Finset.univ Φ = iprop(b ∗ bigSep (Finset.range 15) (fun m => ψ m 0) ∗ bigSep (Finset.range 15) (fun m => ψ m 1)
      ∗ bigSep (Finset.range 15) (fun m => ψ m 2) ∗ bigSep (Finset.range 15) (fun m => ψ m 3)
      ∗ bigSep (Finset.range 15) (fun m => ψ m 4) ∗ bigSep (Finset.range 15) (fun m => ψ m 5)
      ∗ bigSep (Finset.range 15) (fun m => ψ m 6) ∗ bigSep (Finset.range 15) (fun m => ψ m 7)
      ∗ bigSep (Finset.range 15) (fun m => ψ m 8) ∗ bigSep (Finset.range 15) (fun m => ψ m 9)) := by
  have hu : (Finset.univ : Finset J) = insert none (Finset.univ.map Function.Embedding.some) := rfl
  rw [hu, bigSep_insert (by simp), bigSep_map, h0]
  have e : (bigSep Finset.univ fun p : Fin 15 × Fin 10 => Φ (Function.Embedding.some p))
      = bigSep (Finset.range 15) fun m : ℕ => bigSep Finset.univ fun i : Fin 10 => ψ m i := by
    rw [bigSep_univ_prod, ← univ_range 15 fun m : ℕ => bigSep Finset.univ fun i : Fin 10 => ψ m i]
    exact bigSep_congr fun m _ => bigSep_congr fun i _ => h m i
  rw [e]
  have e' (m : ℕ) : (bigSep Finset.univ fun i : Fin 10 => ψ m i)
      = iprop(ψ m 0 ∗ ψ m 1 ∗ ψ m 2 ∗ ψ m 3 ∗ ψ m 4 ∗ ψ m 5 ∗ ψ m 6 ∗ ψ m 7 ∗ ψ m 8 ∗ ψ m 9) := by
    rw [bigSep_univ_eq_bigSepL [0, 1, 2, 3, 4, 5, 6, 7, 8, 9] (by decide) (by decide)]
    simp only [bigSepL_cons_cons, bigSepL_singleton]
    rfl
  simp only [e', bigSep_sep']
  rfl

/-- The same over the whole device, each cell by its name. -/
def rows (Φ : SemLoc sig → sProp 𝕄) : sProp 𝕄 :=
  iprop(Φ (.reg barS) ∗ (fan (fun d s k => Φ (.dma (rsS d k s))) ∗ fan (fun d s k => Φ (.dma (rsR d k s)))
      ∗ fan (fun d s k => Φ (.dma (agS d k s))) ∗ fan (fun d s k => Φ (.dma (agR d k s))))
    ∗ bigSep (Finset.range 15) (fun m => Φ (.dma (axS m))) ∗ bigSep (Finset.range 15) (fun m => Φ (.dma (axR m))))

theorem fan_rows (Φ : Bool → ℕ → ℕ → sProp 𝕄) : fan Φ
    = iprop((bigSep (Finset.range 15) fun m => Φ (dir m) 0 (hop m)) ∗ bigSep (Finset.range 15) fun m => Φ (dir m) 1 (hop m)) := by
  rw [range_lanes (fun d => Φ d 0), range_lanes (fun d => Φ d 1)]
  unfold fan
  exact sep_eq
    (by iintro ⟨⟨H0, H1⟩, H2, H3⟩
        isplitl [H0 H2]
        · isplitl [H0]; · iexact H0
          iexact H2
        isplitl [H1]; · iexact H1
        iexact H3)
    (by iintro ⟨⟨H0, H2⟩, H1, H3⟩
        isplitl [H0 H1]
        · isplitl [H0]; · iexact H0
          iexact H1
        isplitl [H2]; · iexact H2
        iexact H3)

theorem ten_rows (b a0 a1 a2 a3 a4 a5 a6 a7 a8 a9 : sProp 𝕄) :
    iprop(b ∗ a0 ∗ a1 ∗ a2 ∗ a3 ∗ a4 ∗ a5 ∗ a6 ∗ a7 ∗ a8 ∗ a9) = iprop(b ∗ ((a0 ∗ a1) ∗ (a2 ∗ a3) ∗ (a4 ∗ a5) ∗ a6 ∗ a7) ∗ a8 ∗ a9) :=
  sep_eq
    (by iintro ⟨Hb, H0, H1, H2, H3, H4, H5, H6, H7, H8, H9⟩
        isplitl [Hb]; · iexact Hb
        isplitr [H8 H9]
        · isplitl [H0 H1]
          · isplitl [H0] <;> iassumption
          isplitl [H2 H3]
          · isplitl [H2] <;> iassumption
          isplitl [H4 H5]
          · isplitl [H4] <;> iassumption
          isplitl [H6] <;> iassumption
        isplitl [H8] <;> iassumption)
    (by iintro ⟨Hb, ⟨⟨H0, H1⟩, ⟨H2, H3⟩, ⟨H4, H5⟩, H6, H7⟩, H8, H9⟩
        isplitl [Hb]; · iexact Hb
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9)

theorem big_rows (Φ : SemLoc sig → sProp 𝕄) : (bigSep Finset.univ fun j : J => Φ (semJ j)) = rows Φ := by
  rw [big_J (Φ (semJ none)) (fun m i => match i with
      | 0 => Φ (.dma (rsS (dir m) (hop m) 0)) | 1 => Φ (.dma (rsS (dir m) (hop m) 1))
      | 2 => Φ (.dma (rsR (dir m) (hop m) 0)) | 3 => Φ (.dma (rsR (dir m) (hop m) 1))
      | 4 => Φ (.dma (agS (dir m) (hop m) 0)) | 5 => Φ (.dma (agS (dir m) (hop m) 1))
      | 6 => Φ (.dma (agR (dir m) (hop m) 0)) | 7 => Φ (.dma (agR (dir m) (hop m) 1))
      | 8 => Φ (.dma (axS m)) | 9 => Φ (.dma (axR m))) _ rfl
    (fun m i => by match i with | 0 => rfl | 1 => rfl | 2 => rfl | 3 => rfl | 4 => rfl | 5 => rfl | 6 => rfl | 7 => rfl | 8 => rfl | 9 => rfl)]
  unfold rows
  simp only [fan_rows]
  exact ten_rows _ _ _ _ _ _ _ _ _ _ _

/-! ## Tokens -/

/-- The device whose cell `j` a device pays into: itself, a neighbour, or the `m`-th after it. -/
def tgt : J → Dev nD → Dev nD
  | none => nb true
  | some (m, i) => match i with
    | 0 | 1 | 4 | 5 | 8 => id
    | 2 | 3 | 6 | 7 => nb (dir m)
    | 9 => fun c => axTgt c m

theorem nb_inj (d : Bool) : Function.Injective (nb d) := fun a b h => by
  rw [← nb_nb' d a, ← nb_nb' d b, h]

theorem axTgt_inj (m : ℕ) : Function.Injective fun c => axTgt c m := fun a b h => by
  have ha : a.val < 16 := a.isLt
  have hb : b.val < 16 := b.isLt
  have h' : (a.val + 1 + m) % 16 = (b.val + 1 + m) % 16 := congrArg Fin.val h
  exact Fin.ext (by omega)

theorem tgt_inj (j : J) : Function.Injective (tgt j) := by
  match j with
  | none => exact nb_inj true
  | some (m, 0) => exact Function.injective_id
  | some (m, 1) => exact Function.injective_id
  | some (m, 2) => exact nb_inj _
  | some (m, 3) => exact nb_inj _
  | some (m, 4) => exact Function.injective_id
  | some (m, 5) => exact Function.injective_id
  | some (m, 6) => exact nb_inj _
  | some (m, 7) => exact nb_inj _
  | some (m, 8) => exact Function.injective_id
  | some (m, 9) => exact axTgt_inj m

/-- The tokens of the run, by the device dealt them: one for each cell it pays into, and a second for the barrier. -/
abbrev tokAt (p : Dev nD × Option J) : GSem nD τ sig × ℕ × Bool :=
  match p.2 with
  | none => (((nb false p.1 : Thread nD τ), SemLoc.reg barS), 0, true)
  | some j => (((tgt j p.1 : Thread nD τ), semJ j), 0, false)

theorem tokAt_inj : Function.Injective tokAt := by
  rintro ⟨c, j⟩ ⟨c', j'⟩ h
  match j, j', h with
  | none, none, h =>
    have h1 : nb false c = nb false c' := congrArg (fun t : GSem nD τ sig × ℕ × Bool => t.1.1.1) h
    rw [nb_inj false h1]
  | none, some j', h => exact absurd (congrArg (fun t : GSem nD τ sig × ℕ × Bool => t.2.2) h) Bool.noConfusion
  | some j, none, h => exact absurd (congrArg (fun t : GSem nD τ sig × ℕ × Bool => t.2.2) h) Bool.noConfusion
  | some j, some j', h =>
    have h2 : j = j' := semJ_inj (congrArg (fun t : GSem nD τ sig × ℕ × Bool => t.1.2) h)
    subst h2
    have h1 : tgt j c = tgt j c' := congrArg (fun t : GSem nD τ sig × ℕ × Bool => t.1.1.1) h
    rw [tgt_inj j h1]

/-- What a device is dealt. -/
def toks (c : Dev nD) : sProp 𝕄 := bigSep Finset.univ fun j : Option J => dutyTok ER (tokAt (c, j)).1 (tokAt (c, j)).2.1 (tokAt (c, j)).2.2

theorem toks_eq (c : Dev nD) : toks (F := F) c = iprop(tokB (nb false c) true ∗ tokB (nb true c) false
    ∗ (fan (fun d s k => tok c (rsS d k s)) ∗ fan (fun d s k => tok (nb d c) (rsR d k s))
      ∗ fan (fun d s k => tok c (agS d k s)) ∗ fan (fun d s k => tok (nb d c) (agR d k s)))
    ∗ bigSep (Finset.range 15) (fun m => tok c (axS m)) ∗ bigSep (Finset.range 15) (fun m => tok (axTgt c m) (axR m))) := by
  have hu : (Finset.univ : Finset (Option J)) = insert none (Finset.univ.map Function.Embedding.some) := rfl
  unfold toks
  rw [hu, bigSep_insert (by simp), bigSep_map]
  congr 1
  rw [big_J (tokB (nb true c) false) (fun m i => match i with
      | 0 => tok c (rsS (dir m) (hop m) 0) | 1 => tok c (rsS (dir m) (hop m) 1)
      | 2 => tok (nb (dir m) c) (rsR (dir m) (hop m) 0) | 3 => tok (nb (dir m) c) (rsR (dir m) (hop m) 1)
      | 4 => tok c (agS (dir m) (hop m) 0) | 5 => tok c (agS (dir m) (hop m) 1)
      | 6 => tok (nb (dir m) c) (agR (dir m) (hop m) 0) | 7 => tok (nb (dir m) c) (agR (dir m) (hop m) 1)
      | 8 => tok c (axS m) | 9 => tok (axTgt c m) (axR m)) _ rfl
    (fun m i => by match i with | 0 => rfl | 1 => rfl | 2 => rfl | 3 => rfl | 4 => rfl | 5 => rfl | 6 => rfl | 7 => rfl | 8 => rfl | 9 => rfl)]
  simp only [fan_rows]
  exact ten_rows _ _ _ _ _ _ _ _ _ _ _

/-! ## The end -/

variable (x : Dev nD → Vec F S4096x256 .bf16) (w : Dev nD → Vec F S256x2048 .bf16)

/-- All of a device's cells past their round: each is closed and its counter is zero. -/
theorem close_all (c : Dev nD) : iprop(Rec x w ∗ rows (done c)) ⊢ (|={Set.univ}=> rows fun m => semVal ((c : Thread nD τ), m) 0 : sProp 𝕄) := by
  rw [← big_rows, ← big_rows]
  refine (bigSep_with_persistent (fun j _ => ?_)).trans (bigSep_fupd _ _)
  iintro ⟨#HR, Hd⟩
  ihave HK := (rec_get x w c (semJ j) ⟨j, rfl⟩) $$ HR
  unfold Known
  icases HK with ⟨%κ, #HI, -⟩
  iapply (Rounds.cell_close ER (Rd x w) (Set.mem_univ κ) (fun h => h) (R := 1) (Rd_later x w _)) $$ [Hd]
  isplitr [Hd]; · iexact HI
  iexact Hd

end Cert.Proof
-- ==== Proof.Result.lean ====
/-
The gather phase put together: the own chunk, the hops, and every buffer whole again with the result written.
-/
module

public import proofs.«01_k».proof.Proof.Gather

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S4096x256 .bf16) (w : Dev nD → Vec F S256x2048 .bf16)

/-- A rectangle of rows of the result, by half chunk. -/
theorem rows_mem {n : ℕ} (r0 : ℕ) (o : Fin 2 → ℕ) (ho : ∀ a, o a + (![n, 2048] : Fin 2 → ℕ) a ≤ S4096x2048.size a) (h : o = ![r0, 0]) (i : S4096x2048.Idx)
    (h1 : r0 ≤ (i 0).val) (h2 : (i 0).val < r0 + n) : i ∈ (Rect.unit (s := S4096x2048) o ![n, 2048] ho).set := by
  subst h
  have hi : (i 1).val < 2048 := (i 1).isLt
  rw [Rect.mem_set_unit]
  intro a
  match a with
  | 0 => exact ⟨h1, h2⟩
  | 1 => exact ⟨Nat.zero_le _, by show (i 1).val < 0 + 2048; omega⟩

/-- Half the own chunk quantised in place. -/
theorem quant_step (c : Dev nD) (s : Fin 2) (o : Fin 2 → ℕ) (ho : ∀ a, o a + S128x2048.size a ≤ S4096x2048.size a)
    (po : (Rect.unit (s := S4096x2048) o S128x2048.size ho).PackedRows (EltTy.packing .bf16)) (h : o = ![256 * c.val + 128 * s.val, 0])
    (D : ℕ → Prop) (K : PP F) (Q : PUnit → sProp 𝕄) :
    iprop(qF c c s.val ∗ outP x w c D)
      ⊢ iprop(((qpts x w c c s.val fullShare ∗ outP x w c fun b => b = 2 * c.val + s.val ∨ D b) -∗ runs c Q K)
        -∗ runs c Q (quantC (ownP c s) o ho po (top x w) (cut s.val s.isLt (fin x w c)) K)) := by
  have hh : c.val < 16 ∧ s.val < 2 := ⟨c.isLt, s.isLt⟩
  have e := half_set (n := 16) (k := c.val) (s := s.val) hh
  have ot := out_step x w c (Rect.unit (s := S4096x2048) o S128x2048.size ho) D (fun b => b = 2 * c.val + s.val ∨ D b)
    (fun i hi => hi.imp (fun hb => rows_mem (n := 128) _ o ho h i (by omega) (by omega)) id) (deqH (top x w) (quantV (top x w) (cut s.val s.isLt (fin x w c))))
    (fun j => quant_out x w c s.val s.isLt o ho h j) (View.loadsAt_vmem h_S128x2048)
    (View.stores_vmem h_S128x2048 ((Memref.isWhole_whole _).storeExact_slice rfl _ po) (fun _ => rfl)) (.inl rfl) K Q
  rw [ownP_eq]
  unfold quantC qF qpts
  iintro ⟨⟨%X, Hq⟩, Ho⟩ Hk
  iapply (pts_load c qM (hs 16 c.val s.val) fullShare X (r := (half 16 c.val s.val hh).rect) e.subset) $$ Hq
  iintro Hq
  iapply (pts_store c qM (hs 16 c.val s.val) X (QALL x w) (r := (half 16 c.val s.val hh).rect) e.subset
    (fun j => quant_store x w c s.val s.isLt hh j) (fun i hi hn => absurd (by rw [e]; exact hi) hn)) $$ Hq
  iintro Hq
  iapply ot $$ Ho
  iintro Ho
  iapply Hk
  isplitl [Hq] <;> iassumption

/-- A chunk read back, from both halves at any share. -/
theorem deq_step (c q : Dev nD) (sh : PosShare TreeShare) (o : Fin 3 → ℕ) (ho : ∀ a, o a + S1x256x2048.size a ≤ (Sl 16).size a) (h : o = ![q.val, 0, 0])
    (o' : Fin 2 → ℕ) (ho' : ∀ a, o' a + S256x2048.size a ≤ S4096x2048.size a) (h' : o' = ![256 * q.val, 0])
    (po : (Rect.unit (s := S4096x2048) o' S256x2048.size ho').PackedRows (EltTy.packing .bf16)) (D : ℕ → Prop) (K : PP F) (Q : PUnit → sProp 𝕄) :
    iprop((qpts x w c q 0 sh ∗ qpts x w c q 1 sh) ∗ outP x w c D)
      ⊢ iprop((((qpts x w c q 0 sh ∗ qpts x w c q 1 sh) ∗ outP x w c fun b => b / 2 = q.val ∨ D b) -∗ runs c Q K)
        -∗ runs c Q (deqC o ho o' ho' po (top x w) K)) := by
  have e := chunk_set (n := 16) q.val o ho h
  have hd := hs_disjoint 16 q.val 0 q.val 1 (.inr (by decide))
  have ot := out_step x w c (Rect.unit (s := S4096x2048) o' S256x2048.size ho') D (fun b => b / 2 = q.val ∨ D b)
    (fun i hi => hi.imp (fun hb => rows_mem (n := 256) _ o' ho' h' i (by omega) (by omega)) id) _
    (fun j => deq_out x w q o ho h o' ho' h' j) (View.loadsAt_vmem h_S256x2048)
    (View.stores_vmem h_S256x2048 ((Memref.isWhole_whole _).storeExact_slice rfl _ po) (fun _ => rfl)) (.inl rfl) K Q
  unfold deqC qpts
  iintro ⟨Hq, Ho⟩ Hk
  ihave Hq := (pts_join c qM _ _ sh (QALL x w) hd) $$ Hq
  iapply (pts_load c qM _ sh (QALL x w) (r := Rect.unit (s := Sl 16) o S1x256x2048.size ho) e.subset) $$ Hq
  iintro Hq
  iapply ot $$ Ho
  iintro Ho
  ihave Hq := (pts_split c qM _ _ sh (QALL x w) hd) $$ Hq
  iapply Hk
  isplitl [Hq] <;> iassumption

/-- The chunk that came from one side, read back. -/
theorem mdeq_step (c : Dev nD) (k : Fin 8) (sh : PosShare TreeShare) (D : ℕ → Prop) (K : PP F) (Q : PUnit → sProp 𝕄) :
    iprop((qpts x w c (go false c (k.val + 1)) 0 sh ∗ qpts x w c (go false c (k.val + 1)) 1 sh) ∗ outP x w c D)
      ⊢ iprop((((qpts x w c (go false c (k.val + 1)) 0 sh ∗ qpts x w c (go false c (k.val + 1)) 1 sh)
            ∗ outP x w c fun b => b / 2 = (go false c (k.val + 1)).val ∨ D b) -∗ runs c Q K)
        -∗ runs c Q (mdeq c k (top x w) K)) := by
  unfold mdeq
  exact deq_step x w c (go false c (k.val + 1)) sh _ _ (k0_off16_eq c k) _ _ (k0_off17_eq c k) _ D K Q

theorem pdeq_step (c : Dev nD) (k : Fin 7) (sh : PosShare TreeShare) (D : ℕ → Prop) (K : PP F) (Q : PUnit → sProp 𝕄) :
    iprop((qpts x w c (go true c (k.val + 1)) 0 sh ∗ qpts x w c (go true c (k.val + 1)) 1 sh) ∗ outP x w c D)
      ⊢ iprop((((qpts x w c (go true c (k.val + 1)) 0 sh ∗ qpts x w c (go true c (k.val + 1)) 1 sh)
            ∗ outP x w c fun b => b / 2 = (go true c (k.val + 1)).val ∨ D b) -∗ runs c Q K)
        -∗ runs c Q (pdeq c k (top x w) K)) := by
  have hk := k.isLt
  unfold pdeq
  exact deq_step x w c (go true c (k.val + 1)) sh _ _ (by rw [k0_off20_eq, go_true_val c k.val (by omega)])
    _ _ (by rw [k0_off21_eq, go_true_val c k.val (by omega)]) _ D K Q

theorem out_weaken (c : Dev nD) (D D' : ℕ → Prop) (h : ∀ b < 32, D' b → D b) : outP x w c D ⊢ outP x w c D' := by
  unfold outP
  iintro ⟨%Z, %hZ, H⟩
  iexists Z
  isplitr
  · ipureintro
    intro i hi
    have : (i 0).val < 4096 := (i 0).isLt
    exact hZ i (h _ (by omega) hi)
  iexact H

/-! ## The hops -/

/-- The half chunks written after `k` hops each way. -/
def DD (c : Dev nD) (k : ℕ) (b : ℕ) : Prop := b / 2 = c.val ∨ ∃ j < k, b / 2 = (go false c (j + 1)).val ∨ b / 2 = (go true c (j + 1)).val

def heldB (c : Dev nD) (d : Bool) (k : ℕ) : sProp 𝕄 := iprop(held x w c d 0 k ∗ held x w c d 1 k)

def gLanes (c : Dev nD) (d : Bool) (k : ℕ) : sProp 𝕄 :=
  iprop((gLane x w c d 0 k ∗ gLane x w c d 1 k) ∗ bigSep (Finset.range k) (heldB x w c d))

def gI (c : Dev nD) (k : ℕ) : sProp 𝕄 :=
  iprop(gLanes x w c false k ∗ gLanes x w c true k ∗ outP x w c (DD c k) ∗ own c (47 + 4 * (k + 1)))

theorem held_push (c : Dev nD) (d : Bool) (k : ℕ) :
    iprop((qpts x w c (go d c (k + 1)) 0 fullShare.right ∗ qpts x w c (go d c (k + 1)) 1 fullShare.right) ∗ bigSep (Finset.range k) (heldB x w c d))
      ⊢ (bigSep (Finset.range (k + 1)) (heldB x w c d) : sProp 𝕄) := by
  iintro H
  iapply (Entails.of_eq (bigSep_range_succ k (heldB x w c d)).symm)
  unfold heldB held
  iexact H

/-- The false direction's part of a hop. -/
theorem mhop_step (c : Dev nD) (k : Fin 7) (D : ℕ → Prop) (K : PP F) (Q : PUnit → sProp 𝕄) :
    iprop(Rec x w ∗ gLanes x w c false k.val ∗ outP x w c D ∗ own c (47 + 4 * (k.val + 1)))
      ⊢ iprop(((gLanes x w c false (k.val + 1) ∗ (outP x w c fun b => b / 2 = (go false c (k.val + 1)).val ∨ D b) ∗ own c (47 + 4 * (k.val + 1) + 2)) -∗ runs c Q K)
        -∗ runs c Q (agWait c false k.val 0 <| agSend false (lft c) (mfwdP c k 0) (k.val + 1) 0 <|
            agWait c false k.val 1 <| agSend false (lft c) (mfwdP c k 1) (k.val + 1) 1 <| mdeq c k.castSucc (top x w) K)) := by
  have hk := k.isLt
  have h0 : k.val + 1 < ns false ∧ 0 < 2 := ⟨by simp [ns]; omega, by decide⟩
  have h1 : k.val + 1 < ns false ∧ 1 < 2 := ⟨h0.1, by decide⟩
  rw [lft_eq, mfwdP_eq, mfwdP_eq]
  unfold gLanes
  iintro ⟨#HR, ⟨⟨H1, H2⟩, Hh⟩, Ho, HO⟩ Hk
  iapply (g_hop x w c false 0 k.val _ h0 (show _ = 47 + 4 * (k.val + 1) + two false + 0 from rfl)) $$ [H1 HO]
  · isplitr; · iexact HR
    isplitl [H1]; · iexact H1
    iexact HO
  iintro ⟨H1, Ha, HO⟩
  iapply (g_hop x w c false 1 k.val _ h1 (show _ = 47 + 4 * (k.val + 1) + two false + 1 from rfl)) $$ [H2 HO]
  · isplitr; · iexact HR
    isplitl [H2]; · iexact H2
    iexact HO
  iintro ⟨H2, Hb, HO⟩
  unfold held
  iapply (mdeq_step x w c k.castSucc fullShare.right D) $$ [Ha Hb Ho]
  · isplitl [Ha Hb]
    · isplitl [Ha]; · iexact Ha
      iexact Hb
    iexact Ho
  iintro ⟨Hab, Ho⟩
  iapply Hk
  isplitl [H1 H2 Hab Hh]
  · isplitl [H1 H2]
    · isplitl [H1] <;> iassumption
    iapply (held_push x w c false k.val)
    isplitl [Hab]; · iexact Hab
    iexact Hh
  isplitl [Ho]; · iexact Ho
  iexact HO

/-- The true direction's. -/
theorem phop_step (c : Dev nD) (k : Fin 6) (D : ℕ → Prop) (K : PP F) (Q : PUnit → sProp 𝕄) :
    iprop(Rec x w ∗ gLanes x w c true k.val ∗ outP x w c D ∗ own c (47 + 4 * (k.val + 1) + 2))
      ⊢ iprop(((gLanes x w c true (k.val + 1) ∗ (outP x w c fun b => b / 2 = (go true c (k.val + 1)).val ∨ D b) ∗ own c (47 + 4 * (k.val + 1 + 1))) -∗ runs c Q K)
        -∗ runs c Q (agWait c true k.val 0 <| agSend true (rgt c) (pfwdP c k 0) (k.val + 1) 0 <|
            agWait c true k.val 1 <| agSend true (rgt c) (pfwdP c k 1) (k.val + 1) 1 <| pdeq c k.castSucc (top x w) K)) := by
  have hk := k.isLt
  have h0 : k.val + 1 < ns true ∧ 0 < 2 := ⟨by simp [ns]; omega, by decide⟩
  have h1 : k.val + 1 < ns true ∧ 1 < 2 := ⟨h0.1, by decide⟩
  rw [rgt_eq, pfwdP_eq, pfwdP_eq]
  unfold gLanes
  iintro ⟨#HR, ⟨⟨H1, H2⟩, Hh⟩, Ho, HO⟩ Hk
  iapply (g_hop x w c true 0 k.val _ h0 (show _ = 47 + 4 * (k.val + 1) + two true + 0 from rfl)) $$ [H1 HO]
  · isplitr; · iexact HR
    isplitl [H1]; · iexact H1
    iexact HO
  iintro ⟨H1, Ha, HO⟩
  iapply (g_hop x w c true 1 k.val _ h1 (show _ = 47 + 4 * (k.val + 1) + two true + 1 from rfl)) $$ [H2 HO]
  · isplitr; · iexact HR
    isplitl [H2]; · iexact H2
    iexact HO
  iintro ⟨H2, Hb, HO⟩
  unfold held
  iapply (pdeq_step x w c k.castSucc fullShare.right D) $$ [Ha Hb Ho]
  · isplitl [Ha Hb]
    · isplitl [Ha]; · iexact Ha
      iexact Hb
    iexact Ho
  iintro ⟨Hab, Ho⟩
  iapply Hk
  isplitl [H1 H2 Hab Hh]
  · isplitl [H1 H2]
    · isplitl [H1] <;> iassumption
    iapply (held_push x w c true k.val)
    isplitl [Hab]; · iexact Hab
    iexact Hh
  isplitl [Ho]; · iexact Ho
  iexact HO

theorem gather_step (c : Dev nD) (k : Fin 6) (K : PP F) (Q : PUnit → sProp 𝕄) :
    iprop(Rec x w ∗ gI x w c k.val) ⊢ iprop((gI x w c (k.val + 1) -∗ runs c Q K) -∗ runs c Q (gatherC (lft c) (rgt c) c (top x w) k K)) := by
  unfold gatherC gI
  iintro ⟨#HR, Hm, Hp, Ho, HO⟩ Hk
  iapply (mhop_step x w c k.castSucc (DD c k.val)) $$ [Hm Ho HO]
  · isplitr; · iexact HR
    isplitl [Hm]; · iexact Hm
    isplitl [Ho]; · iexact Ho
    iexact HO
  iintro ⟨Hm, Ho, HO⟩
  iapply (phop_step x w c k) $$ [Hp Ho HO]
  · isplitr; · iexact HR
    isplitl [Hp]; · iexact Hp
    isplitl [Ho]; · iexact Ho
    iexact HO
  iintro ⟨Hp, Ho, HO⟩
  iapply Hk
  isplitl [Hm]; · iexact Hm
  isplitl [Hp]; · iexact Hp
  isplitl [Ho]
  · iapply (out_weaken x w c _ _ ?_) $$ Ho
    intro b _ hb
    rcases hb with hb | ⟨j, hj, hb⟩
    · exact .inr (.inr (.inl hb))
    · by_cases hjk : j = k.val
      · subst hjk
        exact hb.elim (fun h => .inr (.inl h)) .inl
      · exact .inr (.inr (.inr ⟨j, by omega, hb⟩))
  iexact HO

/-! ## The end -/

/-- What a direction ends with. -/
def gEnds (c : Dev nD) (d : Bool) : sProp 𝕄 :=
  iprop((gEnd x w c d 0 ∗ gEnd x w c d 1) ∗ bigSep (Finset.range (ns d - 1)) (heldB x w c d)
    ∗ (qpts x w c (go d c (ns d)) 0 fullShare ∗ qpts x w c (go d c (ns d)) 1 fullShare))

theorem end_step (c : Dev nD) (K : PP F) (Q : PUnit → sProp 𝕄) :
    iprop(Rec x w ∗ gI x w c 6)
      ⊢ iprop(((gEnds x w c false ∗ gEnds x w c true ∗ (outP x w c fun _ => True) ∗ own c 77) -∗ runs c Q K) -∗ runs c Q (gatherEnd (lft c) c (top x w) K)) := by
  unfold gatherEnd gI
  iintro ⟨#HR, Hm, Hp, Ho, HO⟩ Hk
  iapply (mhop_step x w c (6 : Fin 7) (DD c 6)) $$ [Hm Ho HO]
  · isplitr; · iexact HR
    isplitl [Hm]; · iexact Hm
    isplitl [Ho]; · iexact Ho
    iexact HO
  iintro ⟨Hm, Ho, HO⟩
  unfold gLanes
  icases Hp with ⟨⟨H3, H4⟩, Hh'⟩
  icases Hm with ⟨⟨H1, H2⟩, Hh⟩
  iapply (g_last x w c true 0 6 77 ⟨rfl, by decide⟩ (le_refl _)) $$ [H3 HO]
  · isplitr; · iexact HR
    isplitl [H3]; · iexact H3
    iexact HO
  iintro ⟨H3, Ha, HO⟩
  iapply (g_last x w c true 1 6 77 ⟨rfl, by decide⟩ (le_refl _)) $$ [H4 HO]
  · isplitr; · iexact HR
    isplitl [H4]; · iexact H4
    iexact HO
  iintro ⟨H4, Hb, HO⟩
  iapply (pdeq_step x w c (6 : Fin 7) fullShare) $$ [Ha Hb Ho]
  · isplitl [Ha Hb]
    · isplitl [Ha]; · iexact Ha
      iexact Hb
    iexact Ho
  iintro ⟨Hab, Ho⟩
  iapply (g_last x w c false 0 7 77 ⟨rfl, by decide⟩ (le_refl _)) $$ [H1 HO]
  · isplitr; · iexact HR
    isplitl [H1]; · iexact H1
    iexact HO
  iintro ⟨H1, Ha, HO⟩
  iapply (g_last x w c false 1 7 77 ⟨rfl, by decide⟩ (le_refl _)) $$ [H2 HO]
  · isplitr; · iexact HR
    isplitl [H2]; · iexact H2
    iexact HO
  iintro ⟨H2, Hb, HO⟩
  iapply (mdeq_step x w c (7 : Fin 8) fullShare) $$ [Ha Hb Ho]
  · isplitl [Ha Hb]
    · isplitl [Ha]; · iexact Ha
      iexact Hb
    iexact Ho
  iintro ⟨Hcd, Ho⟩
  iapply Hk
  unfold gEnds
  isplitl [H1 H2 Hh Hcd]
  · isplitl [H1 H2]
    · isplitl [H1] <;> iassumption
    isplitl [Hh]; · iexact Hh
    iexact Hcd
  isplitl [H3 H4 Hh' Hab]
  · isplitl [H3 H4]
    · isplitl [H3] <;> iassumption
    isplitl [Hh']; · iexact Hh'
    iexact Hab
  isplitl [Ho]
  · iapply (out_weaken x w c _ _ ?_) $$ Ho
    intro b hb _
    have hlt : b / 2 < 16 := by omega
    rcases (around_go c).cover ⟨b / 2, hlt⟩ with h | ⟨k, hk, h⟩ | ⟨k, hk, h⟩
    · exact .inr (.inr (.inr (.inl (congrArg Fin.val h))))
    · have h := congrArg Fin.val h
      rcases (by omega : k = 7 ∨ k = 6 ∨ k < 6) with rfl | rfl | hk'
      · exact .inl h
      · exact .inr (.inr (.inl h))
      · exact .inr (.inr (.inr (.inr ⟨k, hk', .inl h⟩)))
    · have h := congrArg Fin.val h
      rcases (by omega : k = 6 ∨ k < 6) with rfl | hk'
      · exact .inr (.inl h)
      · exact .inr (.inr (.inr (.inr ⟨k, hk', .inr h⟩)))
  iexact HO

/-! ## The quantised buffer whole again -/

theorem chain_join (c : Dev nD) (d : Bool) (s : ℕ) : ∀ m, (iprop(bigSep (Finset.range (m + 1)) (gsrc x w c d s) ∗ bigSep (Finset.range m) (held x w c d s)) : sProp 𝕄)
    ⊢ iprop(gsrc x w c d s 0 ∗ bigSep (Finset.range m) fun k => qpts x w c (go d c (k + 1)) s fullShare)
  | 0 => by
    iintro ⟨H, -⟩
    ihave H := (Entails.of_eq (bigSep_range_succ 0 (gsrc x w c d s))) $$ H
    icases H with ⟨H, -⟩
    isplitl [H]; · iexact H
    rw [Finset.range_zero, bigSep_empty]; iempintro
  | m + 1 => by
    have ih := chain_join c d s m
    iintro ⟨H, Hh⟩
    ihave H := (Entails.of_eq (bigSep_range_succ (m + 1) (gsrc x w c d s))) $$ H
    ihave Hh := (Entails.of_eq (bigSep_range_succ m (held x w c d s))) $$ Hh
    icases H with ⟨Hl, H⟩
    icases Hh with ⟨Hr, Hh⟩
    ihave H := ih $$ [H Hh]
    · isplitl [H] <;> iassumption
    icases H with ⟨H0, H⟩
    isplitl [H0]; · iexact H0
    iapply (Entails.of_eq (bigSep_range_succ m (fun k => qpts x w c (go d c (k + 1)) s fullShare)).symm)
    isplitr [H]
    · unfold gsrc held qpts
      rw [qsh_succ]
      iapply (pts_unshare c qM _ fullShare (QALL x w))
      isplitl [Hl] <;> iassumption
    iexact H

/-- A half of a direction: its cells, its share of the own chunk, and the chunks that came. -/
theorem dir_join (c : Dev nD) (d : Bool) (s : ℕ) :
    iprop(gEnd x w c d s ∗ bigSep (Finset.range (ns d - 1)) (held x w c d s) ∗ qpts x w c (go d c (ns d)) s fullShare)
      ⊢ (iprop(bigSep (Finset.range (ns d)) (gdone c d s) ∗ qpts x w c c s (qsh d 0)
          ∗ bigSep (Finset.range (ns d)) fun k => qpts x w c (go d c (k + 1)) s fullShare) : sProp 𝕄) := by
  have e : ns d = (ns d - 1) + 1 := by cases d <;> rfl
  have ch := chain_join x w c d s (ns d - 1)
  have bs := bigSep_range_succ (ns d - 1) (fun k => qpts x w c (go d c (k + 1)) s fullShare)
  rw [← e] at ch bs
  unfold gEnd
  iintro ⟨⟨Hd, Hg⟩, Hh, Hl⟩
  ihave H := ch $$ [Hg Hh]
  · isplitl [Hg] <;> iassumption
  icases H with ⟨H0, H⟩
  isplitl [Hd]; · iexact Hd
  isplitl [H0]
  · unfold gsrc; rw [go_zero]; iexact H0
  iapply (Entails.of_eq bs.symm)
  isplitl [Hl] <;> iassumption

theorem held_split (c : Dev nD) (d : Bool) (k : ℕ) : (bigSep (Finset.range k) (heldB x w c d) : sProp 𝕄)
    ⊢ iprop(bigSep (Finset.range k) (held x w c d 0) ∗ bigSep (Finset.range k) (held x w c d 1)) :=
  Entails.of_eq (bigSep_sep' _ _ _)

theorem quant_join (c : Dev nD) (s : ℕ) :
    iprop((qpts x w c c s (qsh false 0) ∗ bigSep (Finset.range (ns false)) fun k => qpts x w c (go false c (k + 1)) s fullShare)
        ∗ (qpts x w c c s (qsh true 0) ∗ bigSep (Finset.range (ns true)) fun k => qpts x w c (go true c (k + 1)) s fullShare))
      ⊢ (pts c qM (Finset.univ.biUnion (qs s)) fullShare (QALL x w) : sProp 𝕄) := by
  unfold qpts
  iintro ⟨⟨Hl, H⟩, ⟨Hr, H'⟩⟩
  iapply (around_join c qM (around_go c) (qs s) (qs_disjoint s) fullShare (QALL x w))
  isplitl [Hl Hr]
  · iapply (pts_unshare c qM _ fullShare (QALL x w))
    isplitl [Hl]; · iexact Hl
    iexact Hr
  isplitl [H]; · iexact H
  iexact H'

/-- A direction's cells of the gather phase, waited on. -/
def agEnd (c : Dev nD) (d : Bool) : sProp 𝕄 := iprop(bigSep (Finset.range (ns d)) (gdone c d 0) ∗ bigSep (Finset.range (ns d)) (gdone c d 1))

theorem gather_end (c : Dev nD) : iprop(gEnds x w c false ∗ gEnds x w c true) ⊢ (iprop(agEnd c false ∗ agEnd c true ∗ pany c qM Finset.univ) : sProp 𝕄) := by
  unfold gEnds agEnd
  iintro ⟨⟨⟨H1, H2⟩, Hh, Ha, Hb⟩, ⟨⟨H3, H4⟩, Hh', Ha', Hb'⟩⟩
  ihave Hh := (held_split x w c false _) $$ Hh
  icases Hh with ⟨Hh0, Hh1⟩
  ihave Hh' := (held_split x w c true _) $$ Hh'
  icases Hh' with ⟨Hh0', Hh1'⟩
  ihave H1 := (dir_join x w c false 0) $$ [H1 Hh0 Ha]
  · isplitl [H1]; · iexact H1
    isplitl [Hh0] <;> iassumption
  ihave H2 := (dir_join x w c false 1) $$ [H2 Hh1 Hb]
  · isplitl [H2]; · iexact H2
    isplitl [Hh1] <;> iassumption
  ihave H3 := (dir_join x w c true 0) $$ [H3 Hh0' Ha']
  · isplitl [H3]; · iexact H3
    isplitl [Hh0'] <;> iassumption
  ihave H4 := (dir_join x w c true 1) $$ [H4 Hh1' Hb']
  · isplitl [H4]; · iexact H4
    isplitl [Hh1'] <;> iassumption
  icases H1 with ⟨Hd1, H1⟩
  icases H2 with ⟨Hd2, H2⟩
  icases H3 with ⟨Hd3, H3⟩
  icases H4 with ⟨Hd4, H4⟩
  isplitl [Hd1 Hd2]
  · isplitl [Hd1] <;> iassumption
  isplitl [Hd3 Hd4]
  · isplitl [Hd3] <;> iassumption
  iapply (pany_of c qM Finset.univ (QALL x w))
  rw [← qs_univ]
  iapply (pts_join c qM _ _ fullShare (QALL x w) qs_apart)
  isplitl [H1 H3]
  · iapply (quant_join x w c 0)
    isplitl [H1] <;> iassumption
  · iapply (quant_join x w c 1)
    isplitl [H2] <;> iassumption

/-! ## The phase -/

/-- A direction's cells of the gather phase, before. -/
def agStart (c : Dev nD) (d : Bool) : sProp 𝕄 := iprop(gLane₀ c d 0 ∗ gLane₀ c d 1)

theorem gather (c : Dev nD) (K : PP F) (Q : PUnit → sProp 𝕄) :
    iprop(Rec x w ∗ agStart c false ∗ agStart c true ∗ (qF c c 0 ∗ qF c c 1) ∗ (outP x w c fun _ => False) ∗ own c 47)
      ⊢ iprop(((agEnd c false ∗ agEnd c true ∗ pany c qM Finset.univ ∗ (outP x w c fun _ => True) ∗ own c 77) -∗ runs c Q K)
        -∗ runs c Q (quantC (ownP c 0) (k0_off10 c 0#32) (k0_off10_inb c 0) (k0_off10_packedbf16 c 0) (top x w) (cut 0 (by decide) (fin x w c)) <|
            quantC (ownP c 1) (k0_off10 c 128#32) (k0_off10_inb c 1) (k0_off10_packedbf16 c 1) (top x w) (cut 1 (by decide) (fin x w c)) <|
            agSend false (lft c) (sentP c 0) 0 0 <| agSend false (lft c) (sentP c 1) 0 1 <|
            agSend true (rgt c) (sentP c 0) 0 0 <| agSend true (rgt c) (sentP c 1) 0 1 <|
            each (gatherC (lft c) (rgt c) c (top x w)) [0, 1, 2, 3, 4, 5] <|
            gatherEnd (lft c) c (top x w) K)) := by
  have p0 : sentP c 0 = half 16 (go false c 0).val 0 _ := sentP_eq c 0
  have p1 : sentP c 1 = half 16 (go false c 0).val 1 _ := sentP_eq c 1
  have p0' : sentP c 0 = half 16 (go true c 0).val 0 ⟨(go true c 0).isLt, by decide⟩ := by rw [p0]; congr 1; rw [go_zero, go_zero]
  have p1' : sentP c 1 = half 16 (go true c 0).val 1 ⟨(go true c 0).isLt, by decide⟩ := by rw [p1]; congr 1; rw [go_zero, go_zero]
  rw [show agSend (F := F) false (lft c) (sentP c 0) = agSend false (nb false c) (half 16 (go false c 0).val 0 ⟨(go false c 0).isLt, by decide⟩) by rw [lft_eq, p0],
    show agSend (F := F) false (lft c) (sentP c 1) = agSend false (nb false c) (half 16 (go false c 0).val 1 ⟨(go false c 0).isLt, by decide⟩) by rw [lft_eq, p1],
    show agSend (F := F) true (rgt c) (sentP c 0) = agSend true (nb true c) (half 16 (go true c 0).val 0 ⟨(go true c 0).isLt, by decide⟩) by rw [rgt_eq, p0'],
    show agSend (F := F) true (rgt c) (sentP c 1) = agSend true (nb true c) (half 16 (go true c 0).val 1 ⟨(go true c 0).isLt, by decide⟩) by rw [rgt_eq, p1']]
  unfold agStart
  iintro ⟨#HR, ⟨Hl1, Hl2⟩, ⟨Hl3, Hl4⟩, ⟨Hq, Hq'⟩, Ho, HO⟩ Hk
  iapply (quant_step x w c 0 _ _ _ (k0_off10_eq c 0)) $$ [Hq Ho]
  · isplitl [Hq]; · iexact Hq
    iexact Ho
  iintro ⟨Hq, Ho⟩
  iapply (quant_step x w c 1 _ _ _ (k0_off10_eq c 1)) $$ [Hq' Ho]
  · isplitl [Hq']; · iexact Hq'
    iexact Ho
  iintro ⟨Hq', Ho⟩
  unfold qpts
  ihave Hq := (pts_share c qM _ fullShare (QALL x w)) $$ Hq
  ihave Hq' := (pts_share c qM _ fullShare (QALL x w)) $$ Hq'
  icases Hq with ⟨Ha, Hb⟩
  icases Hq' with ⟨Ha', Hb'⟩
  have eg : ∀ (d : Bool) (s : ℕ), pts c qM (hs 16 c.val s) (qsh d 0) (QALL x w) = gsrc x w c d s 0 := fun d s => by unfold gsrc qpts; rw [go_zero]
  ihave Ha := (Entails.of_eq (show pts c qM (hs 16 c.val (0 : Fin 2).val) fullShare.left (QALL x w) = gsrc x w c false 0 0 from eg false 0)) $$ Ha
  ihave Ha' := (Entails.of_eq (show pts c qM (hs 16 c.val (1 : Fin 2).val) fullShare.left (QALL x w) = gsrc x w c false 1 0 from eg false 1)) $$ Ha'
  ihave Hb := (Entails.of_eq (show pts c qM (hs 16 c.val (0 : Fin 2).val) fullShare.right (QALL x w) = gsrc x w c true 0 0 from eg true 0)) $$ Hb
  ihave Hb' := (Entails.of_eq (show pts c qM (hs 16 c.val (1 : Fin 2).val) fullShare.right (QALL x w) = gsrc x w c true 1 0 from eg true 1)) $$ Hb'
  iapply (g_start x w c false 0 47 (by decide) rfl) $$ [Hl1 Ha HO]
  · isplitr; · iexact HR
    isplitl [Hl1]; · iexact Hl1
    isplitl [Ha] <;> iassumption
  iintro ⟨H1, HO⟩
  iapply (g_start x w c false 1 48 (by decide) rfl) $$ [Hl2 Ha' HO]
  · isplitr; · iexact HR
    isplitl [Hl2]; · iexact Hl2
    isplitl [Ha']; · iexact Ha'
    iexact HO
  iintro ⟨H2, HO⟩
  iapply (g_start x w c true 0 49 (by decide) rfl) $$ [Hl3 Hb HO]
  · isplitr; · iexact HR
    isplitl [Hl3]; · iexact Hl3
    isplitl [Hb]; · iexact Hb
    iexact HO
  iintro ⟨H3, HO⟩
  iapply (g_start x w c true 1 50 (by decide) rfl) $$ [Hl4 Hb' HO]
  · isplitr; · iexact HR
    isplitl [Hl4]; · iexact Hl4
    isplitl [Hb']; · iexact Hb'
    iexact HO
  iintro ⟨H4, HO⟩
  iapply (each_step c (gatherC (lft c) (rgt c) c (top x w)) Q (gI x w c) (Rec x w) (fun i : Fin 6 => i.val) [0, 1, 2, 3, 4, 5] 0 (by decide)
    (fun i _ K => gather_step x w c i K Q)) $$ [H1 H2 H3 H4 Ho HO]
  · isplitr; · iexact HR
    unfold gI gLanes
    isplitl [H1 H2]
    · isplitl [H1 H2]
      · isplitl [H1] <;> iassumption
      rw [Finset.range_zero, bigSep_empty]; iempintro
    isplitl [H3 H4]
    · isplitl [H3 H4]
      · isplitl [H3] <;> iassumption
      rw [Finset.range_zero, bigSep_empty]; iempintro
    isplitl [Ho]
    · iapply (out_weaken x w c _ _ ?_) $$ Ho
      intro b _ hb
      rcases hb with hb | ⟨j, hj, -⟩
      · rcases (by omega : b = 2 * c.val + 1 ∨ b = 2 * c.val) with h | h
        · exact .inl h
        · exact .inr (.inl h)
      · exact absurd hj (Nat.not_lt_zero _)
    iexact HO
  iintro HI
  iapply (end_step x w c) $$ [HI]
  · isplitr; · iexact HR
    iexact HI
  iintro ⟨He, He', Ho, HO⟩
  ihave H := (gather_end x w c) $$ [He He']
  · isplitl [He] <;> iassumption
  icases H with ⟨H1, H2, H3⟩
  iapply Hk
  isplitl [H1]; · iexact H1
  isplitl [H2]; · iexact H2
  isplitl [H3]; · iexact H3
  isplitl [Ho] <;> iassumption

end Cert.Proof
-- ==== Proof.BodyEq.lean ====
/-
The printed body is the assembly of `Body`'s steps.
-/
module

public import proofs.«01_k».proof.Proof.Body
public import proofs.«01_k».proof.Proof.Gen.KernelIdeal.Skeleton

@[expose] public section

noncomputable section

namespace Cert.Proof

open Cert.KernelIdeal Cert.KernelIdeal.Gen
open Idealize.ShloMosaic Idealize.ShloMosaic.TcCoe
open Idealize.SL Idealize.SL.Sem

variable {F : FTy → Type} [FloatOps F]

set_option maxRecDepth 65536 in
/-- The printed body, on the buffers the launch calls it with. -/
theorem body_eq : cc0_body (F := F) (Memref.whole cc0_stg0_0) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scratch8 cc0_scratch9 cc0_scratch10 cc0_scratch11 cc0_scratch12 cc0_scratch13
    = ringBody := by
  chain_rfl

end Cert.Proof
-- ==== Proof.Whole.lean ====
/-
The whole body on one device: what it is dealt, sorted into what each phase asks for, and what it ends with.
-/
module

public import proofs.«01_k».proof.Proof.Cells
public import proofs.«01_k».proof.Proof.Phase1
public import proofs.«01_k».proof.Proof.Exchange
public import proofs.«01_k».proof.Proof.Result
public import proofs.«01_k».proof.Proof.BodyEq

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S4096x256 .bf16) (w : Dev nD → Vec F S256x2048 .bf16)

/-! ## Sorting -/

theorem fan_sep (Φ Ψ : Bool → ℕ → ℕ → sProp 𝕄) : fan (fun d s k => iprop(Φ d s k ∗ Ψ d s k)) = iprop(fan Φ ∗ fan Ψ) := by
  unfold fan
  simp only [bigSep_sep']
  exact sep_eq
    (by iintro ⟨⟨⟨A0, B0⟩, A1, B1⟩, ⟨A2, B2⟩, A3, B3⟩
        isplitl [A0 A1 A2 A3]
        · isplitl [A0 A1]
          · isplitl [A0]; · iexact A0
            iexact A1
          isplitl [A2]; · iexact A2
          iexact A3
        isplitl [B0 B1]
        · isplitl [B0]; · iexact B0
          iexact B1
        isplitl [B2]; · iexact B2
        iexact B3)
    (by iintro ⟨⟨⟨A0, A1⟩, A2, A3⟩, ⟨B0, B1⟩, B2, B3⟩
        isplitl [A0 B0 A1 B1]
        · isplitl [A0 B0]
          · isplitl [A0]; · iexact A0
            iexact B0
          isplitl [A1]; · iexact A1
          iexact B1
        isplitl [A2 B2]
        · isplitl [A2]; · iexact A2
          iexact B2
        isplitl [A3]; · iexact A3
        iexact B3)

theorem fan_congr {Φ Ψ : Bool → ℕ → ℕ → sProp 𝕄} (h : ∀ d s k, k < ns d ∧ s < 2 → Φ d s k = Ψ d s k) : fan Φ = fan Ψ := by
  have e (d : Bool) (s : ℕ) (hs : s < 2) : bigSep (Finset.range (ns d)) (Φ d s) = bigSep (Finset.range (ns d)) (Ψ d s) :=
    bigSep_congr fun k hk => h d s k ⟨Finset.mem_range.mp hk, hs⟩
  unfold fan
  rw [e false 0 (by decide), e false 1 (by decide), e true 0 (by decide), e true 1 (by decide)]

/-- The places given up to the neighbours, sorted by buffer. -/
theorem spots_fan (f : Bool → Dev nD) : (iprop(spots false (f false) ∗ spots true (f true)) : sProp 𝕄)
    = iprop(fan (fun d s k => slotF (f d) d (k + 1) s) ∗ fan (fun d s k => qF (f d) (go d (f d) (k + 1)) s)) := by
  unfold spots spot fan
  simp only [bigSep_sep']
  exact sep_eq
    (by iintro ⟨⟨⟨A0, A1⟩, B0, B1⟩, ⟨A2, A3⟩, B2, B3⟩
        isplitl [A0 A1 A2 A3]
        · isplitl [A0 A1]
          · isplitl [A0]; · iexact A0
            iexact A1
          isplitl [A2]; · iexact A2
          iexact A3
        isplitl [B0 B1]
        · isplitl [B0]; · iexact B0
          iexact B1
        isplitl [B2]; · iexact B2
        iexact B3)
    (by iintro ⟨⟨⟨A0, A1⟩, A2, A3⟩, ⟨B0, B1⟩, B2, B3⟩
        isplitl [A0 A1 B0 B1]
        · isplitl [A0 A1]
          · isplitl [A0]; · iexact A0
            iexact A1
          isplitl [B0]; · iexact B0
          iexact B1
        isplitl [A2 A3]
        · isplitl [A2]; · iexact A2
          iexact A3
        isplitl [B2]; · iexact B2
        iexact B3)

/-- The rows lent, each with the first half of its hop. -/
theorem load_fan (c : Dev nD) : (iprop((bigSep (Finset.range (ns false)) fun k => rowF c (ch false c k)) ∗ bigSep (Finset.range (ns true)) fun k => rowF c (ch true c k)) : sProp 𝕄)
    ⊢ fan (fun d s k => load s (rowF c (ch d c k))) := by
  have e0 (d : Bool) : (fun k => load 0 (rowF c (ch d c k))) = fun k => (rowF c (ch d c k) : sProp 𝕄) := funext fun k => if_pos rfl
  have e1 (d : Bool) : (fun k => load 1 (rowF c (ch d c k))) = fun _ => (iprop(emp) : sProp 𝕄) := funext fun k => if_neg (by decide)
  have ee (n : ℕ) : (bigSep (Finset.range n) fun _ => (iprop(emp) : sProp 𝕄)) = iprop(emp) := BI.bigSep_emp_const _
  unfold fan
  beta_reduce
  rw [e0, e0, e1, e1, ee, ee]
  iintro ⟨H0, H1⟩
  isplitl [H0]
  · isplitl [H0]; · iexact H0
    iempintro
  isplitl [H1]; · iexact H1
  iempintro

/-- Both directions of a phase from its families. -/
theorem lanes_of (c : Dev nD) : iprop((slotF c false 0 0 ∗ slotF c false 0 1) ∗ (slotF c true 0 0 ∗ slotF c true 0 1)
      ∗ fan (fun d s k => kitW c d s k) ∗ fan (fun d s k => kit c d s k)) ⊢ (iprop(startD c false ∗ startD c true) : sProp 𝕄) := by
  unfold startD lane₀ fan
  simp only [← Finset.range_eq_Ico]
  iintro ⟨S0, S1, ⟨⟨A0, A1⟩, A2, A3⟩, ⟨B0, B1⟩, B2, B3⟩
  isplitl [S0 A0 A1 B0 B1]
  · isplitl [S0]; · iexact S0
    isplitl [A0 B0]
    · isplitl [A0]; · iexact A0
      iexact B0
    isplitl [A1]; · iexact A1
    iexact B1
  isplitl [S1]; · iexact S1
  isplitl [A2 B2]
  · isplitl [A2]; · iexact A2
    iexact B2
  isplitl [A3]; · iexact A3
  iexact B3

theorem glanes_of (c : Dev nD) : iprop(fan (fun d s k => gkitW c d s k) ∗ fan (fun d s k => gkit c d s k))
    ⊢ (iprop(agStart c false ∗ agStart c true) : sProp 𝕄) := by
  unfold agStart gLane₀ fan
  simp only [← Finset.range_eq_Ico]
  iintro ⟨⟨⟨A0, A1⟩, A2, A3⟩, ⟨B0, B1⟩, B2, B3⟩
  isplitl [A0 A1 B0 B1]
  · isplitl [A0 B0]
    · isplitl [A0]; · iexact A0
      iexact B0
    isplitl [A1]; · iexact A1
    iexact B1
  isplitl [A2 B2]
  · isplitl [A2]; · iexact A2
    iexact B2
  isplitl [A3]; · iexact A3
  iexact B3

theorem kits_eq (c : Dev nD) : (fan (fun d s k => kit c d s k) : sProp 𝕄) = iprop(fan (fun d s k => tok c (rsS d k s)) ∗ fan (fun d s k => tok (nb d c) (rsR d k s))
    ∗ fan (fun d s k => slotF (nb d c) d (k + 1) s) ∗ fan (fun d s k => load s (rowF c (ch d c k)))) := by
  simp only [← fan_sep]; rfl
theorem kitWs_eq (c : Dev nD) : (fan (fun d s k => kitW c d s k) : sProp 𝕄) = iprop(fan (fun d s k => pend c (.dma (rsS d k s)))
    ∗ fan (fun d s k => pend c (.dma (rsR d k s))) ∗ fan (fun d s k => cr c (rsR d k s))) := by
  simp only [← fan_sep]; rfl
theorem gkits_eq (c : Dev nD) : (fan (fun d s k => gkit c d s k) : sProp 𝕄) = iprop(fan (fun d s k => tok c (agS d k s)) ∗ fan (fun d s k => tok (nb d c) (agR d k s))
    ∗ fan (fun d s k => qF (nb d c) (go d (nb d c) (k + 1)) s)) := by
  simp only [← fan_sep]
  exact fan_congr fun d s k _ => by unfold gkit; rw [go_nb]
theorem gkitWs_eq (c : Dev nD) : (fan (fun d s k => gkitW c d s k) : sProp 𝕄) = iprop(fan (fun d s k => pend c (.dma (agS d k s)))
    ∗ fan (fun d s k => pend c (.dma (agR d k s))) ∗ fan (fun d s k => cr c (agR d k s))) := by
  simp only [← fan_sep]; rfl

/-- The rows that came home with the chunk, by whose they are. -/
theorem piles_rows (c : Dev nD) : (iprop(pile false c (ns false) ∗ pile true c (ns true)) : sProp 𝕄) ⊢ bigSep (Finset.range 15) fun m => rowF (axTgt c m) c := by
  have hc : c.val < 16 := c.isLt
  have h8 : ch false c 8 = c := Fin.ext (by show (c.val + 8 + 8) % 16 = c.val; omega)
  have h7 : ch true c 7 = c := Fin.ext (by show (c.val + 7 + 16 * 8 - 7 % 16) % 16 = c.val; omega)
  have e1 : (pile false c (ns false) : sProp 𝕄) = bigSep (Finset.range 8) fun m => rowF (axTgt c m) c := by
    show (bigSep (Finset.range 8) fun j => rowF (go false c (1 + j)) (ch false c 8) : sProp 𝕄) = _
    rw [h8]
    exact bigSep_congr fun j hj => by
      rw [show go false c (1 + j) = axTgt c j from Fin.ext (by show (c.val + (1 + j)) % 16 = (c.val + 1 + j) % 16; omega)]
  have e2 : (pile true c (ns true) : sProp 𝕄) = bigSep (Finset.range 7) fun m => rowF (axTgt c (8 + m)) c := by
    show (bigSep (Finset.range 7) fun j => rowF (go true c (1 + j)) (ch true c 7) : sProp 𝕄) = _
    rw [h7]
    have ei : Finset.range 7 = (Finset.range 7).image fun j => 6 - j := by decide
    have hi : Set.InjOn (fun j => 6 - j) (Finset.range 7 : Finset ℕ) := fun a ha b hb h => by
      have ha := Finset.mem_range.mp (Finset.mem_coe.mp ha)
      have hb := Finset.mem_range.mp (Finset.mem_coe.mp hb)
      have h : 6 - a = 6 - b := h
      omega
    have e3 := bigSep_image_of_injOn hi (fun j => (rowF (go true c (1 + j)) c : sProp 𝕄))
    rw [← ei] at e3
    rw [e3]
    exact bigSep_congr fun j hj => by
      have hj := Finset.mem_range.mp hj
      rw [show go true c (1 + (6 - j)) = axTgt c (8 + j) from Fin.ext (by show (c.val + 16 * 8 - (1 + (6 - j)) % 16) % 16 = (c.val + 1 + (8 + j)) % 16; omega)]
  rw [e1, e2, show 15 = 8 + 7 from rfl, range_add]

theorem ax_of (c : Dev nD) : iprop((bigSep (Finset.range 15) fun m => tok c (axS m)) ∗ (bigSep (Finset.range 15) fun m => tok (axTgt c m) (axR m))
      ∗ (bigSep (Finset.range 15) fun m => rowF (axTgt c m) c) ∗ (bigSep (Finset.range 15) fun m => pend c (.dma (axS m)))
      ∗ (bigSep (Finset.range 15) fun m => pend c (.dma (axR m))) ∗ bigSep (Finset.range 15) fun m => cr c (axR m)) ⊢ (axStart c : sProp 𝕄) := by
  unfold axStart axKit
  simp only [← Finset.range_eq_Ico, bigSep_sep']
  iintro ⟨H1, H2, H3, H4, H5, H6⟩
  isplitl [H1 H2 H3]
  · isplitl [H1]; · iexact H1
    isplitl [H2]; · iexact H2
    iexact H3
  isplitl [H5 H6]
  · isplitl [H5]; · iexact H5
    iexact H6
  iexact H4

/-! ## Credits -/

/-- The credits a device is dealt: what is paid into each of its cells. -/
def creds (c : Dev nD) : sProp 𝕄 := bigSep (Finset.range 77) fun i => cred (tallyAt ((c : Thread nD τ), payS i) () (amt i))

theorem creds_split (c : Dev nD) : (creds c : sProp 𝕄) ⊢ iprop(cred (tallyAt ((c : Thread nD τ), SemLoc.reg barS) () 2)
    ∗ fan (fun d s k => cr c (rsR d k s)) ∗ (bigSep (Finset.range 15) fun m => cr c (axR m)) ∗ fan (fun d s k => cr c (agR d k s))) := by
  have e1 : (bigSep (Finset.range 30) fun m => (cred (tallyAt ((c : Thread nD τ), payS (2 + m)) () (amt (2 + m))) : sProp 𝕄))
      = fan (fun d s k => cr c (rsR d k s)) := by
    rw [← range_fan]
    exact bigSep_congr fun m hm => by
      have hm := Finset.mem_range.mp hm
      have : payS (2 + m) = .dma (rsR (pd m) (m / 4) (m % 2)) := by
        unfold payS
        rw [if_neg (by omega), if_pos (by omega), Nat.add_sub_cancel_left]
      unfold amt
      rw [this]
  have e2 : (bigSep (Finset.range 15) fun m => (cred (tallyAt ((c : Thread nD τ), payS (32 + m)) () (amt (32 + m))) : sProp 𝕄))
      = bigSep (Finset.range 15) fun m => cr c (axR m) :=
    bigSep_congr fun m hm => by
      have hm := Finset.mem_range.mp hm
      have : payS (32 + m) = .dma (axR m) := by
        unfold payS
        rw [if_neg (by omega), if_neg (by omega), if_pos (by omega), Nat.add_sub_cancel_left]
      unfold amt
      rw [this]
  have e3 : (bigSep (Finset.range 30) fun m => (cred (tallyAt ((c : Thread nD τ), payS (47 + m)) () (amt (47 + m))) : sProp 𝕄))
      = fan (fun d s k => cr c (agR d k s)) := by
    rw [← range_fan]
    exact bigSep_congr fun m hm => by
      have hm := Finset.mem_range.mp hm
      have : payS (47 + m) = .dma (agR (pd m) (m / 4) (m % 2)) := by
        unfold payS
        rw [if_neg (by omega), if_neg (by omega), if_neg (by omega), Nat.add_sub_cancel_left]
      unfold amt
      rw [this]
  have e0 : (bigSep (Finset.range 2) fun i => (cred (tallyAt ((c : Thread nD τ), payS i) () (amt i)) : sProp 𝕄))
      ⊢ cred (tallyAt ((c : Thread nD τ), SemLoc.reg barS) () 2) := by
    have h : (iprop(cred (tallyAt ((c : Thread nD τ), SemLoc.reg barS) () 1) ∗ cred (tallyAt ((c : Thread nD τ), SemLoc.reg barS) () 1)) : sProp 𝕄)
        ⊢ cred (tallyAt ((c : Thread nD τ), SemLoc.reg barS) () 2) := by
      have h := (cred_add (Val := Elt F) (Name := ℕ) (U := UU) (Lvl := ℕ) (tallyAt ((c : Thread nD τ), SemLoc.reg barS) () 1) (tallyAt ((c : Thread nD τ), SemLoc.reg barS) () 1)).2
      rw [tallyAt_add] at h
      exact h
    rw [show Finset.range 2 = Finset.range (0 + 1 + 1) from rfl, bigSep_range_succ, bigSep_range_succ]
    iintro ⟨H1, H0, -⟩
    iapply h
    isplitl [H1]; · iexact H1
    iexact H0
  unfold creds
  rw [show 77 = 2 + 75 from rfl, range_add, show 75 = 30 + 45 from rfl, range_add, show 45 = 15 + 30 from rfl, range_add, e1]
  have e2' : (bigSep (Finset.range 15) fun k => (cred (tallyAt ((c : Thread nD τ), payS (2 + (30 + k))) () (amt (2 + (30 + k)))) : sProp 𝕄))
      = bigSep (Finset.range 15) fun m => cr c (axR m) := by
    rw [← e2]; exact bigSep_congr fun m _ => by rw [← Nat.add_assoc]
  have e3' : (bigSep (Finset.range 30) fun k => (cred (tallyAt ((c : Thread nD τ), payS (2 + (30 + (15 + k)))) () (amt (2 + (30 + (15 + k))))) : sProp 𝕄))
      = fan (fun d s k => cr c (agR d k s)) := by
    rw [← e3]; exact bigSep_congr fun m _ => by rw [← Nat.add_assoc, ← Nat.add_assoc]
  rw [e2', e3']
  iintro ⟨H0, H1, H2, H3⟩
  isplitl [H0]
  · iapply e0; iexact H0
  isplitl [H1]; · iexact H1
  isplitl [H2]; · iexact H2
  iexact H3

/-! ## The body -/

/-- The kernel's own buffers, at any contents. -/
def bufs (c : Dev nD) : sProp 𝕄 :=
  iprop(pany c (bufM false) Finset.univ ∗ pany c (bufM true) Finset.univ ∗ pany c aM Finset.univ ∗ pany c qM Finset.univ)

/-- What a device is dealt of the protocol. -/
def dealt (c : Dev nD) : sProp 𝕄 := iprop(toks c ∗ rows (pend c) ∗ creds c)

/-- What of it a direction's hops are given once the neighbours' places are in hand. -/
def forReduce (c : Dev nD) : sProp 𝕄 :=
  iprop((slotF c false 0 0 ∗ slotF c false 0 1) ∗ (slotF c true 0 0 ∗ slotF c true 0 1) ∗ fan (fun d s k => kitW c d s k)
    ∗ fan (fun d s k => tok c (rsS d k s)) ∗ fan (fun d s k => tok (nb d c) (rsR d k s)) ∗ fan (fun d s k => load s (rowF c (ch d c k))))
def forGather (c : Dev nD) : sProp 𝕄 :=
  iprop(fan (fun d s k => gkitW c d s k) ∗ fan (fun d s k => tok c (agS d k s)) ∗ fan (fun d s k => tok (nb d c) (agR d k s)))
def forExchange (c : Dev nD) : sProp 𝕄 :=
  iprop((bigSep (Finset.range 15) fun m => tok c (axS m)) ∗ (bigSep (Finset.range 15) fun m => tok (axTgt c m) (axR m))
      ∗ (bigSep (Finset.range 15) fun m => pend c (.dma (axS m)))
      ∗ (bigSep (Finset.range 15) fun m => pend c (.dma (axR m))) ∗ bigSep (Finset.range 15) fun m => cr c (axR m))
def forBarrier (c : Dev nD) : sProp 𝕄 :=
  iprop((tokB (nb false c) true ∗ spots true c) ∗ (tokB (nb true c) false ∗ spots false c)
    ∗ cred (tallyAt ((c : Thread nD τ), SemLoc.reg barS) () 2) ∗ pend c (.reg barS))

theorem cut_all (c : Dev nD) : (bufs c : sProp 𝕄) ⊢ iprop(((slotF c false 0 0 ∗ slotF c false 0 1) ∗ (slotF c true 0 0 ∗ slotF c true 0 1))
    ∗ (spots false c ∗ spots true c) ∗ rowF c c ∗ (qF c c 0 ∗ qF c c 1) ∗ fan (fun d s k => load s (rowF c (ch d c k)))) := by
  have hl := load_fan (F := F) c
  unfold bufs
  rw [spots_fan fun _ => c]
  iintro ⟨Hm, Hp, Ha, Hq⟩
  ihave Hm := (buf_cut c false) $$ Hm
  ihave Hp := (buf_cut c true) $$ Hp
  ihave Ha := (rows_cut c) $$ Ha
  ihave Hq := (quant_cut c) $$ Hq
  icases Hm with ⟨⟨M0, A0⟩, M1, A1⟩
  icases Hp with ⟨⟨P0, B0⟩, P1, B1⟩
  icases Ha with ⟨Hr, R0, R1⟩
  icases Hq with ⟨⟨Q0, C0, D0⟩, Q1, C1, D1⟩
  isplitl [M0 M1 P0 P1]
  · isplitl [M0 M1]
    · isplitl [M0]; · iexact M0
      iexact M1
    isplitl [P0]; · iexact P0
    iexact P1
  isplitl [A0 A1 B0 B1 C0 C1 D0 D1]
  · unfold fan
    isplitl [A0 A1 B0 B1]
    · isplitl [A0 A1]
      · isplitl [A0]; · iexact A0
        iexact A1
      isplitl [B0]; · iexact B0
      iexact B1
    isplitl [C0 C1]
    · isplitl [C0]; · iexact C0
      iexact C1
    isplitl [D0]; · iexact D0
    iexact D1
  isplitl [Hr]; · iexact Hr
  isplitl [Q0 Q1]
  · isplitl [Q0]; · iexact Q0
    iexact Q1
  iapply hl
  isplitl [R0]; · iexact R0
  iexact R1

theorem sorted (c : Dev nD) : (iprop(dealt c ∗ bufs c) : sProp 𝕄)
    ⊢ iprop(forBarrier c ∗ forReduce c ∗ forGather c ∗ forExchange c ∗ rowF c c ∗ qF c c 0 ∗ qF c c 1) := by
  unfold dealt rows forBarrier forReduce forGather forExchange
  rw [toks_eq, kitWs_eq, gkitWs_eq]
  iintro ⟨⟨⟨T0, T1, ⟨T2, T3, T4, T5⟩, T6, T7⟩, ⟨P0, ⟨P2, P3, P4, P5⟩, P6, P7⟩, Hc⟩, Hb⟩
  ihave Hc := (creds_split c) $$ Hc
  ihave Hb := (cut_all c) $$ Hb
  icases Hc with ⟨C0, C1, C2, C3⟩
  icases Hb with ⟨⟨S0, S1⟩, ⟨G0, G1⟩, Hr, ⟨Q0, Q1⟩, Hl⟩
  isplitl [T0 T1 G0 G1 C0 P0]
  · isplitl [T0 G1]
    · isplitl [T0]; · iexact T0
      iexact G1
    isplitl [T1 G0]
    · isplitl [T1]; · iexact T1
      iexact G0
    isplitl [C0]; · iexact C0
    iexact P0
  isplitl [S0 S1 P2 P3 C1 T2 T3 Hl]
  · isplitl [S0]; · iexact S0
    isplitl [S1]; · iexact S1
    isplitl [P2 P3 C1]
    · isplitl [P2]; · iexact P2
      isplitl [P3]; · iexact P3
      iexact C1
    isplitl [T2]; · iexact T2
    isplitl [T3]; · iexact T3
    iexact Hl
  isplitl [P4 P5 C3 T4 T5]
  · isplitl [P4 P5 C3]
    · isplitl [P4]; · iexact P4
      isplitl [P5]; · iexact P5
      iexact C3
    isplitl [T4]; · iexact T4
    iexact T5
  isplitl [T6 T7 P6 P7 C2]
  · isplitl [T6]; · iexact T6
    isplitl [T7]; · iexact T7
    isplitl [P6]; · iexact P6
    isplitl [P7]; · iexact P7
    iexact C2
  isplitl [Hr]; · iexact Hr
  isplitl [Q0]; · iexact Q0
  iexact Q1

/-- The hops' kits, once the neighbours' places are in hand. -/
theorem given (c : Dev nD) : (iprop(forReduce c ∗ forGather c ∗ spots false (nb false c) ∗ spots true (nb true c)) : sProp 𝕄)
    ⊢ iprop((startD c false ∗ startD c true) ∗ agStart c false ∗ agStart c true) := by
  have h1 := lanes_of (F := F) c
  have h2 := glanes_of (F := F) c
  have e := spots_fan (F := F) fun d => nb d c
  unfold forReduce forGather
  rw [kits_eq] at h1
  rw [gkits_eq] at h2
  rw [e]
  iintro ⟨⟨S0, S1, W, T0, T1, Hl⟩, ⟨V, U0, U1⟩, G0, G1⟩
  isplitl [S0 S1 W T0 T1 Hl G0]
  · iapply h1
    isplitl [S0]; · iexact S0
    isplitl [S1]; · iexact S1
    isplitl [W]; · iexact W
    isplitl [T0]; · iexact T0
    isplitl [T1]; · iexact T1
    isplitl [G0]; · iexact G0
    iexact Hl
  iapply h2
  isplitl [V]; · iexact V
  isplitl [U0]; · iexact U0
  isplitl [U1]; · iexact U1
  iexact G1

/-- Every cell past its round. -/
theorem all_done (c : Dev nD) : (iprop(done c (.reg barS)
      ∗ ((bigSep (Finset.range (ns false)) (rsDone c false 0) ∗ bigSep (Finset.range (ns false)) (rsDone c false 1))
        ∗ (bigSep (Finset.range (ns true)) (rsDone c true 0) ∗ bigSep (Finset.range (ns true)) (rsDone c true 1)))
      ∗ (agEnd c false ∗ agEnd c true) ∗ axEnd c) : sProp 𝕄) ⊢ rows (done c) := by
  have e1 : (iprop((bigSep (Finset.range (ns false)) (rsDone c false 0) ∗ bigSep (Finset.range (ns false)) (rsDone c false 1))
        ∗ (bigSep (Finset.range (ns true)) (rsDone c true 0) ∗ bigSep (Finset.range (ns true)) (rsDone c true 1))) : sProp 𝕄)
      = iprop(fan (fun d s k => done c (.dma (rsS d k s))) ∗ fan (fun d s k => done c (.dma (rsR d k s)))) := by
    rw [← fan_sep]; rfl
  have e2 : (iprop(agEnd c false ∗ agEnd c true) : sProp 𝕄)
      = iprop(fan (fun d s k => done c (.dma (agS d k s))) ∗ fan (fun d s k => done c (.dma (agR d k s)))) := by
    rw [← fan_sep]; rfl
  rw [e1, e2]
  unfold axEnd rows
  iintro ⟨H0, ⟨H1, H2⟩, ⟨H3, H4⟩, H5, H6⟩
  isplitl [H0]; · iexact H0
  isplitl [H1 H2 H3 H4]
  · isplitl [H1]; · iexact H1
    isplitl [H2]; · iexact H2
    isplitl [H3]; · iexact H3
    iexact H4
  isplitl [H5]; · iexact H5
  iexact H6

theorem ret_step (c : Dev nD) (Q : PUnit → sProp 𝕄) : (|={Set.univ}=> Q ⟨⟩) ⊢ runs c Q (.ret ⟨⟩) := by
  unfold runs
  rw [wp_ret]

/-- The body from what a device is dealt to every cell done, every buffer back and the result written. -/
theorem whole (c : Dev nD) (Q : PUnit → sProp 𝕄) :
    iprop(Rec x w ∗ (dealt c ∗ bufs c) ∗ own c 0 ∗ xw x w c ∗ outP x w c fun _ => False)
      ⊢ iprop(((rows (done c) ∗ bufs c ∗ own c 77 ∗ xw x w c ∗ outP x w c fun _ => True) -∗ |={Set.univ}=> Q ⟨⟩) -∗ runs c Q ringBody) := by
  have e0 : payCell c 0 = ((lft c : Thread nD τ), SemLoc.reg barS) := by rw [lft_eq]; rfl
  have e1 : payCell c 1 = ((rgt c : Thread nD τ), SemLoc.reg barS) := by rw [rgt_eq]; rfl
  have n0 : nb true (nb false c) = c := nb_nb' false c
  have n1 : nb false (nb true c) = c := nb_nb' true c
  unfold ringBody
  simp only [runs, wp_deviceId]
  iintro ⟨#HR, Hd, HO, Hx, Ho⟩ Hk
  ihave Hd := (sorted c) $$ Hd
  unfold forBarrier
  icases Hd with ⟨⟨⟨T0, S0⟩, ⟨T1, S1⟩, Hc, Hp⟩, Hred, Hgat, Hex, Hr, Hq⟩
  iapply (signal_step x w c (lft c) 0 (by decide) e0 true) $$ [HO T0 S0]
  · rw [lft_eq, n0]
    isplitr; · iexact HR
    isplitl [HO]; · iexact HO
    isplitl [T0]; · iexact T0
    iexact S0
  iintro HO
  iapply (signal_step x w c (rgt c) 1 (by decide) e1 false) $$ [HO T1 S1]
  · rw [rgt_eq, n1]
    isplitr; · iexact HR
    isplitl [HO]; · iexact HO
    isplitl [T1]; · iexact T1
    iexact S1
  iintro HO
  iapply (wait_bar_step x w c 2 lv_bar) $$ [HO Hc Hp]
  · isplitr; · iexact HR
    isplitl [HO]; · iexact HO
    isplitl [Hc]; · iexact Hc
    iexact Hp
  iintro ⟨HO, Hdb, Hs0, Hs1⟩
  ihave Hg := (given c) $$ [Hred Hgat Hs0 Hs1]
  · isplitl [Hred]; · iexact Hred
    isplitl [Hgat]; · iexact Hgat
    isplitl [Hs0]; · iexact Hs0
    iexact Hs1
  icases Hg with ⟨⟨Hst0, Hst1⟩, Hag0, Hag1⟩
  iapply (phase1 x w c) $$ [HO Hx Hst0 Hst1 Hr]
  · isplitr; · iexact HR
    isplitl [Hx]; · iexact Hx
    isplitl [Hst0]; · iexact Hst0
    isplitl [Hst1]; · iexact Hst1
    isplitl [Hr]; · iexact Hr
    iexact HO
  iintro ⟨Hx, He0, He1, Hpile, Hrow, HO⟩
  unfold forExchange
  icases Hex with ⟨X1, X2, X3, X4, X5⟩
  ihave Hpile := (piles_rows c) $$ Hpile
  iapply (exchange_step x w c) $$ [X1 X2 X3 X4 X5 Hpile Hrow HO]
  · isplitr; · iexact HR
    isplitr [Hrow HO]
    · iapply (ax_of c)
      isplitl [X1]; · iexact X1
      isplitl [X2]; · iexact X2
      isplitl [Hpile]; · iexact Hpile
      isplitl [X3]; · iexact X3
      isplitl [X4]; · iexact X4
      iexact X5
    isplitl [Hrow]; · iexact Hrow
    iexact HO
  iintro ⟨Hax, Haw, HO⟩
  iapply (gather x w c) $$ [Hag0 Hag1 Hq Ho HO]
  · isplitr; · iexact HR
    isplitl [Hag0]; · iexact Hag0
    isplitl [Hag1]; · iexact Hag1
    isplitl [Hq]; · iexact Hq
    isplitl [Ho]; · iexact Ho
    iexact HO
  iintro ⟨Hg0, Hg1, Hqw, Ho, HO⟩
  iapply (ret_step c Q)
  iapply Hk
  unfold endD
  icases He0 with ⟨Hd0, Hb0⟩
  icases He1 with ⟨Hd1, Hb1⟩
  isplitl [Hdb Hd0 Hd1 Hg0 Hg1 Hax]
  · iapply (all_done c)
    isplitl [Hdb]; · iexact Hdb
    isplitl [Hd0 Hd1]
    · isplitl [Hd0]; · iexact Hd0
      iexact Hd1
    isplitl [Hg0 Hg1]
    · isplitl [Hg0]; · iexact Hg0
      iexact Hg1
    iexact Hax
  isplitl [Hb0 Hb1 Haw Hqw]
  · unfold bufs
    isplitl [Hb0]; · iexact Hb0
    isplitl [Hb1]; · iexact Hb1
    isplitl [Haw]; · iexact Haw
    iexact Hqw
  isplitl [HO]; · iexact HO
  isplitl [Hx]; · iexact Hx
  iexact Ho

end Cert.Proof
-- ==== Proof.Region.lean ====
/-
The kernel's one region: what its staging buffers hold before and after the point, and the body's obligation there.
-/
module

public import proofs.«01_k».proof.Proof.Whole
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- Where a run starts: any contents, every counter zero. -/
def s₀ : MemSt nD τ sig (Elt F) := ⟨m, fun _ => 0, ρ⟩

/-- The operands as the region stages them. -/
def xs (c : Dev nD) : Vec F S4096x256 .bf16 := (win0_0.blk (0 : Fin 1)).view.read (Elt F) ((s₀ m ρ).mem ((c : Thread nD τ).loc main_arg0))
def ws (c : Dev nD) : Vec F S256x2048 .bf16 := (win0_1.blk (0 : Fin 1)).view.read (Elt F) ((s₀ m ρ).mem ((c : Thread nD τ).loc main_arg1))

/-- The result, the same on every device. -/
def res : Vec F S4096x2048 .bf16 := fun i => OUT (xs m ρ) (ws m ρ) i

/-- What a device starts from. -/
def start (c : Dev nD) : sProp 𝕄 := iprop(Rec (xs m ρ) (ws m ρ) ∗ dealt c)
def Φ₀ (c : Dev nD) : sProp 𝕄 := iprop(start m ρ c ∗ bufs c)
/-- What it ends with. -/
def Φ₁ (c : Dev nD) : sProp 𝕄 := iprop(bufs c ∗ rows fun k => semVal ((c : Thread nD τ), k) 0)

def dats (_ : Fin 1) (c : Dev nD) : Dat τ (Elt F) Unit ℕ UU ℕ cfg0 c where
  A k := (s₀ m ρ).mem ((cfg0.win k).arr.view.loc (c : Thread nD τ))
  after k _ := match k with
    | ⟨0, _⟩ => xs m ρ c
    | ⟨1, _⟩ => ws m ρ c
    | ⟨2, _⟩ => res m ρ
  Φ t := match t with
    | ⟨0, _⟩ => Φ₀ m ρ c
    | ⟨_ + 1, _⟩ => Φ₁ c
  q _ := fullShare
  owed t := match t with
    | ⟨0, _⟩ => O c 0
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns
  simp only [Memref.view_whole, View.read_whole, View.set_whole]

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (xs m ρ c) ∗ stg c cc0_stg1_0 (ws m ρ c) ∗ stg c cc0_stg2_0 (res m ρ))

theorem fetched_x (c : Dev nD) (d) : (dats m ρ 0 c).before (0 : Fin 3) t0_0 d = xs m ρ c := by
  unfold Dat.before; rw [if_pos (fetch0_0 t0_0)]; rfl
theorem fetched_w (c : Dev nD) (d) : (dats m ρ 0 c).before (1 : Fin 3) t0_0 d = ws m ρ c := by
  unfold Dat.before; rw [if_pos (fetch0_1 t0_0)]; rfl

/-- The result written in full is the result. -/
theorem out_full (x : Dev nD → Vec F S4096x256 .bf16) (w : Dev nD → Vec F S256x2048 .bf16) (c : Dev nD) :
    (outP x w c fun _ => True : sProp 𝕄) ⊢ stg c cc0_stg2_0 (fun i => OUT x w i) := by
  unfold outP
  iintro ⟨%Z, %hZ, H⟩
  iexists _
  isplitr; · ipureintro; exact funext fun i => hZ i trivial
  iapply (whole_of_pts c cc0_stg2_0 fullShare Z); iexact H

theorem out_any (x : Dev nD → Vec F S4096x256 .bf16) (w : Dev nD → Vec F S256x2048 .bf16) (c : Dev nD) (f : cc0_stg2_0.ty.Contents (Elt F)) :
    ((((c : Thread nD τ).loc cc0_stg2_0) ↦{fullShare} f) : sProp 𝕄) ⊢ outP x w c fun _ => False := by
  unfold outP
  iintro H
  iexists f
  isplitr; · ipureintro; exact fun i h => h.elim
  iapply (pts_of_whole c cc0_stg2_0 fullShare f); iexact H

/-- The body at its one point. -/
theorem body_at (c : Dev nD) : bodyPre m ρ c ⊢ runs c (fun _ => bodyPost m ρ c) ringBody := by
  unfold bodyPre Φ₀ start Dat.owesAt Pipeline.owesWithin
  rw [show (dats m ρ 0 c).owed t0_0.castSucc = O c 0 from rfl]
  iintro ⟨⟨⟨#HR, Hd⟩, Hb⟩, ⟨%W, %hW, HO⟩, ⟨%d0, %g0, %hg0, Hx⟩, ⟨%d1, %g1, %hg1, Hw⟩, ⟨%d2, %g2, %hg2, Ho⟩⟩
  rw [fetched_x] at hg0
  rw [fetched_w] at hg1
  subst hg0 hg1
  iapply (whole (xs m ρ) (ws m ρ) c) $$ [Hd Hb HO Hx Hw Ho]
  · isplitr; · iexact HR
    isplitl [Hd Hb]
    · isplitl [Hd]; · iexact Hd
      iexact Hb
    isplitl [HO]
    · unfold own; iexists W; iexact HO
    isplitl [Hx Hw]
    · unfold xw
      isplitl [Hx]
      · iapply (pts_of_whole c cc0_stg0_0 fullShare (xs m ρ c)); iexact Hx
      iapply (pts_of_whole c cc0_stg1_0 fullShare (ws m ρ c)); iexact Hw
    iapply (out_any (xs m ρ) (ws m ρ) c g2); iexact Ho
  iintro ⟨Hd, Hb, HO, Hxw, Ho⟩
  imod (close_all (xs m ρ) (ws m ρ) c) $$ [Hd] with Hz
  · isplitr; · iexact HR
    iexact Hd
  imodintro
  unfold bodyPost Φ₁ Dat.owesAt Pipeline.owesWithin own xw
  rw [show (dats m ρ 0 c).owed t0_0.succ = 0 from rfl, O_end]
  icases HO with ⟨%W', HO⟩
  icases Hxw with ⟨Hx, Hw⟩
  isplitl [Hb Hz]
  · isplitl [Hb]; · iexact Hb
    iexact Hz
  isplitl [HO]
  · iexists W'
    isplitr; · ipureintro; exact fun _ _ => Or.inl trivial
    iexact HO
  isplitl [Hx]
  · iexists (xs m ρ c)
    isplitr; · ipureintro; rfl
    iapply (whole_of_pts c cc0_stg0_0 fullShare (xs m ρ c)); iexact Hx
  isplitl [Hw]
  · iexists (ws m ρ c)
    isplitr; · ipureintro; rfl
    iapply (whole_of_pts c cc0_stg1_0 fullShare (ws m ρ c)); iexact Hw
  iapply (out_full (xs m ρ) (ws m ρ) c); iexact Ho

set_option maxRecDepth 65536 in
/-- The body's obligation. -/
theorem body_obligation (c : Dev nD) : BodyObligation (dats (F := F) m ρ 0 c) (defs₀ (F := F)) 𝒱₀ () Set.univ := fun t => by
  rw [fin_N0 t]
  rw [show ∀ Ψ : Fin cfg0.W → sProp 𝕄, bigSep Finset.univ Ψ = iprop(Ψ (0 : Fin 3) ∗ Ψ (1 : Fin 3) ∗ Ψ (2 : Fin 3)) from fun Ψ => bigSep_W0 Ψ,
    show ∀ Ψ : Fin cfg0.W → sProp 𝕄, bigSep Finset.univ Ψ = iprop(Ψ (0 : Fin 3) ∗ Ψ (1 : Fin 3) ∗ Ψ (2 : Fin 3)) from fun Ψ => bigSep_W0 Ψ]
  simp only [owns_stg]
  have h := body_at m ρ c
  rw [← body_eq] at h
  exact h

end Cert.Proof
-- ==== Proof.Launch.lean ====
/-
The launch: the protocol's cells allocated for all devices at once, each device dealt its part, and the run of the kernel.
-/
module

public import proofs.«01_k».proof.Proof.Region
public import Idealize.ShloMosaic.Lib.Pipeline.CollectiveSegs

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ## The semaphores -/

/-- The kernel's own semaphores: all but the barrier's. -/
abbrev osem : Fin 15 × Fin 10 → SemLoc sig := fun p => semJ (some p)

theorem ownSemFacts : Pipeline.OwnSemFacts cfg0.spec osem :=
  ⟨by decide, fun a b h => Option.some.inj (semJ_inj h), by decide⟩

theorem sems_eq (c : Dev nD) : (bigSep Finset.univ fun j : J => (semVal (cellAt (c, j)) 0 : sProp 𝕄))
    = iprop(unscopedSems0 c ∗ Pipeline.ownSems0 (Ix := Unit) (Name := ℕ) (U := UU) (Lvl := ℕ) (Val := Elt F) (τ := τ) osem c) := by
  have hu : (Finset.univ : Finset J) = insert none (Finset.univ.map Function.Embedding.some) := rfl
  rw [hu, bigSep_insert (by simp), bigSep_map]
  have e : (unscopedSems0 c : sProp 𝕄) = semVal (cellAt (c, none)) 0 := by
    unfold unscopedSems0; rw [bigSep_eq_bigSepL_of_eq [SemLoc.reg barS] (by decide) (by decide)]; rfl
  rw [e]
  rfl

/-! ## The cells -/

def cells : Finset (GSem nD τ sig) := Finset.univ.map ⟨cellAt, cellAt_inj⟩
def tokens : Finset (GSem nD τ sig × ℕ × Bool) := Finset.univ.map ⟨tokAt, tokAt_inj⟩

def u₀ : UU := (initOf (Pipeline.cells cfgs cellOf_inj) (Pipeline.launchToks cfgs cellOf_inj), initOf cells tokens)

/-- A device's positions, at the start of its cells' only round. -/
def pends (c : Dev nD) : sProp 𝕄 := bigSep Finset.univ fun j : J => pend c (semJ j)
/-- That they are there. -/
def marks (c : Dev nD) : sProp 𝕄 := bigSep Finset.univ fun j : J => reached ER (cellAt (c, j)) 0

/-- What the launch deals a device, and what the allocation makes of it. -/
def G (c : Dev nD) : sProp 𝕄 :=
  iprop((bigSep Finset.univ fun j : J => roundState ER (Rd (xs m ρ) (ws m ρ)) (cellAt (c, j)) 0) ∗ pends c ∗ marks c ∗ toks c)
def known (K : Dev nD × J → ℕ) : sProp 𝕄 :=
  bigSep Finset.univ fun cj : Dev nD × J => iprop(cellInv ER (Rd (xs m ρ) (ws m ρ)) (K cj) (cellAt cj) ∗ reached ER (cellAt cj) 0)
instance known_persistent (K) : BI.Persistent (known (F := F) m ρ K) := by unfold known; infer_instance
def G' (c : Dev nD) : sProp 𝕄 := iprop((∃ K, known m ρ K) ∗ toks c ∗ pends c)

theorem fund_cells : BI.own (ER (initOf cells tokens)) ⊢ (|==> bigSep Finset.univ (G m ρ) : sProp 𝕄) := by
  have hX (Φ : GSem nD τ sig → sProp 𝕄) : bigSep cells Φ = bigSep Finset.univ fun c : Dev nD => bigSep Finset.univ fun j : J => Φ (cellAt (c, j)) := by
    unfold cells; rw [bigSep_map, bigSep_univ_prod]; rfl
  have hT : bigSep tokens (fun t => (dutyTok ER t.1 t.2.1 t.2.2 : sProp 𝕄)) = bigSep Finset.univ fun c : Dev nD => toks c := by
    unfold tokens toks; rw [bigSep_map, bigSep_univ_prod]; rfl
  iintro HX
  imod (Rounds.fund ER (Rd (xs m ρ) (ws m ρ)) cells tokens) $$ HX with ⟨Hst, Hr, Hat, Htok⟩
  imodintro
  ihave Hst := (Entails.of_eq (hX fun g => roundState ER (Rd (xs m ρ) (ws m ρ)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G pends marks
  simp only [bigSep_sep']
  isplitl [Hst]; · iexact Hst
  isplitl [Hat]; · iexact Hat
  isplitl [Hr]; · iexact Hr
  iexact Htok

/-- A device's cells allocated. -/
theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j : J => iprop(∃ κ : ℕ, cellInv ER (Rd (xs m ρ) (ws m ρ)) κ (cellAt (c, j)))) ∗ marks c ∗ toks c ∗ pends c) := by
  have h : iprop((bigSep Finset.univ fun j : J => semVal (cellAt (c, j)) 0)
        ∗ bigSep Finset.univ fun j : J => roundState ER (Rd (xs m ρ) (ws m ρ)) (cellAt (c, j)) 0)
      ⊢ (|={Set.univ}=> bigSep Finset.univ fun j : J => iprop(∃ κ : ℕ, cellInv ER (Rd (xs m ρ) (ws m ρ)) κ (cellAt (c, j))) : sProp 𝕄) := by
    rw [← bigSep_sep']
    exact (Idealize.SL.BI.bigSep_mono fun j _ => (Rounds.body_intro ER (Rd (xs m ρ) (ws m ρ)) (cellAt (c, j))).trans inv_alloc).trans (bigSep_fupd _ _)
  unfold G
  iintro ⟨Ho, Hu, Hst, Hp, Hm, Ht⟩
  ihave Hv := (Entails.of_eq (sems_eq (F := F) c).symm) $$ [Ho Hu]
  · isplitl [Hu]; · iexact Hu
    iexact Ho
  imod h $$ [Hv Hst] with Hi
  · isplitl [Hv]; · iexact Hv
    iexact Hst
  imodintro
  isplitl [Hi]; · iexact Hi
  isplitl [Hm]; · iexact Hm
  isplitl [Ht]; · iexact Ht
  iexact Hp

/-- Every cell's invariant known everywhere. -/
theorem spread :
    (bigSep Finset.univ fun c : Dev nD => iprop((bigSep Finset.univ fun j : J => iprop(∃ κ : ℕ, cellInv ER (Rd (xs m ρ) (ws m ρ)) κ (cellAt (c, j))))
        ∗ marks c ∗ toks c ∗ pends c) : sProp 𝕄) ⊢ bigSep Finset.univ (G' m ρ) := by
  unfold marks
  rw [bigSep_sep', bigSep_sep', ← bigSep_univ_prod (fun cj : Dev nD × J => iprop(∃ κ : ℕ, cellInv ER (Rd (xs m ρ) (ws m ρ)) κ (cellAt cj))),
    ← bigSep_univ_prod (fun cj : Dev nD × J => (reached ER (cellAt cj) 0 : sProp 𝕄))]
  have hw : ∀ K, iprop(known m ρ K ∗ bigSep Finset.univ fun c : Dev nD => iprop(toks c ∗ pends c)) ⊢ bigSep Finset.univ (G' m ρ) := fun K =>
    bigSep_with_persistent fun c _ => by
      unfold G'
      iintro ⟨#HK, H⟩
      isplitr
      · iexists K; iexact HK
      iexact H
  iintro ⟨HI, Hm, Hl⟩
  ihave HK := (BI.bigSep_exists_pi Finset.univ (fun (cj : Dev nD × J) (κ : ℕ) => (cellInv ER (Rd (xs m ρ) (ws m ρ)) κ (cellAt cj) : sProp 𝕄))) $$ HI
  icases HK with ⟨%K, HI⟩
  iapply (hw K)
  isplitl [HI Hm]
  · unfold known
    rw [bigSep_sep']
    isplitl [HI]; · iexact HI
    iexact Hm
  iexact Hl

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((Idealize.SL.BI.bigSep_mono fun c _ => alloc m ρ c).trans (bigSep_fupd _ _)).trans (BI.fupd_mono (spread m ρ))

/-! ## The credits -/

/-- Whose payment `n` comes to a device. -/
def payBack (n : ℕ) (c : Dev nD) : Dev nD :=
  if n = 0 then nb true c else if n = 1 then nb false c else if n < 32 then nb (!pd (n - 2)) c
  else if n < 47 then axSrc c (n - 32) else nb (!pd (n - 47)) c

theorem pay_back : ∀ n < 77, ∀ c, payD (payBack n c) n = c ∧ payBack n (payD c n) = c := by decide +kernel

theorem launch_creds (c : Dev nD) : (Pipeline.launchCred (fun c => O c 0) c : sProp 𝕄) ⊢ creds c := by
  have h : (Pipeline.launchCred (fun c => O c 0) c : sProp 𝕄)
      = bigSep (Finset.range 77) fun i => Pipeline.launchCred (fun d => tallyAt (payCell d i) () (amt i)) c := by
    unfold O
    rw [Pipeline.launchCred_sum (Finset.Ico 0 77) (fun i d => tallyAt (payCell d i) () (amt i)), Finset.range_eq_Ico]
  refine (Entails.of_eq h).trans (Idealize.SL.BI.bigSep_mono fun i hi => ?_)
  have hi := Finset.mem_range.mp hi
  exact Pipeline.launchCred_tallyAt (payS i) (fun d => payD d i) (payBack i) (fun d => (pay_back i hi d).1) (fun d => (pay_back i hi d).2) () (amt i) c

/-! ## The run -/

theorem start_intro (c : Dev nD) :
    iprop(Pipeline.unscopedRestP Pipeline.Prefetch.none cfg0.spec c (fun b => m ((c : Thread nD τ).loc b)) ∗ levAts L lv
        ∗ Pipeline.launchCred (fun c => O c 0) c ∗ prngReg c (ρ c) ∗ G' m ρ c)
      ⊢ |={Set.univ}=> iprop(start m ρ c ∗ emp) := by
  unfold G' pends
  rw [big_rows]
  iintro ⟨-, Hl, Hc, -, ⟨%K, HK⟩, Ht, Hp⟩
  imodintro
  unfold start Rec Rec₀ dealt
  isplitl
  · isplitl [HK Hl]
    · iexists K
      isplitl [HK]; · unfold known; iexact HK
      iexact Hl
    isplitl [Ht]; · iexact Ht
    isplitl [Hp]; · iexact Hp
    iapply (launch_creds c); iexact Hc
  iempintro

theorem bufs_eq (c : Dev nD) : (bufs c : sProp 𝕄) = Pipeline.scopedRest (Ix := Unit) (Name := ℕ) (U := UU) (Lvl := ℕ) (Val := Elt F) cfg0.spec c := by
  have h (b : Ref sig .tc) : (pany c (Memref.whole b) Finset.univ : sProp 𝕄) = iprop(∃ f : Buf (Elt F) ((c : Thread nD τ).loc b), ((c : Thread nD τ).loc b) ↦{fullShare} f) := by
    unfold pany
    exact sep_eq
      (by iintro ⟨%X, H⟩; iexists X; iapply (whole_of_pts c b fullShare X); iexact H)
      (by iintro ⟨%X, H⟩; iexists X; iapply (pts_of_whole c b fullShare X); iexact H)
  rw [show cfg0.spec = spec0 from rfl, scopedRest0_eq, ← h, ← h, ← h, ← h]
  unfold bufs
  exact sep_eq
    (by iintro ⟨H0, H1, H3, H2⟩
        isplitl [H0]; · iexact H0
        isplitl [H1]; · iexact H1
        isplitl [H2]; · iexact H2
        iexact H3)
    (by iintro ⟨H0, H1, H2, H3⟩
        isplitl [H0]; · iexact H0
        isplitl [H1]; · iexact H1
        isplitl [H3]; · iexact H3
        iexact H2)

theorem phi_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← bufs_eq]
  unfold Φ₀
  iintro ⟨Hs, -, Hb⟩
  isplitl [Hs]; · iexact Hs
  iexact Hb

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← bufs_eq]
  unfold Φ₁
  rw [← big_rows]
  iintro ⟨Hb, Hz⟩
  ihave Hz := (Entails.of_eq (sems_eq (F := F) c)) $$ Hz
  icases Hz with ⟨Hu, Ho⟩
  isplitl [Hu]; · iexact Hu
  isplitl [Ho]; · iexact Ho
  iexact Hb

theorem waits (c : Dev nD) : (levAts L lv : sProp 𝕄) ⊢ Pipeline.cellsWaits cfgs (dats m ρ) () 0 c :=
  Pipeline.cellsWaits_intro cfgs (dats m ρ) () 0 c fun k s t => by
    have hk : ∀ (k : Fin cfg0.W) (s), lvK (kind (.dma ((cfg0.win k).sem s))) ≤ 0 := by decide
    rcases t with ⟨_ | _, ht⟩
    · exact mayWait c _ 0 0 (hk k s) fun i _ h => lv_pos i h
    · show _ ⊢ MayWait _ _ () 0
      rw [MayWait_zero]
      iintro -
      iempintro

/-- What an array ends with. -/
def finalA (c : Dev nD) (k : Fin cfg0.W) : Buf (Elt F) ((cfg0.win k).arr.view.loc (c : Thread nD τ)) := (dats m ρ 0 c).arrAt k cfg0.N

def QC : PUnit × MemSt nD τ sig (Elt F) → Prop := fun r =>
  ∀ c : Dev nD, ∀ k : Fin cfg0.W, r.2.mem ((cfg0.win k).arr.view.loc (c : Thread nD τ)) = finalA m ρ c k

set_option maxRecDepth 65536 in
/-- Every run of the sixteen kernels ends, each array as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0)
    (hshare := fun c k => by unfold Dat.share; split <;> rfl)
    (hdistinct := winFacts0.arr_inj)
    (O₀ := fun c => O c 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_in m ρ) (hout := phi_out m ρ)
    (QY := fun c s => ∀ k : SemLoc sig, k.isScoped .tc = false → s.sem ((c.tc : Thread nD τ), k) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c k => (h c).1 k, sem_eq_zero hs fun c => (h c).2.2⟩)

theorem final_x (c : Dev nD) : finalA m ρ c (0 : Fin 3) = (s₀ m ρ).mem (win0_0.arr.view.loc (c : Thread nD τ)) :=
  (dats (F := F) m ρ 0 c).arrAt_in (0 : Fin 3) rfl _
theorem final_w (c : Dev nD) : finalA m ρ c (1 : Fin 3) = (s₀ m ρ).mem (win0_1.arr.view.loc (c : Thread nD τ)) :=
  (dats (F := F) m ρ 0 c).arrAt_in (1 : Fin 3) rfl _
theorem final_out (c : Dev nD) : (win0_2.blk (0 : Fin 1)).view.read (Elt F) (finalA m ρ c (2 : Fin 3)) = res m ρ := by
  unfold finalA
  rw [show cfg0.N = ((0 : Fin 1) : Fin cfg0.N).val + 1 from rfl, (dats m ρ 0 c).arrAt_succ (2 : Fin 3) (0 : Fin 1),
    if_pos (show (cfg0.win (2 : Fin 3)).flush (0 : Fin 1) = true from flush0_2 _)]
  exact View.read_write_univ _ _

/-- A window's one block is its array. -/
theorem xs_eq (c : Dev nD) : xs m ρ c = m ((c : Thread nD τ).loc main_arg0) :=
  Memref.read_access_unit_zero (Elt F) main_arg0 (funext fun a => by fin_cases a <;> decide) (fun a => by fin_cases a <;> decide) _
theorem ws_eq (c : Dev nD) : ws m ρ c = m ((c : Thread nD τ).loc main_arg1) :=
  Memref.read_access_unit_zero (Elt F) main_arg1 (funext fun a => by fin_cases a <;> decide) (fun a => by fin_cases a <;> decide) _
theorem out_eq (c : Dev nD) : finalA m ρ c (2 : Fin 3) = res m ρ :=
  (Memref.read_access_unit_zero (Elt F) main_v1 (funext fun a => by fin_cases a <;> decide) (fun a => by fin_cases a <;> decide) _).symm.trans (final_out m ρ c)

end Cert.Proof
-- ==== Proof.Frames.lean ====
/-
Both kernel programs run to their end and leave their operands alone; and so does the reference.
-/
module

public import proofs.«01_k».proof.Proof.Launch
public import proofs.«01_k».proof.Defs
public import proofs.«01_k».proof.Proof.Gen.Kernel
public import proofs.«01_k».proof.Proof.Gen.ReferenceIdeal.Run

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.SL.Sem

attribute [local instance] Cert.Kernel.Gen.facts Cert.KernelIdeal.Gen.facts Cert.ReferenceIdeal.Gen.facts
set_option maxRecDepth 65536

theorem frame_ideal : Cert.quiescent_KernelIdeal := fun m ρ _ =>
  (θ_run Cert.KernelIdeal.defs _ _).mono
    (fun _ h => ⟨fun c => ⟨(h.1 c (0 : Fin 3)).trans (final_x m ρ c), (h.1 c (1 : Fin 3)).trans (final_w m ρ c)⟩, h.2⟩)
    (run_main (F := Ideal) m ρ)

/-- The program as printed has the same bodies as the one read over the reals: one text, two namespaces. -/
theorem bodies_eq : Cert.Kernel.defs₀ (F := Bits) = Cert.KernelIdeal.defs₀ (F := Bits) := by
  unfold Cert.Kernel.defs₀ Cert.KernelIdeal.defs₀
  refine congrArg _ ?_
  funext l a
  match l with
  | 0 => rfl

theorem defs_eq : Cert.Kernel.defs (F := Bits) = Cert.KernelIdeal.defs (F := Bits) := by
  unfold Cert.Kernel.defs
  rw [bodies_eq]
  rfl

/-- So its run is the same run, read at the bits. -/
theorem frame_kernel : Cert.quiescent_Kernel := by
  intro m ρ _
  rw [defs_eq]
  exact (θ_run Cert.KernelIdeal.defs _ _).mono
    (fun _ h => ⟨fun c => ⟨(h.1 c (0 : Fin 3)).trans (final_x m ρ c), (h.1 c (1 : Fin 3)).trans (final_w m ρ c)⟩, h.2⟩)
    (run_main (F := Bits) m ρ)

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof
-- ==== Proof.Quant.lean ====
/-
The quantiser at one element, over the extended reals: multiplying by `127 / a` and rounding into eight bits is dividing by
`a / 127`, rounding and clipping.
-/
module

public import proofs.«01_k».proof.Proof.Vals
public import Idealize.ShloMosaic.PureOps.Ideal.Laws

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem word_127 : Ideal.ofBits .f32 0x42FE0000#32 = ((127 : ℝ) : EReal) := by
  simp [Ideal.ofBits, Ideal.ieee]
  rw [← EReal.coe_mul]
  norm_num
theorem word_neg_127 : Ideal.ofBits .f32 0xC2FE0000#32 = ((-127 : ℝ) : EReal) := by
  simp [Ideal.ofBits, Ideal.ieee]
  rw [← EReal.coe_mul]
  norm_num
theorem word_bot : Ideal.ofBits .f32 0xFF800000#32 = ⊥ := by
  simp [Ideal.ofBits, Ideal.ieee]

/-- Rounded to the nearest integer, ties to even. -/
abbrev rnd : EReal → EReal := Ideal.liftRound Ideal.roundHalfEven

theorem round_nonneg {r : ℝ} (h : 0 ≤ r) : 0 ≤ Ideal.roundHalfEven r := by
  have hf : 0 ≤ ⌊r⌋ := Int.floor_nonneg.mpr h
  unfold Ideal.roundHalfEven
  dsimp only
  split
  · exact hf
  split
  · omega
  split
  · exact hf
  · omega

/-- Eight bits hold an integer from 0 to 127 exactly. -/
theorem eight_bits {n : ℤ} (h0 : 0 ≤ n) (h1 : n ≤ 127) : ((Ideal.fptosi 8 (((n : ℝ)) : EReal)).toInt : ℤ) = n := by
  unfold Ideal.fptosi
  rw [Ideal.toIntClamped_coe, if_pos (by exact_mod_cast h0), Int.floor_intCast, BitVec.toInt_ofInt]
  norm_num
  have e : max (-128) (min 127 n) = n := by omega
  rw [e]
  exact Int.bmod_eq_of_le (by omega) (by omega)

/-- So on what is rounded from nothing negative, the trip through eight bits is the clip. -/
theorem clip_round {t : EReal} (ht : 0 ≤ t) :
    (((Ideal.fptosi 8 (min ((127 : ℝ) : EReal) (max 0 (rnd t)))).toInt : ℝ) : EReal)
      = min ((127 : ℝ) : EReal) (max ((-127 : ℝ) : EReal) (rnd t)) := by
  induction t with
  | bot => exact absurd ht (by simp)
  | top =>
    have e := eight_bits (n := 127) (by norm_num) le_rfl
    rw [show rnd ⊤ = ⊤ from rfl, max_eq_right le_top, max_eq_right le_top, min_eq_left le_top]
    have e' : (((127 : ℤ) : ℝ) : EReal) = ((127 : ℝ) : EReal) := by norm_num
    rw [← e', e]
  | coe r =>
    have hn := round_nonneg (EReal.coe_nonneg.mp ht)
    rw [show rnd (r : EReal) = ((Ideal.roundHalfEven r : ℝ) : EReal) from rfl]
    generalize Ideal.roundHalfEven r = n at hn
    have h0 : (0 : EReal) ≤ ((n : ℝ) : EReal) := by exact_mod_cast hn
    have h1 : ((-127 : ℝ) : EReal) ≤ ((n : ℝ) : EReal) := EReal.coe_le_coe_iff.mpr (by
      have : (0 : ℝ) ≤ n := by exact_mod_cast hn
      linarith)
    rw [max_eq_right h0, max_eq_right h1]
    have hm : min ((127 : ℝ) : EReal) ((n : ℝ) : EReal) = (((min 127 n : ℤ) : ℝ) : EReal) := by
      rw [← EReal.coe_strictMono.monotone.map_min]
      norm_num
    rw [hm, eight_bits (by omega) (by omega)]

/-- One element: the kernel's way and the reference's. -/
theorem quantise {v a : EReal} (hv : 0 ≤ v) (ha : 0 ≤ a) :
    (((Ideal.fptosi 8 (min ((127 : ℝ) : EReal) (max 0 (rnd (v * Ideal.div ((127 : ℝ) : EReal) a))))).toInt : ℝ) : EReal)
        * Ideal.div a ((127 : ℝ) : EReal)
      = min ((127 : ℝ) : EReal) (max ((-127 : ℝ) : EReal) (rnd (Ideal.div v (Ideal.div a ((127 : ℝ) : EReal)))))
        * Ideal.div a ((127 : ℝ) : EReal) := by
  have h127 : ((127 : ℝ) : EReal) ≠ 0 := by exact_mod_cast (by norm_num : (127 : ℝ) ≠ 0)
  have hs : Ideal.div a ((127 : ℝ) : EReal) = a * ((127 : ℝ) : EReal)⁻¹ := by unfold Ideal.div; rw [if_neg h127]
  by_cases h : a = 0
  · rw [hs, h, zero_mul, mul_zero, mul_zero]
  have hi : ((127 : ℝ) : EReal)⁻¹ ≠ 0 := by
    rw [← EReal.coe_inv]
    exact_mod_cast (by norm_num : (127 : ℝ)⁻¹ ≠ 0)
  have hne : a * ((127 : ℝ) : EReal)⁻¹ ≠ 0 := mul_ne_zero h hi
  have hd : Ideal.div v (Ideal.div a ((127 : ℝ) : EReal)) = v * Ideal.div ((127 : ℝ) : EReal) a := by
    rw [hs]
    unfold Ideal.div
    rw [if_neg hne, if_neg h, EReal.mul_inv, EReal.inv_inv (EReal.coe_ne_bot _) (EReal.coe_ne_top _), mul_comm a⁻¹]
  have ht : 0 ≤ v * Ideal.div ((127 : ℝ) : EReal) a := by
    unfold Ideal.div
    rw [if_neg h]
    exact EReal.mul_nonneg hv (EReal.mul_nonneg (by exact_mod_cast (by norm_num : (0 : ℝ) ≤ 127)) (EReal.inv_nonneg_of_nonneg ha))
  rw [hd, clip_round ht]

end Cert.Proof
-- ==== Proof.Maxima.lean ====
/-
Over the extended reals, the greatest element the devices find among themselves, told by its upper bounds.
-/
module

public import proofs.«01_k».proof.Proof.Vals
public import Idealize.ShloMosaic.PureOps.Ideal.Laws
public import proofs.«01_k».proof.Proof.Quant

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A maximum over axes leaving one element: below `a` when every element is. -/
theorem greatest_le {s t : Shape} {axes : List (Fin s.rank)} (src : FVec Ideal s .f32) (h : s.Reduces axes t) (hφ : FKind.Formats .f32)
    (hacc : (0xFF800000#32 : BitVec 32) = FKind.maximumf.neutral .f32 hφ) (ht : ∀ b, t.size b = 1) (j : t.Idx) (a : EReal) :
    (multiReduction .maximumf axes t src 0xFF800000#32 h hφ hacc j : EReal) ≤ a ↔ ∀ i, (src i : EReal) ≤ a := by
  rw [multiReduction_maximumf_eq_fold, Finset.filter_true_of_mem fun i _ => funext fun b => Fin.ext (by
    have := (h.drop i b).isLt; have := (j b).isLt; have := ht b; omega)]
  show (Finset.univ.fold max (Ideal.ofBits .f32 0xFF800000#32) src : EReal) ≤ a ↔ _
  rw [Finset.fold_max_le, word_bot]
  exact ⟨fun h i => h.2 i (Finset.mem_univ i), fun h => ⟨bot_le, fun i _ => h i⟩⟩

/-- Another shape has the same elements. -/
theorem recast_le {s t : Shape} (v : s.Idx → EReal) (h : s.ShapeCasts t) (a : EReal) :
    (∀ i, shapeCast t v h i ≤ a) ↔ ∀ i, v i ≤ a :=
  (Shape.reshapeEquiv h).forall_congr fun _ => Iff.rfl

/-- The one element a maximum leaves, reshaped before and read out after. -/
theorem greatest_out_le {s₀ s t t' : Shape} {axes : List (Fin s.rank)} (v : FVec Ideal s₀ .f32) (hc : s₀.ShapeCasts s) (h : s.Reduces axes t)
    (hφ : FKind.Formats .f32) (hacc : (0xFF800000#32 : BitVec 32) = FKind.maximumf.neutral .f32 hφ) (ht : ∀ b, t.size b = 1)
    (hc' : t.ShapeCasts t') (pos : Fin t'.rank → ℕ) (hp : ∀ b, pos b < t'.size b) (a : EReal) :
    (extractAt pos (shapeCast t' (multiReduction .maximumf axes t (shapeCast s v hc : FVec Ideal s .f32) 0xFF800000#32 h hφ hacc) hc') hp : EReal) ≤ a
      ↔ ∀ i, (v i : EReal) ≤ a :=
  (greatest_le _ h hφ hacc ht _ a).trans (recast_le v hc a)

theorem size_S1 (b : Fin S1.rank) : S1.size b = 1 := by
  match b with
  | 0 => rfl

theorem amaxH_le (r : FVec Ideal S128x2048 .f32) (a : EReal) : (amaxH r : EReal) ≤ a ↔ ∀ i, (r i : EReal) ≤ a := by
  unfold amaxH
  exact greatest_out_le r _ _ _ _ size_S1 _ _ _ a

/-- The greater of two. -/
theorem pair_le (u v : EReal) (a : EReal) :
    (∀ i, (concatenate S2 0 [⟨S1, (broadcast S1 u : FVec Ideal S1 .f32)⟩, ⟨S1, (broadcast S1 v : FVec Ideal S1 .f32)⟩]
      concatenates_S1_S1_S2_d0 : FVec Ideal S2 .f32) i ≤ a) ↔ u ≤ a ∧ v ≤ a := by
  constructor
  · intro h
    exact ⟨h (ix1 (0 : Fin 2)), h (ix1 (1 : Fin 2))⟩
  · rintro ⟨h1, h2⟩ i
    obtain ⟨k, rfl⟩ : ∃ k : Fin 2, i = ix1 k := ⟨i 0, eq_ix1 i⟩
    match k with
    | 0 => exact h1
    | 1 => exact h2

theorem amaxV_le (r0 r1 : FVec Ideal S128x2048 .f32) (j : S8x128.Idx) (a : EReal) :
    (amaxV r0 r1 j : EReal) ≤ a ↔ (∀ i, (r0 i : EReal) ≤ a) ∧ ∀ i, (r1 i : EReal) ≤ a := by
  unfold amaxV
  rw [show ∀ z : EReal, (broadcast S8x128 z : FVec Ideal S8x128 .f32) j = z from fun _ => rfl]
  refine (greatest_out_le _ _ _ _ _ size_S1 _ _ _ a).trans ((pair_le _ _ a).trans ?_)
  rw [amaxH_le, amaxH_le]

theorem topV_le (v : Vec Ideal S16x8x128 .f32) (a : EReal) : (topV v : EReal) ≤ a ↔ ∀ i, (v i : EReal) ≤ a := by
  unfold topV
  exact greatest_out_le v _ _ _ _ size_S1 _ _ _ a

variable (x : Dev nD → Vec Ideal S4096x256 .bf16) (w : Dev nD → Vec Ideal S256x2048 .bf16)

/-- The two halves are the chunk. -/
theorem halves_le (v : S256x2048.Idx → EReal) (a : EReal) :
    ((∀ i, cut 0 (by decide) v i ≤ a) ∧ ∀ i, cut 1 (by decide) v i ≤ a) ↔ ∀ i, v i ≤ a := by
  constructor
  · rintro ⟨h0, h1⟩ i
    obtain ⟨r, b, rfl⟩ : ∃ (r : Fin 256) (b : Fin 2048), i = ix2 r b := ⟨i 0, i 1, eq_ix2 i⟩
    by_cases hr : r.val < 128
    · have h := h0 (ix2 (n0 := 128) ⟨r.val, hr⟩ b)
      rw [cut_apply] at h
      convert h using 3
      exact Fin.ext (by simp)
    · have h := h1 (ix2 (n0 := 128) ⟨r.val - 128, by omega⟩ b)
      rw [cut_apply] at h
      convert h using 3
      exact Fin.ext (by simp; omega)
  · exact fun h => ⟨fun i => h _, fun i => h _⟩

/-- The step's numerator: below `a` when every element of every finished chunk is. -/
theorem top_le (a : EReal) : (top x w : EReal) ≤ a ↔ ∀ (q : Dev nD) (i : S256x2048.Idx), (fin x w q i : EReal) ≤ a := by
  refine (topV_le _ a).trans ?_
  constructor
  · intro h q
    have e := h (ix3 q (0 : Fin 8) (0 : Fin 128))
    unfold AALL amaxRow at e
    exact (halves_le _ a).mp ((amaxV_le _ _ _ a).mp e)
  · intro h i
    unfold AALL amaxRow
    rw [amaxV_le]
    exact (halves_le _ a).mpr (h (i 0))

end Cert.Proof
-- ==== Proof.Sums.lean ====
/-
Over the extended reals: what the two rings and the own product add up to is the whole product.
-/
module

public import proofs.«01_k».proof.Proof.Vals
public import Idealize.ShloMosaic.PureOps.Ideal.Laws
public import Idealize.ShloMosaic.Lib.MatmulPlain
public import Idealize.ShloMosaic.Lib.Layout
public import Mathlib.Tactic.Abel

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open scoped BigOperators

variable (x : Dev nD → Vec Ideal S4096x256 .bf16) (w : Dev nD → Vec Ideal S256x2048 .bf16)

/-- Adding up along a ring: the running sum is the sum of the products of the devices passed. -/
theorem acc_sum (d : Bool) (j : S256x2048.Idx) : ∀ (k : ℕ) (c : Dev nD),
    (acc x w d c k j : EReal) = ∑ i ∈ Finset.range (k + 1), (prt x w (go d c i) (ch d c k) j : EReal)
  | 0, c => by
    rw [Finset.sum_range_one, go_zero]
    rfl
  | k + 1, c => by
    have e : (acc x w d c (k + 1) j : EReal) = (acc x w d (nb (!d) c) k j : EReal) + (prt x w c (ch d c (k + 1)) j : EReal) := rfl
    have hg (i : ℕ) : go d c (i + 1) = go d (nb (!d) c) i := by
      have h := go_nb d (nb (!d) c) i
      rwa [nb_nb] at h
    have hc : ch d c (k + 1) = ch d (nb (!d) c) k := by
      have h := ch_nb d (nb (!d) c) k
      rwa [nb_nb] at h
    rw [e, acc_sum d j k, Finset.sum_range_succ' _ (k + 1), go_zero, hc]
    simp only [hg]

theorem left_chunk : ∀ c : Dev nD, ch false (nb true c) 7 = c := by decide
theorem right_chunk : ∀ c : Dev nD, ch true (nb false c) 6 = c := by decide
theorem left_from : ∀ c : Dev nD, ∀ i < 8, go false (nb true c) i = c + 1 + Fin.ofNat 16 i := by decide
theorem right_from : ∀ c : Dev nD, ∀ i < 7, go true (nb false c) i = c + 1 + Fin.ofNat 16 (14 - i) := by decide
theorem own_from : ∀ c : Dev nD, c = c + 1 + Fin.ofNat 16 15 := by decide

/-- The two rings and the device itself are all the devices. -/
theorem all_devices (f : Dev nD → EReal) (c : Dev nD) :
    (∑ i ∈ Finset.range 8, f (go false (nb true c) i)) + (∑ i ∈ Finset.range 7, f (go true (nb false c) i)) + f c = ∑ e, f e := by
  have h1 : ∑ i ∈ Finset.range 8, f (go false (nb true c) i) = ∑ i ∈ Finset.range 8, f (c + 1 + Fin.ofNat 16 i) :=
    Finset.sum_congr rfl fun i hi => by rw [left_from c i (Finset.mem_range.mp hi)]
  have h2 : ∑ i ∈ Finset.range 7, f (go true (nb false c) i) = ∑ i ∈ Finset.range 7, f (c + 1 + Fin.ofNat 16 (14 - i)) :=
    Finset.sum_congr rfl fun i hi => by rw [right_from c i (Finset.mem_range.mp hi)]
  have h3 : f c = f (c + 1 + Fin.ofNat 16 15) := congrArg f (own_from c)
  have h4 : ∑ e, f e = ∑ i : Fin 16, f (c + 1 + i) := (Equiv.sum_comp (Equiv.addLeft (c + 1)) f).symm
  have h5 : ∑ i : Fin 16, f (c + 1 + i) = ∑ i ∈ Finset.range 16, f (c + 1 + Fin.ofNat 16 i) := by
    rw [← Fin.sum_univ_eq_sum_range (fun i => f (c + 1 + Fin.ofNat 16 i)) 16]
    exact Finset.sum_congr rfl fun i _ => by rw [Fin.ofNat_val_eq_self]
  rw [h1, h2, h3, h4, h5]
  simp only [Finset.sum_range_succ, Finset.sum_range_zero, zero_add]
  abel

/-- The finished chunk: every device's product for it, cut below at zero. -/
theorem fin_sum (c : Dev nD) (j : S256x2048.Idx) : (fin x w c j : EReal) = max (∑ e : Dev nD, (prt x w e c j : EReal)) 0 := by
  have e : (fin x w c j : EReal) = max (((acc x w false (nb true c) 7 j : EReal) + (acc x w true (nb false c) 6 j : EReal)) + (prt x w c c j : EReal))
      (Ideal.ofBits .f32 0x00000000#32) := rfl
  rw [e, Ideal.ofBits_zero_f32, acc_sum, acc_sum, left_chunk, right_chunk]
  exact congrArg (max · 0) (all_devices (fun e => (prt x w e c j : EReal)) c)

/-- A device's product for a chunk, at an element. -/
theorem prt_at (e q : Dev nD) (r : Fin 256) (b : Fin 2048) :
    (prt x w e q (ix2 r b) : EReal) = ∑ k : Fin 256, (xch (x e) q (ix2 r k) : EReal) * (w e (ix2 k b) : EReal) := by
  have hx : shapeCast S256x256 (xch (x e) q) shapeCasts_S256x256_S256x256 = xch (x e) q := by pointwise
  have hw : shapeCast S256x2048 (w e) shapeCasts_S256x2048_S256x2048 = w e := by pointwise
  unfold prt partV
  rw [hx, hw]
  refine (Ideal.matmul_plain_apply (M := 256) (K := 256) (N := 2048) none (xch (x e) q) (w e) _ r b).trans ?_
  show Ideal.ofBits .f32 0x00000000#32 + _ = _
  rw [Ideal.ofBits_zero_f32, zero_add]
  rfl

/-! ## The blocks of the whole operands -/

variable (X : (⟨2, ![4096, 4096]⟩ : Shape).Idx → EReal) (W : (⟨2, ![4096, 2048]⟩ : Shape).Idx → EReal)

/-- An element of the product, cut below at zero. -/
def relu (R : Fin 4096) (b : Fin 2048) : EReal := max (∑ K : Fin 4096, X (ix2 R K) * W (ix2 K b)) 0

/-- A sum over the shared axis, by blocks. -/
theorem sum_blocks (f : Fin 4096 → EReal) :
    ∑ e : Fin 16, ∑ k : Fin 256, f ⟨256 * e.val + k.val, by omega⟩ = ∑ K, f K := by
  rw [← Fintype.sum_prod_type' (f := fun (e : Fin 16) (k : Fin 256) => f ⟨256 * e.val + k.val, by omega⟩)]
  exact Fintype.sum_equiv (finProdFinEquiv (m := 16) (n := 256)) _ _ fun p => congrArg f (Fin.ext (Nat.add_comm _ _))

theorem fin_relu (hx : ∀ c, x c = Layout.block ⟨2, ![4096, 256]⟩ ⟨2, ![4096, 4096]⟩ 1 16 c X)
    (hw : ∀ c, w c = Layout.block ⟨2, ![256, 2048]⟩ ⟨2, ![4096, 2048]⟩ 0 16 c W) (q : Dev nD) (r : Fin 256) (b : Fin 2048) :
    (fin x w q (ix2 r b) : EReal) = relu X W ⟨256 * q.val + r.val, by have : q.val < 16 := q.isLt; omega⟩ b := by
  rw [fin_sum]
  unfold relu
  refine congrArg (max · 0) ?_
  rw [← sum_blocks]
  refine Finset.sum_congr rfl fun e _ => ?_
  rw [prt_at]
  refine Finset.sum_congr rfl fun k _ => ?_
  rw [hw e]
  unfold xch
  rw [hx e]
  refine congrArg₂ (· * ·) (congrArg X (funext fun a => Fin.ext ?_)) (congrArg W (funext fun a => Fin.ext ?_))
  · match a with
    | 0 => rfl
    | 1 => show e.val * 256 + k.val = 256 * e.val + k.val; omega
  · match a with
    | 0 => show e.val * 256 + k.val = 256 * e.val + k.val; omega
    | 1 => rfl

end Cert.Proof
-- ==== Proof.RefValue.lean ====
/-
What the reference computes at one element, over the extended reals: the product summed over the whole shared axis, cut below
at zero, and quantised by the greatest such element.
-/
module

public import proofs.«01_k».proof.Proof.Sums
public import proofs.«01_k».proof.Proof.Quant
public import proofs.«01_k».proof.Proof.Gen.ReferenceIdeal.Run
public import Idealize.ShloMosaic.Lib.StackMember

@[expose] public section

noncomputable section

namespace Cert.Proof.Ref

open Cert.ReferenceIdeal Cert.ReferenceIdeal.Gen
open Idealize.ShloMosaic Idealize.ShloMosaic.TcCoe

attribute [local instance] Cert.ReferenceIdeal.Gen.facts

variable (X : FVec Ideal S4096x4096 .bf16) (W : FVec Ideal S4096x2048 .bf16)

/-- A number at every index. -/
abbrev all (v : FVec Ideal S_ .f32) : FVec Ideal S4096x2048 .f32 := broadcastInDim S4096x2048 ![] bcast_S_S4096x2048 v

/-- The product, cut below at zero. -/
def Y : FVec Ideal S4096x2048 .f32 :=
  maximumf (Host.dotGeneral dot_S4096x4096_S4096x2048_S4096x2048_1_0_0_1_n_n none (extf .f32 X bitsLt_bf16_f32) (extf .f32 W bitsLt_bf16_f32))
    (all (constant S_ .f32 0x00000000#32))
/-- The greatest of its magnitudes. -/
def T : FVec Ideal S_ .f32 := Host.reduce FloatOps.maximumf (Host.absf (Y X W)) (constant S_ .f32 0xFF800000#32) reducesTo_S4096x2048_S_d0_1 h_S_
/-- The step of the quantiser. -/
def SC : FVec Ideal S_ .f32 := Host.divf (T X W) (constant S_ .f32 0x42FE0000#32)
/-- The result. -/
def Z : FVec Ideal S4096x2048 .bf16 :=
  truncf .bf16 (mulf (minimumf (all (id (constant S_ .f32 0x42FE0000#32))) (maximumf (all (id (constant S_ .f32 0xC2FE0000#32)))
    (Host.roundeven (Host.divf (Y X W) (all (SC X W)))))) (all (SC X W))) bitsLt_bf16_f32

/-- The product at an element is a sum over the shared axis. -/
theorem Y_at (R : Fin 4096) (b : Fin 2048) : (Y X W (ix2 R b) : EReal) = relu X W R b := by
  have h := StackMember.dotGeneral_plain_apply (m := 4096) (n := 2048) (k := 4096) none (extf .f32 X bitsLt_bf16_f32) (extf .f32 W bitsLt_bf16_f32) R b
  have e : (Y X W (ix2 R b) : EReal)
      = max (Host.dotGeneral (F := Ideal) (DotDims.plain 4096 4096 2048) none (extf .f32 X bitsLt_bf16_f32) (extf .f32 W bitsLt_bf16_f32) (ix2 R b) : EReal)
        (Ideal.ofBits .f32 0x00000000#32) := rfl
  rw [e, Ideal.ofBits_zero_f32]
  exact congrArg (max · 0) h

theorem Y_nonneg (i : S4096x2048.Idx) : (0 : EReal) ≤ Y X W i := by
  obtain ⟨R, b, rfl⟩ : ∃ (R : Fin 4096) (b : Fin 2048), i = ix2 R b := ⟨i 0, i 1, eq_ix2 i⟩
  rw [Y_at]
  exact le_max_right _ _

/-- The one index of a shape with no axes. -/
abbrev pt : S_.Idx := fun a => a.elim0

/-- The greatest magnitude is the least bound of the product's elements. -/
theorem T_le (a : EReal) : (T X W pt : EReal) ≤ a ↔ ∀ i, (Y X W i : EReal) ≤ a := by
  unfold T
  rw [Host.reduce_eq_fold, Finset.filter_true_of_mem fun i _ => funext fun b => b.elim0]
  show (Finset.univ.fold max (Ideal.ofBits .f32 0xFF800000#32) (fun i => max (Y X W i : EReal) (-(Y X W i : EReal))) : EReal) ≤ a ↔ _
  rw [Finset.fold_max_le, word_bot]
  have e (i) : max (Y X W i : EReal) (-(Y X W i : EReal)) = Y X W i :=
    max_eq_left (((EReal.neg_le_neg_iff.mpr (Y_nonneg X W i)).trans_eq neg_zero).trans (Y_nonneg X W i))
  simp only [e, Finset.mem_univ, true_implies, bot_le, true_and]

theorem T_nonneg : (0 : EReal) ≤ T X W pt :=
  (Y_nonneg X W (ix2 (0 : Fin 4096) (0 : Fin 2048))).trans ((T_le X W _).mp le_rfl _)

/-- The result at an element. -/
theorem Z_at (i : S4096x2048.Idx) : (Z X W i : EReal)
    = min ((127 : ℝ) : EReal) (max ((-127 : ℝ) : EReal) (rnd (Ideal.div (Y X W i) (Ideal.div (T X W pt) ((127 : ℝ) : EReal)))))
      * Ideal.div (T X W pt) ((127 : ℝ) : EReal) := by
  have hp (v : FVec Ideal S_ .f32) : (all v i : EReal) = v pt := congrArg v (funext fun a => a.elim0)
  have hs : (SC X W pt : EReal) = Ideal.div (T X W pt) (Ideal.ofBits .f32 0x42FE0000#32) := rfl
  have e : (Z X W i : EReal) = min (all (constant S_ .f32 0x42FE0000#32) i : EReal) (max (all (constant S_ .f32 0xC2FE0000#32) i : EReal)
      (rnd (Ideal.div (Y X W i) (all (SC X W) i)))) * (all (SC X W) i : EReal) := rfl
  rw [e, hp, hp, hp, hs, word_127]
  show min (Ideal.ofBits .f32 0x42FE0000#32) (max (Ideal.ofBits .f32 0xC2FE0000#32) _) * _ = _
  rw [word_127, word_neg_127]

end Cert.Proof.Ref
-- ==== Proof.Value.lean ====
/-
Over the extended reals every device ends with the reference's result.
-/
module

public import proofs.«01_k».proof.Proof.Frames
public import proofs.«01_k».proof.Proof.Maxima
public import proofs.«01_k».proof.Proof.RefValue

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.SL.Sem

attribute [local instance] Cert.KernelIdeal.Gen.facts Cert.ReferenceIdeal.Gen.facts
set_option maxRecDepth 65536

section Values
variable (x : Dev nD → Vec Ideal S4096x256 .bf16) (w : Dev nD → Vec Ideal S256x2048 .bf16)
variable (X : FVec Ideal Cert.ReferenceIdeal.S4096x4096 .bf16) (W : FVec Ideal Cert.ReferenceIdeal.S4096x2048 .bf16)

/-- The quantiser and its inverse at an element. -/
theorem deq_elem (a : Ideal .f32) (f : FVec Ideal S256x2048 .f32) (j : S256x2048.Idx) :
    (deqV a (fptosi 8 (minimumf (broadcast S256x2048 (Scalar.ofBits .f32 0x42FE0000#32))
      (maximumf (broadcast S256x2048 (Scalar.ofBits .f32 0x00000000#32)) (roundeven (mulf f (broadcast S256x2048 (invV a))))))) j : EReal)
    = (((Ideal.fptosi 8 (min (Ideal.ofBits .f32 0x42FE0000#32) (max (Ideal.ofBits .f32 0x00000000#32)
        (rnd ((f j : EReal) * Ideal.div (Ideal.ofBits .f32 0x42FE0000#32) a))))).toInt : ℝ) : EReal)
      * Ideal.div a (Ideal.ofBits .f32 0x42FE0000#32) := rfl

/-- An element of the kernel's result. -/
theorem OUT_elem (i : S4096x2048.Idx) : (OUT x w i : EReal)
    = (((Ideal.fptosi 8 (min ((127 : ℝ) : EReal) (max 0 (rnd ((fin x w (inCh i) (inIx i) : EReal) * Ideal.div ((127 : ℝ) : EReal) (top x w)))))).toInt : ℝ) : EReal)
      * Ideal.div (top x w) ((127 : ℝ) : EReal) := by
  have h := deq_elem (top x w) (fin x w (inCh i)) (inIx i)
  rwa [word_127, Ideal.ofBits_zero_f32] at h

variable (hx : ∀ c, x c = Layout.block ⟨2, ![4096, 256]⟩ ⟨2, ![4096, 4096]⟩ 1 16 c X)
  (hw : ∀ c, w c = Layout.block ⟨2, ![256, 2048]⟩ ⟨2, ![4096, 2048]⟩ 0 16 c W)
include hx hw

/-- The finished chunks are the reference's product. -/
theorem fin_Y (i : S4096x2048.Idx) : (fin x w (inCh i) (inIx i) : EReal) = Ref.Y X W i := by
  obtain ⟨R, b, rfl⟩ : ∃ (R : Fin 4096) (b : Fin 2048), i = ix2 R b := ⟨i 0, i 1, eq_ix2 i⟩
  rw [Ref.Y_at]
  have h := fin_relu x w X W hx hw (inCh (ix2 (n0 := 4096) R b)) ⟨R.val % 256, Nat.mod_lt _ (by decide)⟩ b
  have e : (⟨256 * (inCh (ix2 (n0 := 4096) R b)).val + R.val % 256, by
      have : (inCh (ix2 (n0 := 4096) R b)).val < 16 := (inCh (ix2 (n0 := 4096) R b)).isLt
      omega⟩ : Fin 4096) = R := Fin.ext (Nat.div_add_mod R.val 256)
  exact h.trans (congrArg (fun r => relu X W r b) e)

/-- Both find the same greatest element. -/
theorem top_T : (top x w : EReal) = Ref.T X W Ref.pt := by
  refine eq_of_forall_ge_iff fun a => ?_
  rw [top_le, Ref.T_le]
  constructor
  · intro h i
    rw [← fin_Y x w X W hx hw]
    exact h _ _
  · intro h q j
    obtain ⟨r, b, rfl⟩ : ∃ (r : Fin 256) (b : Fin 2048), j = ix2 r b := ⟨j 0, j 1, eq_ix2 j⟩
    rw [fin_relu x w X W hx hw, ← Ref.Y_at]
    exact h _

/-- The results agree, element by element. -/
theorem OUT_Z (i : S4096x2048.Idx) : (OUT x w i : EReal) = Ref.Z X W i := by
  rw [OUT_elem, Ref.Z_at, fin_Y x w X W hx hw, top_T x w X W hx hw]
  exact quantise (Ref.Y_nonneg X W i) (Ref.T_nonneg X W)

end Values

theorem algebraic : Cert.algebraic_KernelIdeal_ReferenceIdeal := by
  intro m g m' g' _ hm
  refine ⟨Ref.Z (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨((h.1 c (2 : Fin 3)).trans (out_eq m g c)).trans (funext fun i => ?_),
      (h.1 c (0 : Fin 3)).trans (final_x m g c), (h.1 c (1 : Fin 3)).trans (final_w m g c)⟩) (run_main (F := Ideal) m g)
    exact OUT_Z (xs m g) (ws m g) _ _ (fun c => (xs_eq m g c).trans (hm c).1) (fun c => (ws_eq m g c).trans (hm c).2) i
  · exact (θ_run Cert.ReferenceIdeal.defs _ _).mono (fun _ h => h 0) (Cert.ReferenceIdeal.Value.run (F := Ideal) m' g')

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    frame_kernel, frame_ideal, frame_reference, trivial, algebraic⟩

end Cert.Proof

end
